-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x8192 : Shape := ⟨2, ![8192, 8192]⟩
abbrev S8192x128 : Shape := ⟨2, ![8192, 128]⟩
abbrev S8192x4096 : Shape := ⟨2, ![8192, 4096]⟩
abbrev S4096 : Shape := ⟨1, ![4096]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x8192 .bf16) (main_arg1 : FVec F S8192x128 .f32) (main_arg2 : FVec F S8192x4096 .bf16) (main_arg3 : FVec F S4096 .f32) : IVec S_ 1 :=
  let main_v0 : FVec F S8192x8192 .f32 := (extf .f32 · bitsLt_bf16_f32) main_arg0
  let main_v1 : FVec F S8192x8192 .f32 := Host.absf main_v0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_c : IVec S_ 1 := constantI S_ 1 1#1
  let main_v4 : IVec S_ 1 := (fun x v => Host.reduce IntOp.andi x v reducesTo_S8192x8192_S_d0_1 h_S_) main_v3 main_c
  let main_v5 : FVec F S8192x128 .f32 := Host.absf main_arg1
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_c_1 : IVec S_ 1 := constantI S_ 1 1#1
  let main_v8 : IVec S_ 1 := (fun x v => Host.reduce IntOp.andi x v reducesTo_S8192x128_S_d0_1 h_S_) main_v7 main_c_1
  let main_v9 : IVec S_ 1 := andi main_v4 main_v8
  main_v9
-- ==== Kernel.lean ====
abbrev S8192x8192 : Shape := ⟨2, ![8192, 8192]⟩
abbrev S8192x128 : Shape := ⟨2, ![8192, 128]⟩
abbrev S8192x4096 : Shape := ⟨2, ![8192, 4096]⟩
abbrev S4096 : Shape := ⟨1, ![4096]⟩
abbrev S8192x16 : Shape := ⟨2, ![8192, 16]⟩
abbrev S4x2048x16 : Shape := ⟨3, ![4, 2048, 16]⟩
abbrev S4x16x2048 : Shape := ⟨3, ![4, 16, 2048]⟩
abbrev S1x4096 : Shape := ⟨2, ![1, 4096]⟩
abbrev S256x2048 : Shape := ⟨2, ![256, 2048]⟩
abbrev S256x4096 : Shape := ⟨2, ![256, 4096]⟩
abbrev S1x16x256 : Shape := ⟨3, ![1, 16, 256]⟩
abbrev S8x256x512 : Shape := ⟨3, ![8, 256, 512]⟩
abbrev S8x1x256 : Shape := ⟨3, ![8, 1, 256]⟩
abbrev S8x1x128 : Shape := ⟨3, ![8, 1, 128]⟩
abbrev S256x256 : Shape := ⟨2, ![256, 256]⟩
abbrev S256x512 : Shape := ⟨2, ![256, 512]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x128 : Shape := ⟨3, ![1, 1, 128]⟩
abbrev S1x128 : Shape := ⟨2, ![1, 128]⟩
abbrev S1x256x512 : Shape := ⟨3, ![1, 256, 512]⟩
abbrev S1x512 : Shape := ⟨2, ![1, 512]⟩

abbrev nBuf : Space → Nat
  | .hbm => 9
  | .vmem => 16
  | .smem => 0
  | _ => 0

abbrev bufTy : (tb : Table) → Fin (tcTables nBuf tb) → BufTy
  | .hbm, ⟨0, _⟩ => ⟨S8192x8192, .bf16⟩
  | .hbm, ⟨1, _⟩ => ⟨S8192x128, .f32⟩
  | .hbm, ⟨2, _⟩ => ⟨S8192x4096, .bf16⟩
  | .hbm, ⟨3, _⟩ => ⟨S4096, .f32⟩
  | .hbm, ⟨4, _⟩ => ⟨S8192x16, .f32⟩
  | .hbm, ⟨5, _⟩ => ⟨S4x2048x16, .f32⟩
  | .hbm, ⟨6, _⟩ => ⟨S4x16x2048, .f32⟩
  | .hbm, ⟨7, _⟩ => ⟨S1x4096, .f32⟩
  | .hbm, ⟨8, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S1x16x256, .f32⟩
  | .local _ .vmem, ⟨7, _⟩ => ⟨S1x16x256, .f32⟩
  | .local _ .vmem, ⟨8, _⟩ => ⟨S256x4096, .bf16⟩
  | .local _ .vmem, ⟨9, _⟩ => ⟨S256x4096, .bf16⟩
  | .local _ .vmem, ⟨10, _⟩ => ⟨S1x4096, .f32⟩
  | .local _ .vmem, ⟨11, _⟩ => ⟨S256x4096, .bf16⟩
  | .local _ .vmem, ⟨12, _⟩ => ⟨S256x4096, .bf16⟩
  | .local _ .vmem, ⟨13, _⟩ => ⟨S8x256x512, .f32⟩
  | .local _ .vmem, ⟨14, _⟩ => ⟨S8x1x256, .f32⟩
  | .local _ .vmem, ⟨15, _⟩ => ⟨S8x1x128, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32_1 : BitVec 32) : Fin 3 → Nat :=
  let c0_7 : Index := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v8 : Index := Scalar.indexCast v4
  let c0_8 : Index := 0#32
  ![0, v8.toNat, 0]
def k0_off2 (i : grid0.Coords) (c0_i32_1 : BitVec 32) : Fin 3 → Nat :=
  let c0_10 : Index := 0#32
  let c8_i32_9 : BitVec 32 := 8#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v11 : BitVec 32 := Scalar.addi c8_i32_9 v4
  let v12 : Index := Scalar.indexCast v11
  let c0_11 : Index := 0#32
  ![0, v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x8192 : Shape := ⟨2, ![8192, 8192]⟩
abbrev S8192x128 : Shape := ⟨2, ![8192, 128]⟩
abbrev S8192x4096 : Shape := ⟨2, ![8192, 4096]⟩
abbrev S4096 : Shape := ⟨1, ![4096]⟩
abbrev S4x2048x8192 : Shape := ⟨3, ![4, 2048, 8192]⟩
abbrev S4x2048x2048 : Shape := ⟨3, ![4, 2048, 2048]⟩
abbrev S4x2048x4096 : Shape := ⟨3, ![4, 2048, 4096]⟩
abbrev S4x2048x128 : Shape := ⟨3, ![4, 2048, 128]⟩
abbrev S4x2048x8 : Shape := ⟨3, ![4, 2048, 8]⟩
abbrev S4x2048x8x256 : Shape := ⟨4, ![4, 2048, 8, 256]⟩
abbrev S4x2048x8x512 : Shape := ⟨4, ![4, 2048, 8, 512]⟩
abbrev S4x32x64x8x256 : Shape := ⟨5, ![4, 32, 64, 8, 256]⟩
abbrev S32x4x64x8x256 : Shape := ⟨5, ![32, 4, 64, 8, 256]⟩
abbrev S32x4x8x64x256 : Shape := ⟨5, ![32, 4, 8, 64, 256]⟩
abbrev S_ : Shape := ⟨0, ![]⟩
abbrev S4x32x64x8x512 : Shape := ⟨5, ![4, 32, 64, 8, 512]⟩
abbrev S32x4x64x8x512 : Shape := ⟨5, ![32, 4, 64, 8, 512]⟩
abbrev S32x4x8x64x512 : Shape := ⟨5, ![32, 4, 8, 64, 512]⟩
abbrev S4x32x64x8 : Shape := ⟨4, ![4, 32, 64, 8]⟩
abbrev S32x4x64x8 : Shape := ⟨4, ![32, 4, 64, 8]⟩
abbrev S32x4x8x64 : Shape := ⟨4, ![32, 4, 8, 64]⟩
abbrev S4x8x256x512 : Shape := ⟨4, ![4, 8, 256, 512]⟩
abbrev S4x8x256 : Shape := ⟨3, ![4, 8, 256]⟩
abbrev S4x8 : Shape := ⟨2, ![4, 8]⟩
abbrev S1x4x8x64x256 : Shape := ⟨5, ![1, 4, 8, 64, 256]⟩
abbrev S4x8x64x256 : Shape := ⟨4, ![4, 8, 64, 256]⟩
abbrev S1x4x8x64x512 : Shape := ⟨5, ![1, 4, 8, 64, 512]⟩
abbrev S4x8x64x512 : Shape := ⟨4, ![4, 8, 64, 512]⟩
abbrev S1x4x8x64 : Shape := ⟨4, ![1, 4, 8, 64]⟩
abbrev S4x8x64 : Shape := ⟨3, ![4, 8, 64]⟩
abbrev S4x8x1 : Shape := ⟨3, ![4, 8, 1]⟩
abbrev S64x64 : Shape := ⟨2, ![64, 64]⟩
abbrev S4x8x64x1 : Shape := ⟨4, ![4, 8, 64, 1]⟩
abbrev S4x8x1x64 : Shape := ⟨4, ![4, 8, 1, 64]⟩
abbrev S4x8x64x64 : Shape := ⟨4, ![4, 8, 64, 64]⟩
abbrev S4x8x1x1 : Shape := ⟨4, ![4, 8, 1, 1]⟩
abbrev S4x32x8x64x512 : Shape := ⟨5, ![4, 32, 8, 64, 512]⟩
abbrev S4x2048x8x1 : Shape := ⟨4, ![4, 2048, 8, 1]⟩
abbrev S1x4096 : Shape := ⟨2, ![1, 4096]⟩

abbrev nBuf : Space → Nat
  | .hbm => 229
  | .vmem => 0
  | .smem => 0
  | _ => 0

abbrev hbmTy0_0 (i : Nat) : BufTy := match i % 128 with
  | 0 => ⟨S8192x8192, .bf16⟩
  | 1 => ⟨S8192x128, .f32⟩
  | 2 => ⟨S8192x4096, .bf16⟩
  | 3 => ⟨S4096, .f32⟩
  | 4 => ⟨S8192x8192, .f32⟩
  | 5 => ⟨S4x2048x8192, .f32⟩
  | 6 => ⟨S4x2048x2048, .f32⟩
  | 7 => ⟨S4x2048x2048, .f32⟩
  | 8 => ⟨S4x2048x4096, .f32⟩
  | 9 => ⟨S4x2048x128, .f32⟩
  | 10 => ⟨S4x2048x8, .f32⟩
  | 11 => ⟨S4x2048x8, .f32⟩
  | 12 => ⟨S4x2048x8x256, .f32⟩
  | 13 => ⟨S4x2048x8x256, .f32⟩
  | 14 => ⟨S4x2048x8x512, .f32⟩
  | 15 => ⟨S4x32x64x8x256, .f32⟩
  | 16 => ⟨S32x4x64x8x256, .f32⟩
  | 17 => ⟨S32x4x8x64x256, .f32⟩
  | 18 => ⟨S_, .f32⟩
  | 19 => ⟨S32x4x8x64x256, .f32⟩
  | 20 => ⟨S32x4x8x64x256, .f32⟩
  | 21 => ⟨S4x32x64x8x256, .f32⟩
  | 22 => ⟨S32x4x64x8x256, .f32⟩
  | 23 => ⟨S32x4x8x64x256, .f32⟩
  | 24 => ⟨S4x32x64x8x512, .f32⟩
  | 25 => ⟨S32x4x64x8x512, .f32⟩
  | 26 => ⟨S32x4x8x64x512, .f32⟩
  | 27 => ⟨S4x32x64x8, .f32⟩
  | 28 => ⟨S32x4x64x8, .f32⟩
  | 29 => ⟨S32x4x8x64, .f32⟩
  | 30 => ⟨S4x32x64x8, .f32⟩
  | 31 => ⟨S32x4x64x8, .f32⟩
  | 32 => ⟨S32x4x8x64, .f32⟩
  | 33 => ⟨S32x4x8x64, .f32⟩
  | 34 => ⟨S_, .f32⟩
  | 35 => ⟨S32x4x8x64, .f32⟩
  | 36 => ⟨S32x4x8x64, .f32⟩
  | 37 => ⟨S32x4x8x64, .f32⟩
  | 38 => ⟨S32x4x8x64, .f32⟩
  | 39 => ⟨S32x4x8x64, .i1⟩
  | 40 => ⟨S32x4x8x64, .f32⟩
  | 41 => ⟨S32x4x8x64, .f32⟩
  | 42 => ⟨S32x4x8x64, .f32⟩
  | 43 => ⟨S32x4x8x64, .f32⟩
  | 44 => ⟨S32x4x8x64, .f32⟩
  | 45 => ⟨S32x4x8x64, .f32⟩
  | 46 => ⟨S32x4x8x64, .f32⟩
  | 47 => ⟨S32x4x8x64, .f32⟩
  | 48 => ⟨S32x4x8x64, .f32⟩
  | 49 => ⟨S_, .f32⟩
  | 50 => ⟨S4x8x256x512, .f32⟩
  | 51 => ⟨S_, .f32⟩
  | 52 => ⟨S4x8x256, .f32⟩
  | 53 => ⟨S_, .f32⟩
  | 54 => ⟨S4x8, .f32⟩
  | 55 => ⟨S_, .f32⟩
  | 56 => ⟨S32x4x8x64x512, .f32⟩
  | 57 => ⟨S_, .i32⟩
  | 58 => ⟨S32x4x8x64x256, .f32⟩
  | 59 => ⟨S32x4x8x64x256, .f32⟩
  | 60 => ⟨S32x4x8x64x512, .f32⟩
  | 61 => ⟨S32x4x8x64, .f32⟩
  | 62 => ⟨S32x4x8x64, .f32⟩
  | 63 => ⟨S_, .i32⟩
  | 64 => ⟨S4x8x256x512, .f32⟩
  | 65 => ⟨S4x8x256, .f32⟩
  | 66 => ⟨S4x8, .f32⟩
  | 67 => ⟨S32x4x8x64x512, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x4x8x64x256, .f32⟩
  | 75 => ⟨S4x8x64x256, .f32⟩
  | 76 => ⟨S_, .i32⟩
  | 77 => ⟨S_, .i32⟩
  | 78 => ⟨S_, .i32⟩
  | 79 => ⟨S_, .i32⟩
  | 80 => ⟨S1x4x8x64x256, .f32⟩
  | 81 => ⟨S4x8x64x256, .f32⟩
  | 82 => ⟨S_, .i32⟩
  | 83 => ⟨S_, .i32⟩
  | 84 => ⟨S_, .i32⟩
  | 85 => ⟨S_, .i32⟩
  | 86 => ⟨S1x4x8x64x512, .f32⟩
  | 87 => ⟨S4x8x64x512, .f32⟩
  | 88 => ⟨S_, .i32⟩
  | 89 => ⟨S_, .i32⟩
  | 90 => ⟨S_, .i32⟩
  | 91 => ⟨S1x4x8x64, .f32⟩
  | 92 => ⟨S4x8x64, .f32⟩
  | 93 => ⟨S_, .i32⟩
  | 94 => ⟨S_, .i32⟩
  | 95 => ⟨S_, .i32⟩
  | 96 => ⟨S1x4x8x64, .f32⟩
  | 97 => ⟨S4x8x64, .f32⟩
  | 98 => ⟨S_, .f32⟩
  | 99 => ⟨S_, .f32⟩
  | 100 => ⟨S4x8x64, .f32⟩
  | 101 => ⟨S4x8x1, .f32⟩
  | 102 => ⟨S4x8, .f32⟩
  | 103 => ⟨S_, .i1⟩
  | 104 => ⟨S64x64, .i1⟩
  | 105 => ⟨S64x64, .i32⟩
  | 106 => ⟨S_, .i32⟩
  | 107 => ⟨S64x64, .i32⟩
  | 108 => ⟨S64x64, .i32⟩
  | 109 => ⟨S64x64, .i32⟩
  | 110 => ⟨S64x64, .i1⟩
  | 111 => ⟨S_, .i1⟩
  | 112 => ⟨S64x64, .i1⟩
  | 113 => ⟨S64x64, .i1⟩
  | 114 => ⟨S4x8x64x1, .f32⟩
  | 115 => ⟨S4x8x1x64, .f32⟩
  | 116 => ⟨S4x8x64x64, .f32⟩
  | 117 => ⟨S4x8x64x64, .f32⟩
  | 118 => ⟨S4x8x64x64, .f32⟩
  | 119 => ⟨S4x8x1x64, .f32⟩
  | 120 => ⟨S4x8x64x64, .f32⟩
  | 121 => ⟨S4x8x64x64, .f32⟩
  | 122 => ⟨S_, .f32⟩
  | 123 => ⟨S_, .f32⟩
  | 124 => ⟨S4x8x64x64, .i1⟩
  | 125 => ⟨S4x8x64x64, .f32⟩
  | 126 => ⟨S4x8x64x64, .f32⟩
  | 127 => ⟨S4x8x1, .f32⟩
  | _ => ⟨S8192x8192, .bf16⟩

abbrev hbmTy0_1 (i : Nat) : BufTy := match i % 128 with
  | 0 => ⟨S4x8x64, .f32⟩
  | 1 => ⟨S4x8x64, .f32⟩
  | 2 => ⟨S_, .f32⟩
  | 3 => ⟨S4x8x64, .f32⟩
  | 4 => ⟨S4x8x64, .f32⟩
  | 5 => ⟨S4x8x64x64, .f32⟩
  | 6 => ⟨S4x8x64x1, .f32⟩
  | 7 => ⟨S4x8x64x64, .f32⟩
  | 8 => ⟨S4x8x64x64, .f32⟩
  | 9 => ⟨S4x8x64x64, .f32⟩
  | 10 => ⟨S4x8x64x64, .f32⟩
  | 11 => ⟨S4x8x64, .f32⟩
  | 12 => ⟨S4x8x64, .f32⟩
  | 13 => ⟨S4x8x64x512, .f32⟩
  | 14 => ⟨S4x8x64x1, .f32⟩
  | 15 => ⟨S4x8x64x512, .f32⟩
  | 16 => ⟨S4x8x64x512, .f32⟩
  | 17 => ⟨S4x8x64x512, .f32⟩
  | 18 => ⟨S4x8x64x512, .f32⟩
  | 19 => ⟨S_, .f32⟩
  | 20 => ⟨S4x8x64, .f32⟩
  | 21 => ⟨S4x8x64, .f32⟩
  | 22 => ⟨S4x8x64, .f32⟩
  | 23 => ⟨S4x8x64, .f32⟩
  | 24 => ⟨S4x8x64, .f32⟩
  | 25 => ⟨S4x8x64, .f32⟩
  | 26 => ⟨S4x8x64, .f32⟩
  | 27 => ⟨S4x8x64, .f32⟩
  | 28 => ⟨S4x8x64x1, .f32⟩
  | 29 => ⟨S4x8x64x512, .f32⟩
  | 30 => ⟨S4x8x64x512, .f32⟩
  | 31 => ⟨S4x8x1, .f32⟩
  | 32 => ⟨S4x8x64, .f32⟩
  | 33 => ⟨S4x8x64, .f32⟩
  | 34 => ⟨S4x8x64, .f32⟩
  | 35 => ⟨S4x8, .f32⟩
  | 36 => ⟨S_, .f32⟩
  | 37 => ⟨S4x8, .f32⟩
  | 38 => ⟨S4x8, .f32⟩
  | 39 => ⟨S4x8, .f32⟩
  | 40 => ⟨S4x8, .f32⟩
  | 41 => ⟨S4x8, .f32⟩
  | 42 => ⟨S4x8x1, .f32⟩
  | 43 => ⟨S4x8x64, .f32⟩
  | 44 => ⟨S4x8x64, .f32⟩
  | 45 => ⟨S4x8x64, .f32⟩
  | 46 => ⟨S4x8x64x1, .f32⟩
  | 47 => ⟨S4x8x64x256, .f32⟩
  | 48 => ⟨S4x8x64x256, .f32⟩
  | 49 => ⟨S4x8x1x1, .f32⟩
  | 50 => ⟨S4x8x256x512, .f32⟩
  | 51 => ⟨S4x8x256x512, .f32⟩
  | 52 => ⟨S4x8x256x512, .f32⟩
  | 53 => ⟨S4x8x256x512, .f32⟩
  | 54 => ⟨S4x8x1, .f32⟩
  | 55 => ⟨S4x8x256, .f32⟩
  | 56 => ⟨S4x8x256, .f32⟩
  | 57 => ⟨S_, .f32⟩
  | 58 => ⟨S4x8x256, .f32⟩
  | 59 => ⟨S4x8x256, .f32⟩
  | 60 => ⟨S1x4x8x64x512, .f32⟩
  | 61 => ⟨S_, .i32⟩
  | 62 => ⟨S_, .i32⟩
  | 63 => ⟨S_, .i32⟩
  | 64 => ⟨S_, .i32⟩
  | 65 => ⟨S32x4x8x64x512, .f32⟩
  | 66 => ⟨S_, .i32⟩
  | 67 => ⟨S_, .i32⟩
  | 68 => ⟨S4x32x8x64x512, .f32⟩
  | 69 => ⟨S4x32x64x8x512, .f32⟩
  | 70 => ⟨S4x2048x8x512, .f32⟩
  | 71 => ⟨S_, .f32⟩
  | 72 => ⟨S4x2048x8, .f32⟩
  | 73 => ⟨S4x2048x8x1, .f32⟩
  | 74 => ⟨S_, .f32⟩
  | 75 => ⟨S4x2048x8x1, .f32⟩
  | 76 => ⟨S4x2048x8x1, .f32⟩
  | 77 => ⟨S4x2048x8x512, .f32⟩
  | 78 => ⟨S4x2048x8x512, .f32⟩
  | 79 => ⟨S4x2048x8x512, .f32⟩
  | 80 => ⟨S_, .f32⟩
  | 81 => ⟨S4x2048x8, .f32⟩
  | 82 => ⟨S4x2048x8x1, .f32⟩
  | 83 => ⟨S_, .f32⟩
  | 84 => ⟨S4x2048x8x1, .f32⟩
  | 85 => ⟨S4x2048x8x1, .f32⟩
  | 86 => ⟨S4x2048x8x512, .f32⟩
  | 87 => ⟨S4x2048x8x512, .f32⟩
  | 88 => ⟨S_, .f32⟩
  | 89 => ⟨S4x2048x8x1, .f32⟩
  | 90 => ⟨S4x2048x8x1, .f32⟩
  | 91 => ⟨S4x2048x8x1, .f32⟩
  | 92 => ⟨S4x2048x8x512, .f32⟩
  | 93 => ⟨S4x2048x8x512, .f32⟩
  | 94 => ⟨S8192x4096, .f32⟩
  | 95 => ⟨S1x4096, .f32⟩
  | 96 => ⟨S8192x4096, .f32⟩
  | 97 => ⟨S8192x4096, .f32⟩
  | 98 => ⟨S8192x4096, .f32⟩
  | 99 => ⟨S8192x4096, .f32⟩
  | 100 => ⟨S8192x4096, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_c : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev main_v33_3 : Ref sig .tc := ⟨.hbm, 61, rfl⟩
abbrev main_v33_4 : Ref sig .tc := ⟨.hbm, 62, rfl⟩
abbrev main_v33_5 : Ref sig .tc := ⟨.hbm, 63, rfl⟩
abbrev main_v33_6 : Ref sig .tc := ⟨.hbm, 64, rfl⟩
abbrev main_v33_7 : Ref sig .tc := ⟨.hbm, 65, rfl⟩
abbrev main_v33_8 : Ref sig .tc := ⟨.hbm, 66, rfl⟩
abbrev main_v33_9 : Ref sig .tc := ⟨.hbm, 67, rfl⟩
abbrev main_while0c_c_18 : Ref sig .tc := ⟨.hbm, 68, rfl⟩
abbrev main_while0c_v62 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_call1_v0 : Ref sig .tc := ⟨.hbm, 74, rfl⟩
abbrev main_while0b_v62 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v63 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v64 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_v0 : Ref sig .tc := ⟨.hbm, 91, rfl⟩
abbrev main_while0b_v65 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_v0 : Ref sig .tc := ⟨.hbm, 96, rfl⟩
abbrev main_while0b_v66 : Ref sig .tc := ⟨.hbm, 97, rfl⟩
abbrev main_while0b_call6_call0_cst : Ref sig .tc := ⟨.hbm, 98, rfl⟩
abbrev main_while0b_call6_call0_v0 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_c_18 : Ref sig .tc := ⟨.hbm, 103, rfl⟩
abbrev main_while0b_v70 : Ref sig .tc := ⟨.hbm, 104, rfl⟩
abbrev main_while0b_call7_v0 : Ref sig .tc := ⟨.hbm, 105, rfl⟩
abbrev main_while0b_call7_c : Ref sig .tc := ⟨.hbm, 106, rfl⟩
abbrev main_while0b_call7_v1 : Ref sig .tc := ⟨.hbm, 107, rfl⟩
abbrev main_while0b_call7_v2 : Ref sig .tc := ⟨.hbm, 108, rfl⟩
abbrev main_while0b_call7_v3 : Ref sig .tc := ⟨.hbm, 109, rfl⟩
abbrev main_while0b_call7_v4 : Ref sig .tc := ⟨.hbm, 110, rfl⟩
abbrev main_while0b_call7_c_0 : Ref sig .tc := ⟨.hbm, 111, rfl⟩
abbrev main_while0b_call7_v5 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_cst_19 : Ref sig .tc := ⟨.hbm, 122, rfl⟩
abbrev main_while0b_call8_v0 : Ref sig .tc := ⟨.hbm, 123, rfl⟩
abbrev main_while0b_call8_v1 : Ref sig .tc := ⟨.hbm, 124, rfl⟩
abbrev main_while0b_call8_v2 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_cst_20 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_v92 : Ref sig .tc := ⟨.hbm, 139, rfl⟩
abbrev main_while0b_v93 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_cst_21 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_cst_22 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_v119 : Ref sig .tc := ⟨.hbm, 168, rfl⟩
abbrev main_while0b_v120 : Ref sig .tc := ⟨.hbm, 169, rfl⟩
abbrev main_while0b_v121 : Ref sig .tc := ⟨.hbm, 170, rfl⟩
abbrev main_while0b_v122 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_v126 : Ref sig .tc := ⟨.hbm, 175, rfl⟩
abbrev main_while0b_v127 : Ref sig .tc := ⟨.hbm, 176, rfl⟩
abbrev main_while0b_v128 : Ref sig .tc := ⟨.hbm, 177, rfl⟩
abbrev main_while0b_v129 : Ref sig .tc := ⟨.hbm, 178, rfl⟩
abbrev main_while0b_v130 : Ref sig .tc := ⟨.hbm, 179, rfl⟩
abbrev main_while0b_v131 : Ref sig .tc := ⟨.hbm, 180, rfl⟩
abbrev main_while0b_v132 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_cst_23 : Ref sig .tc := ⟨.hbm, 185, rfl⟩
abbrev main_while0b_v136 : Ref sig .tc := ⟨.hbm, 186, rfl⟩
abbrev main_while0b_v137 : Ref sig .tc := ⟨.hbm, 187, rfl⟩
abbrev main_while0b_call9_v0 : Ref sig .tc := ⟨.hbm, 188, rfl⟩
abbrev main_while0b_call9_c : Ref sig .tc := ⟨.hbm, 189, rfl⟩
abbrev main_while0b_call9_c_0 : Ref sig .tc := ⟨.hbm, 190, rfl⟩
abbrev main_while0b_call9_c_1 : Ref sig .tc := ⟨.hbm, 191, rfl⟩
abbrev main_while0b_call9_c_2 : Ref sig .tc := ⟨.hbm, 192, rfl⟩
abbrev main_while0b_v138 : Ref sig .tc := ⟨.hbm, 193, rfl⟩
abbrev main_while0b_c_24 : Ref sig .tc := ⟨.hbm, 194, rfl⟩
abbrev main_while0b_v139 : Ref sig .tc := ⟨.hbm, 195, rfl⟩
abbrev main_v34 : Ref sig .tc := ⟨.hbm, 196, rfl⟩
abbrev main_v35 : Ref sig .tc := ⟨.hbm, 197, rfl⟩
abbrev main_v36 : Ref sig .tc := ⟨.hbm, 198, rfl⟩
abbrev main_cst_4 : Ref sig .tc := ⟨.hbm, 199, rfl⟩
abbrev main_v37 : Ref sig .tc := ⟨.hbm, 200, rfl⟩
abbrev main_v38 : Ref sig .tc := ⟨.hbm, 201, rfl⟩
abbrev main_cst_5 : Ref sig .tc := ⟨.hbm, 202, rfl⟩
abbrev main_v39 : Ref sig .tc := ⟨.hbm, 203, rfl⟩
abbrev main_v40 : Ref sig .tc := ⟨.hbm, 204, rfl⟩
abbrev main_v41 : Ref sig .tc := ⟨.hbm, 205, rfl⟩
abbrev main_v42 : Ref sig .tc := ⟨.hbm, 206, rfl⟩
abbrev main_v43 : Ref sig .tc := ⟨.hbm, 207, rfl⟩
abbrev main_cst_6 : Ref sig .tc := ⟨.hbm, 208, rfl⟩
abbrev main_v44 : Ref sig .tc := ⟨.hbm, 209, rfl⟩
abbrev main_v45 : Ref sig .tc := ⟨.hbm, 210, rfl⟩
abbrev main_cst_7 : Ref sig .tc := ⟨.hbm, 211, rfl⟩
abbrev main_v46 : Ref sig .tc := ⟨.hbm, 212, rfl⟩
abbrev main_v47 : Ref sig .tc := ⟨.hbm, 213, rfl⟩
abbrev main_v48 : Ref sig .tc := ⟨.hbm, 214, rfl⟩
abbrev main_v49 : Ref sig .tc := ⟨.hbm, 215, rfl⟩
abbrev main_cst_8 : Ref sig .tc := ⟨.hbm, 216, rfl⟩
abbrev main_v50 : Ref sig .tc := ⟨.hbm, 217, rfl⟩
abbrev main_v51 : Ref sig .tc := ⟨.hbm, 218, rfl⟩
abbrev main_v52 : Ref sig .tc := ⟨.hbm, 219, rfl⟩
abbrev main_v53 : Ref sig .tc := ⟨.hbm, 220, rfl⟩
abbrev main_v54 : Ref sig .tc := ⟨.hbm, 221, rfl⟩
abbrev main_v55 : Ref sig .tc := ⟨.hbm, 222, rfl⟩
abbrev main_v56 : Ref sig .tc := ⟨.hbm, 223, rfl⟩
abbrev main_v57 : Ref sig .tc := ⟨.hbm, 224, rfl⟩
abbrev main_v58 : Ref sig .tc := ⟨.hbm, 225, rfl⟩
abbrev main_v59 : Ref sig .tc := ⟨.hbm, 226, rfl⟩
abbrev main_v60 : Ref sig .tc := ⟨.hbm, 227, rfl⟩
abbrev main_v61 : Ref sig .tc := ⟨.hbm, 228, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S4096x4096 : Shape := ⟨2, ![4096, 4096]⟩
abbrev S4x2048x4096 : Shape := ⟨3, ![4, 2048, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 2 → Nat :=
  let c0_6 : Index := 0#32
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x4096 : Shape := ⟨2, ![8192, 4096]⟩
abbrev S4096x4096 : Shape := ⟨2, ![4096, 4096]⟩
abbrev S4x2048x4096 : Shape := ⟨3, ![4, 2048, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel3.lean ====
abbrev S8192x4096 : Shape := ⟨2, ![8192, 4096]⟩
abbrev S8192x2048 : Shape := ⟨2, ![8192, 2048]⟩
abbrev S4096x4096 : Shape := ⟨2, ![4096, 4096]⟩
abbrev S2048x4096 : Shape := ⟨2, ![2048, 4096]⟩
abbrev S8192x12288 : Shape := ⟨2, ![8192, 12288]⟩
abbrev S1024x4096 : Shape := ⟨2, ![1024, 4096]⟩
abbrev S1024x2048 : Shape := ⟨2, ![1024, 2048]⟩
abbrev S4096x256 : Shape := ⟨2, ![4096, 256]⟩
abbrev S2048x256 : Shape := ⟨2, ![2048, 256]⟩
abbrev S1024x256 : Shape := ⟨2, ![1024, 256]⟩

abbrev nBuf : Space → Nat
  | .hbm => 8
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x4096, .bf16⟩
  | .hbm, ⟨4, _⟩ => ⟨S2048x4096, .bf16⟩
  | .hbm, ⟨5, _⟩ => ⟨S2048x4096, .bf16⟩
  | .hbm, ⟨6, _⟩ => ⟨S8192x12288, .bf16⟩
  | .hbm, ⟨7, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S4096x256, .bf16⟩
  | .local _ .vmem, ⟨7, _⟩ => ⟨S4096x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8192x4096 : Shape := ⟨2, ![8192, 4096]⟩
abbrev S8192x2048 : Shape := ⟨2, ![8192, 2048]⟩
abbrev S4096x4096 : Shape := ⟨2, ![4096, 4096]⟩
abbrev S2048x4096 : Shape := ⟨2, ![2048, 4096]⟩
abbrev S8192x12288 : Shape := ⟨2, ![8192, 12288]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .bf16⟩
  | .hbm, ⟨3, _⟩ => ⟨S4096x4096, .bf16⟩
  | .hbm, ⟨4, _⟩ => ⟨S2048x4096, .bf16⟩
  | .hbm, ⟨5, _⟩ => ⟨S2048x4096, .bf16⟩
  | .hbm, ⟨6, _⟩ => ⟨S8192x12288, .bf16⟩
  | .hbm, ⟨7, _⟩ => ⟨S8192x12288, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S8192x4096, .f32⟩
  | .hbm, ⟨15, _⟩ => ⟨S8192x2048, .f32⟩
  | .hbm, ⟨16, _⟩ => ⟨S2048x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x2048, .f32⟩
  | .hbm, ⟨21, _⟩ => ⟨S2048x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x4096 : Shape := ⟨2, ![8192, 4096]⟩
abbrev S1x4096x40976 : Shape := ⟨3, ![1, 4096, 40976]⟩
abbrev S1x40976 : Shape := ⟨2, ![1, 40976]⟩
abbrev S1x4096x4096 : Shape := ⟨3, ![1, 4096, 4096]⟩
abbrev S1x2048x4096 : Shape := ⟨3, ![1, 2048, 4096]⟩
abbrev S1x40976x4096 : Shape := ⟨3, ![1, 40976, 4096]⟩
abbrev S1x12288 : Shape := ⟨2, ![1, 12288]⟩
abbrev S12288 : Shape := ⟨1, ![12288]⟩
abbrev S40976x4096 : Shape := ⟨2, ![40976, 4096]⟩
abbrev S8192x12288 : Shape := ⟨2, ![8192, 12288]⟩
abbrev S4096x4096 : Shape := ⟨2, ![4096, 4096]⟩
abbrev S2048x4096 : Shape := ⟨2, ![2048, 4096]⟩
abbrev S1024x4096 : Shape := ⟨2, ![1024, 4096]⟩
abbrev S512x4096 : Shape := ⟨2, ![512, 4096]⟩
abbrev S1x64x4096 : Shape := ⟨3, ![1, 64, 4096]⟩
abbrev S1024x512 : Shape := ⟨2, ![1024, 512]⟩
abbrev S64x4096 : Shape := ⟨2, ![64, 4096]⟩
abbrev S1x512 : Shape := ⟨2, ![1, 512]⟩

abbrev nBuf : Space → Nat
  | .hbm => 17
  | .vmem => 23
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x4096x4096, .f32⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S1x40976x4096, .f32⟩
  | .hbm, ⟨8, _⟩ => ⟨S1x12288, .f32⟩
  | .hbm, ⟨9, _⟩ => ⟨S12288, .f32⟩
  | .hbm, ⟨10, _⟩ => ⟨S1x12288, .f32⟩
  | .hbm, ⟨11, _⟩ => ⟨S40976x4096, .f32⟩
  | .hbm, ⟨12, _⟩ => ⟨S8192x12288, .bf16⟩
  | .hbm, ⟨13, _⟩ => ⟨S4096x4096, .bf16⟩
  | .hbm, ⟨14, _⟩ => ⟨S2048x4096, .bf16⟩
  | .hbm, ⟨15, _⟩ => ⟨S2048x4096, .bf16⟩
  | .hbm, ⟨16, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1x12288, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1024x512, .bf16⟩
  | .local _ .vmem, ⟨14, _⟩ => ⟨S1024x512, .bf16⟩
  | .local _ .vmem, ⟨15, _⟩ => ⟨S64x4096, .bf16⟩
  | .local _ .vmem, ⟨16, _⟩ => ⟨S64x4096, .bf16⟩
  | .local _ .vmem, ⟨17, _⟩ => ⟨S64x4096, .bf16⟩
  | .local _ .vmem, ⟨18, _⟩ => ⟨S64x4096, .bf16⟩
  | .local _ .vmem, ⟨19, _⟩ => ⟨S64x4096, .bf16⟩
  | .local _ .vmem, ⟨20, _⟩ => ⟨S64x4096, .bf16⟩
  | .local _ .vmem, ⟨21, _⟩ => ⟨S64x4096, .bf16⟩
  | .local _ .vmem, ⟨22, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 24], ![false, false]⟩

def k0_mult1 (i : grid0.Coords) : BitVec 32 :=
  let c28688_i32 : BitVec 32 := 28688#32
  let arg1 : BitVec 32 := BitVec.ofNat 32 (i 1).val
  let c512_i32 : BitVec 32 := 512#32
  let v0 : BitVec 32 := Scalar.muli arg1 c512_i32
  let v1 : BitVec 32 := Scalar.addi c28688_i32 v0
  v1
def k0_mult2 (i : grid0.Coords) : BitVec 32 :=
  let arg1 : BitVec 32 := BitVec.ofNat 32 (i 1).val
  let c512_i32 : BitVec 32 := 512#32
  let v27 : BitVec 32 := Scalar.muli arg1 c512_i32
  v27
def k0_off1 (i : grid0.Coords) : Fin 2 → Nat :=
  let c0_10 : Index := 0#32
  let arg1 : BitVec 32 := BitVec.ofNat 32 (i 1).val
  let c512_i32 : BitVec 32 := 512#32
  let v27 : BitVec 32 := Scalar.muli arg1 c512_i32
  let v28 : BitVec 32 := v27
  let v29 : Index := Scalar.indexCast v28
  ![0, v29.toNat]
def k0_cond1 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c64_i32 : BitVec 32 := 64#32
  let v3 : BitVec 1 := Scalar.cmpi .slt v1 c64_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c64_i32_1 : BitVec 32 := 64#32
  let v7 : BitVec 1 := Scalar.cmpi .sge v1 c64_i32_1
  let c96_i32 : BitVec 32 := 96#32
  let v8 : BitVec 1 := Scalar.cmpi .slt v1 c96_i32
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c96_i32_3 : BitVec 32 := 96#32
  let v12 : BitVec 1 := Scalar.cmpi .sge v1 c96_i32_3
  let c128_i32 : BitVec 32 := 128#32
  let v13 : BitVec 1 := Scalar.cmpi .slt v1 c128_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond4 (i : grid0.Coords) : BitVec 1 :=
  let arg0 : BitVec 32 := BitVec.ofNat 32 (i 0).val
  let c24_i32 : BitVec 32 := 24#32
  let v0 : BitVec 32 := Scalar.muli arg0 c24_i32
  let arg1 : BitVec 32 := BitVec.ofNat 32 (i 1).val
  let v1 : BitVec 32 := Scalar.addi v0 arg1
  let c128_i32_5 : BitVec 32 := 128#32
  let v17 : BitVec 1 := Scalar.cmpi .sge v1 c128_i32_5
  let c192_i32 : BitVec 32 := 192#32
  let v18 : BitVec 1 := Scalar.cmpi .slt v1 c192_i32
  let v19 : BitVec 1 := Scalar.andi v17 v18
  let v20 : BitVec 32 := Scalar.extui v19
  let c0_i32_6 : BitVec 32 := 0#32
  let v21 : BitVec 1 := Scalar.cmpi .ne v20 c0_i32_6
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c28688_i32 : BitVec 32 := 28688#32
  let v1 : BitVec 32 := Scalar.addi c28688_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let v2 : BitVec 32 := Scalar.subi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  let c0_i32_3 : BitVec 32 := 0#32
  ![c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c64_i32 : BitVec 32 := 64#32
  let v2 : BitVec 32 := Scalar.subi v1 c64_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c96_i32 : BitVec 32 := 96#32
  let v2 : BitVec 32 := Scalar.subi v1 c96_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  ![c0_i32_0.toNat, v4.toNat, c0_i32_1.toNat]

def cc0_transform_6 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c128_i32 : BitVec 32 := 128#32
  let v2 : BitVec 32 := Scalar.subi v1 c128_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  let c0_i32_2 : BitVec 32 := 0#32
  ![c0_i32_0.toNat, v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let v2 : BitVec 32 := Scalar.subi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c64_i32 : BitVec 32 := 64#32
  let v2 : BitVec 32 := Scalar.subi v1 c64_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c96_i32 : BitVec 32 := 96#32
  let v2 : BitVec 32 := Scalar.subi v1 c96_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c128_i32 : BitVec 32 := 128#32
  let v2 : BitVec 32 := Scalar.subi v1 c128_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![v4.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8192x4096 : Shape := ⟨2, ![8192, 4096]⟩
abbrev S1x4096x40976 : Shape := ⟨3, ![1, 4096, 40976]⟩
abbrev S1x40976 : Shape := ⟨2, ![1, 40976]⟩
abbrev S1x4096x4096 : Shape := ⟨3, ![1, 4096, 4096]⟩
abbrev S1x2048x4096 : Shape := ⟨3, ![1, 2048, 4096]⟩
abbrev S4096x40976 : Shape := ⟨2, ![4096, 40976]⟩
abbrev S8192x40976 : Shape := ⟨2, ![8192, 40976]⟩
abbrev S40976 : Shape := ⟨1, ![40976]⟩
abbrev S8192x12288 : Shape := ⟨2, ![8192, 12288]⟩
abbrev S_ : Shape := ⟨0, ![]⟩
abbrev S4096x4096 : Shape := ⟨2, ![4096, 4096]⟩
abbrev S2048x4096 : Shape := ⟨2, ![2048, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x4096x4096, .f32⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S8192x4096, .f32⟩
  | .hbm, ⟨8, _⟩ => ⟨S4096x40976, .f32⟩
  | .hbm, ⟨9, _⟩ => ⟨S8192x40976, .f32⟩
  | .hbm, ⟨10, _⟩ => ⟨S40976, .f32⟩
  | .hbm, ⟨11, _⟩ => ⟨S1x40976, .f32⟩
  | .hbm, ⟨12, _⟩ => ⟨S8192x40976, .f32⟩
  | .hbm, ⟨13, _⟩ => ⟨S8192x40976, .f32⟩
  | .hbm, ⟨14, _⟩ => ⟨S8192x12288, .f32⟩
  | .hbm, ⟨15, _⟩ => ⟨S8192x12288, .f32⟩
  | .hbm, ⟨16, _⟩ => ⟨S8192x12288, .f32⟩
  | .hbm, ⟨17, _⟩ => ⟨S_, .f32⟩
  | .hbm, ⟨18, _⟩ => ⟨S8192x12288, .f32⟩
  | .hbm, ⟨19, _⟩ => ⟨S8192x12288, .f32⟩
  | .hbm, ⟨20, _⟩ => ⟨S_, .f32⟩
  | .hbm, ⟨21, _⟩ => ⟨S8192x12288, .f32⟩
  | .hbm, ⟨22, _⟩ => ⟨S8192x12288, .f32⟩
  | .hbm, ⟨23, _⟩ => ⟨S8192x12288, .bf16⟩
  | .hbm, ⟨24, _⟩ => ⟨S4096x4096, .f32⟩
  | .hbm, ⟨25, _⟩ => ⟨S4096x4096, .bf16⟩
  | .hbm, ⟨26, _⟩ => ⟨S2048x4096, .f32⟩
  | .hbm, ⟨27, _⟩ => ⟨S2048x4096, .bf16⟩
  | .hbm, ⟨28, _⟩ => ⟨S2048x4096, .f32⟩
  | .hbm, ⟨29, _⟩ => ⟨S2048x4096, .bf16⟩
  | .hbm, ⟨30, _⟩ => ⟨S4096x4096, .f32⟩
  | .hbm, ⟨31, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S8192x4096 : Shape := ⟨2, ![8192, 4096]⟩
abbrev S1x4096x40976 : Shape := ⟨3, ![1, 4096, 40976]⟩
abbrev S1x40976 : Shape := ⟨2, ![1, 40976]⟩
abbrev S1x40976x4096 : Shape := ⟨3, ![1, 40976, 4096]⟩
abbrev S1x8192 : Shape := ⟨2, ![1, 8192]⟩
abbrev S8192 : Shape := ⟨1, ![8192]⟩
abbrev S40976x4096 : Shape := ⟨2, ![40976, 4096]⟩
abbrev S8192x8192 : Shape := ⟨2, ![8192, 8192]⟩
abbrev S2048x4096 : Shape := ⟨2, ![2048, 4096]⟩
abbrev S512x4096 : Shape := ⟨2, ![512, 4096]⟩
abbrev S2048x512 : Shape := ⟨2, ![2048, 512]⟩
abbrev S1x512 : Shape := ⟨2, ![1, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x40976x4096, .f32⟩
  | .hbm, ⟨4, _⟩ => ⟨S1x8192, .f32⟩
  | .hbm, ⟨5, _⟩ => ⟨S8192, .f32⟩
  | .hbm, ⟨6, _⟩ => ⟨S1x8192, .f32⟩
  | .hbm, ⟨7, _⟩ => ⟨S40976x4096, .f32⟩
  | .hbm, ⟨8, _⟩ => ⟨S8192x8192, .bf16⟩
  | .local _ .vmem, ⟨0, _⟩ => ⟨S2048x4096, .bf16⟩
  | .local _ .vmem, ⟨1, _⟩ => ⟨S512x4096, .f32⟩
  | .local _ .vmem, ⟨2, _⟩ => ⟨S512x4096, .f32⟩
  | .local _ .vmem, ⟨3, _⟩ => ⟨S1x8192, .f32⟩
  | .local _ .vmem, ⟨4, _⟩ => ⟨S2048x512, .bf16⟩
  | .local _ .vmem, ⟨5, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def k0_mult2 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 2 → Nat :=
  let c0_3 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S1x4096x40976 : Shape := ⟨3, ![1, 4096, 40976]⟩
abbrev S1x40976 : Shape := ⟨2, ![1, 40976]⟩
abbrev S4096x40976 : Shape := ⟨2, ![4096, 40976]⟩
abbrev S8192x40976 : Shape := ⟨2, ![8192, 40976]⟩
abbrev S40976 : Shape := ⟨1, ![40976]⟩
abbrev S8192x8192 : Shape := ⟨2, ![8192, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S4096x40976, .f32⟩
  | .hbm, ⟨5, _⟩ => ⟨S8192x40976, .f32⟩
  | .hbm, ⟨6, _⟩ => ⟨S40976, .f32⟩
  | .hbm, ⟨7, _⟩ => ⟨S1x40976, .f32⟩
  | .hbm, ⟨8, _⟩ => ⟨S8192x40976, .f32⟩
  | .hbm, ⟨9, _⟩ => ⟨S8192x40976, .f32⟩
  | .hbm, ⟨10, _⟩ => ⟨S8192x8192, .f32⟩
  | .hbm, ⟨11, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x4096 : Shape := ⟨2, ![8192, 4096]⟩
abbrev S1x4096x40976 : Shape := ⟨3, ![1, 4096, 40976]⟩
abbrev S1x40976 : Shape := ⟨2, ![1, 40976]⟩
abbrev S1x40976x4096 : Shape := ⟨3, ![1, 40976, 4096]⟩
abbrev S1x4096 : Shape := ⟨2, ![1, 4096]⟩
abbrev S4096 : Shape := ⟨1, ![4096]⟩
abbrev S40976x4096 : Shape := ⟨2, ![40976, 4096]⟩
abbrev S1024x4096 : Shape := ⟨2, ![1024, 4096]⟩
abbrev S256x4096 : Shape := ⟨2, ![256, 4096]⟩
abbrev S1024x256 : Shape := ⟨2, ![1024, 256]⟩
abbrev S1x256 : Shape := ⟨2, ![1, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x40976x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S40976x4096, .f32⟩
  | .hbm, ⟨11, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S1024x256, .bf16⟩
  | .local _ .vmem, ⟨9, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c8192_i32 : BitVec 32 := 8192#32
  let arg1 : BitVec 32 := BitVec.ofNat 32 (i 1).val
  let c256_i32 : BitVec 32 := 256#32
  let v0 : BitVec 32 := Scalar.muli arg1 c256_i32
  let v1 : BitVec 32 := Scalar.addi c8192_i32 v0
  v1
def k0_mult2 (i : grid0.Coords) : BitVec 32 :=
  let c12288_i32 : BitVec 32 := 12288#32
  let arg1 : BitVec 32 := BitVec.ofNat 32 (i 1).val
  let c256_i32 : BitVec 32 := 256#32
  let v0 : BitVec 32 := Scalar.muli arg1 c256_i32
  let v1 : BitVec 32 := Scalar.addi c12288_i32 v0
  v1
def k0_mult3 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  ![0, v7.toNat]
def k0_mult4 (i : grid0.Coords) : BitVec 32 :=
  let arg1 : BitVec 32 := BitVec.ofNat 32 (i 1).val
  let c256_i32_7 : BitVec 32 := 256#32
  let v16 : BitVec 32 := Scalar.muli arg1 c256_i32_7
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8192_i32 : BitVec 32 := 8192#32
  let v1 : BitVec 32 := Scalar.addi c8192_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c12288_i32 : BitVec 32 := 12288#32
  let v1 : BitVec 32 := Scalar.addi c12288_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x4096 : Shape := ⟨2, ![8192, 4096]⟩
abbrev S1x4096x40976 : Shape := ⟨3, ![1, 4096, 40976]⟩
abbrev S1x40976 : Shape := ⟨2, ![1, 40976]⟩
abbrev S4096x40976 : Shape := ⟨2, ![4096, 40976]⟩
abbrev S8192x40976 : Shape := ⟨2, ![8192, 40976]⟩
abbrev S40976 : Shape := ⟨1, ![40976]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S4096x40976, .f32⟩
  | .hbm, ⟨5, _⟩ => ⟨S8192x40976, .f32⟩
  | .hbm, ⟨6, _⟩ => ⟨S40976, .f32⟩
  | .hbm, ⟨7, _⟩ => ⟨S1x40976, .f32⟩
  | .hbm, ⟨8, _⟩ => ⟨S8192x40976, .f32⟩
  | .hbm, ⟨9, _⟩ => ⟨S8192x40976, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel7.lean ====
abbrev S8192x4096 : Shape := ⟨2, ![8192, 4096]⟩
abbrev S1x4096x40976 : Shape := ⟨3, ![1, 4096, 40976]⟩
abbrev S1x40976 : Shape := ⟨2, ![1, 40976]⟩
abbrev S1x40976x4096 : Shape := ⟨3, ![1, 40976, 4096]⟩
abbrev S1x2048 : Shape := ⟨2, ![1, 2048]⟩
abbrev S2048 : Shape := ⟨1, ![2048]⟩
abbrev S40976x4096 : Shape := ⟨2, ![40976, 4096]⟩
abbrev S8192x2048 : Shape := ⟨2, ![8192, 2048]⟩
abbrev S1024x4096 : Shape := ⟨2, ![1024, 4096]⟩
abbrev S256x4096 : Shape := ⟨2, ![256, 4096]⟩
abbrev S1024x256 : Shape := ⟨2, ![1024, 256]⟩
abbrev S1x256 : Shape := ⟨2, ![1, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x40976x4096, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S40976x4096, .f32⟩
  | .hbm, ⟨11, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x2048, .f32⟩
  | .local _ .vmem, ⟨7, _⟩ => ⟨S1x2048, .f32⟩
  | .local _ .vmem, ⟨8, _⟩ => ⟨S1024x256, .bf16⟩
  | .local _ .vmem, ⟨9, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c18448_i32 : BitVec 32 := 18448#32
  let arg0 : BitVec 32 := BitVec.ofNat 32 (i 0).val
  let c256_i32 : BitVec 32 := 256#32
  let v0 : BitVec 32 := Scalar.muli arg0 c256_i32
  let v1 : BitVec 32 := Scalar.addi c18448_i32 v0
  v1
def k0_mult2 (i : grid0.Coords) : BitVec 32 :=
  let c20496_i32 : BitVec 32 := 20496#32
  let arg0 : BitVec 32 := BitVec.ofNat 32 (i 0).val
  let c256_i32 : BitVec 32 := 256#32
  let v0 : BitVec 32 := Scalar.muli arg0 c256_i32
  let v1 : BitVec 32 := Scalar.addi c20496_i32 v0
  v1
def k0_mult3 (i : grid0.Coords) : BitVec 32 :=
  let arg0 : BitVec 32 := BitVec.ofNat 32 (i 0).val
  let c256_i32 : BitVec 32 := 256#32
  let v5 : BitVec 32 := Scalar.muli arg0 c256_i32
  v5
def k0_off1 (i : grid0.Coords) : Fin 2 → Nat :=
  let c0_3 : Index := 0#32
  let arg0 : BitVec 32 := BitVec.ofNat 32 (i 0).val
  let c256_i32 : BitVec 32 := 256#32
  let v5 : BitVec 32 := Scalar.muli arg0 c256_i32
  let v6 : BitVec 32 := v5
  let v7 : Index := Scalar.indexCast v6
  ![0, v7.toNat]
def k0_mult4 (i : grid0.Coords) : BitVec 32 :=
  let arg0 : BitVec 32 := BitVec.ofNat 32 (i 0).val
  let c256_i32_7 : BitVec 32 := 256#32
  let v16 : BitVec 32 := Scalar.muli arg0 c256_i32_7
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c18448_i32 : BitVec 32 := 18448#32
  let v1 : BitVec 32 := Scalar.addi c18448_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c20496_i32 : BitVec 32 := 20496#32
  let v1 : BitVec 32 := Scalar.addi c20496_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x4096 : Shape := ⟨2, ![8192, 4096]⟩
abbrev S1x4096x40976 : Shape := ⟨3, ![1, 4096, 40976]⟩
abbrev S1x40976 : Shape := ⟨2, ![1, 40976]⟩
abbrev S4096x40976 : Shape := ⟨2, ![4096, 40976]⟩
abbrev S8192x40976 : Shape := ⟨2, ![8192, 40976]⟩
abbrev S40976 : Shape := ⟨1, ![40976]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S4096x40976, .f32⟩
  | .hbm, ⟨5, _⟩ => ⟨S8192x40976, .f32⟩
  | .hbm, ⟨6, _⟩ => ⟨S40976, .f32⟩
  | .hbm, ⟨7, _⟩ => ⟨S1x40976, .f32⟩
  | .hbm, ⟨8, _⟩ => ⟨S8192x40976, .f32⟩
  | .hbm, ⟨9, _⟩ => ⟨S8192x40976, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8192x4096 : Shape := ⟨2, ![8192, 4096]⟩
abbrev S1x4096x40976 : Shape := ⟨3, ![1, 4096, 40976]⟩
abbrev S1x40976 : Shape := ⟨2, ![1, 40976]⟩
abbrev S1x40976x4096 : Shape := ⟨3, ![1, 40976, 4096]⟩
abbrev S1x2048 : Shape := ⟨2, ![1, 2048]⟩
abbrev S2048 : Shape := ⟨1, ![2048]⟩
abbrev S40976x4096 : Shape := ⟨2, ![40976, 4096]⟩
abbrev S8192x2048 : Shape := ⟨2, ![8192, 2048]⟩
abbrev S1024x4096 : Shape := ⟨2, ![1024, 4096]⟩
abbrev S256x4096 : Shape := ⟨2, ![256, 4096]⟩
abbrev S1024x256 : Shape := ⟨2, ![1024, 256]⟩
abbrev S1x256 : Shape := ⟨2, ![1, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x40976x4096, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S40976x4096, .f32⟩
  | .hbm, ⟨11, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x2048, .f32⟩
  | .local _ .vmem, ⟨7, _⟩ => ⟨S1x2048, .f32⟩
  | .local _ .vmem, ⟨8, _⟩ => ⟨S1024x256, .bf16⟩
  | .local _ .vmem, ⟨9, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c16400_i32 : BitVec 32 := 16400#32
  let arg1 : BitVec 32 := BitVec.ofNat 32 (i 1).val
  let c256_i32 : BitVec 32 := 256#32
  let v0 : BitVec 32 := Scalar.muli arg1 c256_i32
  let v1 : BitVec 32 := Scalar.addi c16400_i32 v0
  v1
def k0_mult2 (i : grid0.Coords) : BitVec 32 :=
  let c22544_i32 : BitVec 32 := 22544#32
  let arg1 : BitVec 32 := BitVec.ofNat 32 (i 1).val
  let c256_i32 : BitVec 32 := 256#32
  let v0 : BitVec 32 := Scalar.muli arg1 c256_i32
  let v1 : BitVec 32 := Scalar.addi c22544_i32 v0
  v1
def k0_mult3 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  ![0, v7.toNat]
def k0_mult4 (i : grid0.Coords) : BitVec 32 :=
  let arg1 : BitVec 32 := BitVec.ofNat 32 (i 1).val
  let c256_i32_7 : BitVec 32 := 256#32
  let v16 : BitVec 32 := Scalar.muli arg1 c256_i32_7
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16400_i32 : BitVec 32 := 16400#32
  let v1 : BitVec 32 := Scalar.addi c16400_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c22544_i32 : BitVec 32 := 22544#32
  let v1 : BitVec 32 := Scalar.addi c22544_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x4096 : Shape := ⟨2, ![8192, 4096]⟩
abbrev S1x4096x40976 : Shape := ⟨3, ![1, 4096, 40976]⟩
abbrev S1x40976 : Shape := ⟨2, ![1, 40976]⟩
abbrev S4096x40976 : Shape := ⟨2, ![4096, 40976]⟩
abbrev S8192x40976 : Shape := ⟨2, ![8192, 40976]⟩
abbrev S40976 : Shape := ⟨1, ![40976]⟩
abbrev S8192x2048 : Shape := ⟨2, ![8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S4096x40976, .f32⟩
  | .hbm, ⟨5, _⟩ => ⟨S8192x40976, .f32⟩
  | .hbm, ⟨6, _⟩ => ⟨S40976, .f32⟩
  | .hbm, ⟨7, _⟩ => ⟨S1x40976, .f32⟩
  | .hbm, ⟨8, _⟩ => ⟨S8192x40976, .f32⟩
  | .hbm, ⟨9, _⟩ => ⟨S8192x40976, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel9.lean ====
abbrev S8192x4096 : Shape := ⟨2, ![8192, 4096]⟩
abbrev S1x4096x40976 : Shape := ⟨3, ![1, 4096, 40976]⟩
abbrev S1x40976 : Shape := ⟨2, ![1, 40976]⟩
abbrev S1x40976x4096 : Shape := ⟨3, ![1, 40976, 4096]⟩
abbrev S1x2048 : Shape := ⟨2, ![1, 2048]⟩
abbrev S2048 : Shape := ⟨1, ![2048]⟩
abbrev S40976x4096 : Shape := ⟨2, ![40976, 4096]⟩
abbrev S8192x2048 : Shape := ⟨2, ![8192, 2048]⟩
abbrev S1024x4096 : Shape := ⟨2, ![1024, 4096]⟩
abbrev S256x4096 : Shape := ⟨2, ![256, 4096]⟩
abbrev S1024x256 : Shape := ⟨2, ![1024, 256]⟩
abbrev S1x256 : Shape := ⟨2, ![1, 256]⟩

abbrev nBuf : Space → Nat
  | .hbm => 13
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S1x40976x4096, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S40976x4096, .f32⟩
  | .hbm, ⟨11, _⟩ => ⟨S8192x2048, .bf16⟩
  | .hbm, ⟨12, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x2048, .f32⟩
  | .local _ .vmem, ⟨7, _⟩ => ⟨S1x2048, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c24592_i32 : BitVec 32 := 24592#32
  let arg1 : BitVec 32 := BitVec.ofNat 32 (i 1).val
  let c256_i32 : BitVec 32 := 256#32
  let v0 : BitVec 32 := Scalar.muli arg1 c256_i32
  let v1 : BitVec 32 := Scalar.addi c24592_i32 v0
  v1
def k0_mult2 (i : grid0.Coords) : BitVec 32 :=
  let c26640_i32 : BitVec 32 := 26640#32
  let arg1 : BitVec 32 := BitVec.ofNat 32 (i 1).val
  let c256_i32 : BitVec 32 := 256#32
  let v0 : BitVec 32 := Scalar.muli arg1 c256_i32
  let v1 : BitVec 32 := Scalar.addi c26640_i32 v0
  v1
def k0_mult3 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let c0_3 : Index := 0#32
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  ![0, v7.toNat]
def k0_mult4 (i : grid0.Coords) : BitVec 32 :=
  let arg1 : BitVec 32 := BitVec.ofNat 32 (i 1).val
  let c256_i32_7 : BitVec 32 := 256#32
  let v16 : BitVec 32 := Scalar.muli arg1 c256_i32_7
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c24592_i32 : BitVec 32 := 24592#32
  let v1 : BitVec 32 := Scalar.addi c24592_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c26640_i32 : BitVec 32 := 26640#32
  let v1 : BitVec 32 := Scalar.addi c26640_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S8192x4096 : Shape := ⟨2, ![8192, 4096]⟩
abbrev S1x4096x40976 : Shape := ⟨3, ![1, 4096, 40976]⟩
abbrev S1x40976 : Shape := ⟨2, ![1, 40976]⟩
abbrev S4096x40976 : Shape := ⟨2, ![4096, 40976]⟩
abbrev S8192x40976 : Shape := ⟨2, ![8192, 40976]⟩
abbrev S40976 : Shape := ⟨1, ![40976]⟩
abbrev S8192x2048 : Shape := ⟨2, ![8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S4096x40976, .f32⟩
  | .hbm, ⟨5, _⟩ => ⟨S8192x40976, .f32⟩
  | .hbm, ⟨6, _⟩ => ⟨S40976, .f32⟩
  | .hbm, ⟨7, _⟩ => ⟨S1x40976, .f32⟩
  | .hbm, ⟨8, _⟩ => ⟨S8192x40976, .f32⟩
  | .hbm, ⟨9, _⟩ => ⟨S8192x40976, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel10.lean ====
abbrev S4x256x4096 : Shape := ⟨3, ![4, 256, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S4x256x4096, .f32⟩
  | .hbm, ⟨1, _⟩ => ⟨S1x4096x4096, .f32⟩
  | .hbm, ⟨2, _⟩ => ⟨S1024x4096, .f32⟩
  | .hbm, ⟨3, _⟩ => ⟨S1024x4096, .bf16⟩
  | .local _ .vmem, ⟨0, _⟩ => ⟨S1024x4096, .f32⟩
  | .local _ .vmem, ⟨1, _⟩ => ⟨S1x4096x512, .f32⟩
  | .local _ .vmem, ⟨2, _⟩ => ⟨S1x4096x512, .f32⟩
  | .local _ .vmem, ⟨3, _⟩ => ⟨S1024x512, .bf16⟩
  | .local _ .vmem, ⟨4, _⟩ => ⟨S1024x512, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x256x4096 : Shape := ⟨3, ![4, 256, 4096]⟩
abbrev S1x4096x4096 : Shape := ⟨3, ![1, 4096, 4096]⟩
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096x4096, .f32⟩
  | .hbm, ⟨2, _⟩ => ⟨S4096x4096, .f32⟩
  | .hbm, ⟨3, _⟩ => ⟨S4x256x4096, .f32⟩
  | .hbm, ⟨4, _⟩ => ⟨S1024x4096, .f32⟩
  | .hbm, ⟨5, _⟩ => ⟨S1024x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S1024x4096 : Shape := ⟨2, ![1024, 4096]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x4096, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x2048 : Shape := ⟨2, ![8192, 2048]⟩
abbrev S1024x4096 : Shape := ⟨2, ![1024, 4096]⟩
abbrev S1024x2048 : Shape := ⟨2, ![1024, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1024x4096, .bf16⟩
  | .hbm, ⟨3, _⟩ => ⟨S1024x4096, .f32⟩
  | .hbm, ⟨4, _⟩ => ⟨S1024x2048, .f32⟩
  | .hbm, ⟨5, _⟩ => ⟨S1024x2048, .f32⟩
  | .hbm, ⟨6, _⟩ => ⟨S8192x2048, .f32⟩
  | .hbm, ⟨7, _⟩ => ⟨S4x2048x4x512, .f32⟩
  | .hbm, ⟨8, _⟩ => ⟨S4x256x4x512, .f32⟩
  | .hbm, ⟨9, _⟩ => ⟨S4x256x4x512, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x512x2048, .f32⟩
  | .hbm, ⟨29, _⟩ => ⟨S4x2048x4x512, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel12.lean ====
abbrev S8192x2048 : Shape := ⟨2, ![8192, 2048]⟩
abbrev S1x3x2048 : Shape := ⟨3, ![1, 3, 2048]⟩
abbrev S3x2048 : Shape := ⟨2, ![3, 2048]⟩
abbrev S2048x512 : Shape := ⟨2, ![2048, 512]⟩
abbrev S3x512 : Shape := ⟨2, ![3, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x3x2048, .f32⟩
  | .hbm, ⟨3, _⟩ => ⟨S3x2048, .f32⟩
  | .hbm, ⟨4, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S2048x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S1x3x2048 : Shape := ⟨3, ![1, 3, 2048]⟩
abbrev S4x2048x2048 : Shape := ⟨3, ![4, 2048, 2048]⟩
abbrev S_ : Shape := ⟨0, ![]⟩
abbrev S4x2050x2048 : Shape := ⟨3, ![4, 2050, 2048]⟩
abbrev S1x1x2048 : Shape := ⟨3, ![1, 1, 2048]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x3x2048, .f32⟩
  | .hbm, ⟨3, _⟩ => ⟨S8192x2048, .f32⟩
  | .hbm, ⟨4, _⟩ => ⟨S4x2048x2048, .f32⟩
  | .hbm, ⟨5, _⟩ => ⟨S_, .i32⟩
  | .hbm, ⟨6, _⟩ => ⟨S_, .f32⟩
  | .hbm, ⟨7, _⟩ => ⟨S4x2050x2048, .f32⟩
  | .hbm, ⟨8, _⟩ => ⟨S4x2048x2048, .f32⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | .hbm, ⟨35, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel13.lean ====
abbrev S4x2048x4096 : Shape := ⟨3, ![4, 2048, 4096]⟩
abbrev S1x4096x40976 : Shape := ⟨3, ![1, 4096, 40976]⟩
abbrev S1x40976 : Shape := ⟨2, ![1, 40976]⟩
abbrev S8192x4096 : Shape := ⟨2, ![8192, 4096]⟩
abbrev S1x40976x4096 : Shape := ⟨3, ![1, 40976, 4096]⟩
abbrev S1x128 : Shape := ⟨2, ![1, 128]⟩
abbrev S128 : Shape := ⟨1, ![128]⟩
abbrev S40976x4096 : Shape := ⟨2, ![40976, 4096]⟩
abbrev S8192x128 : Shape := ⟨2, ![8192, 128]⟩
abbrev S512x4096 : Shape := ⟨2, ![512, 4096]⟩
abbrev S128x4096 : Shape := ⟨2, ![128, 4096]⟩
abbrev S512x128 : Shape := ⟨2, ![512, 128]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S1x40976x4096, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S40976x4096, .f32⟩
  | .hbm, ⟨9, _⟩ => ⟨S8192x4096, .bf16⟩
  | .hbm, ⟨10, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S1x128, .f32⟩
  | .local _ .vmem, ⟨4, _⟩ => ⟨S512x4096, .bf16⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16384_i32 : BitVec 32 := 16384#32
  let c0_i32 : BitVec 32 := 0#32
  let c0_i32_0 : BitVec 32 := 0#32
  ![c16384_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4x2048x4096 : Shape := ⟨3, ![4, 2048, 4096]⟩
abbrev S1x4096x40976 : Shape := ⟨3, ![1, 4096, 40976]⟩
abbrev S1x40976 : Shape := ⟨2, ![1, 40976]⟩
abbrev S8192x4096 : Shape := ⟨2, ![8192, 4096]⟩
abbrev S4096x40976 : Shape := ⟨2, ![4096, 40976]⟩
abbrev S8192x40976 : Shape := ⟨2, ![8192, 40976]⟩
abbrev S40976 : Shape := ⟨1, ![40976]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x40976, .f32⟩
  | .hbm, ⟨2, _⟩ => ⟨S1x40976, .f32⟩
  | .hbm, ⟨3, _⟩ => ⟨S8192x4096, .f32⟩
  | .hbm, ⟨4, _⟩ => ⟨S8192x4096, .bf16⟩
  | .hbm, ⟨5, _⟩ => ⟨S4096x40976, .f32⟩
  | .hbm, ⟨6, _⟩ => ⟨S8192x40976, .f32⟩
  | .hbm, ⟨7, _⟩ => ⟨S40976, .f32⟩
  | .hbm, ⟨8, _⟩ => ⟨S1x40976, .f32⟩
  | .hbm, ⟨9, _⟩ => ⟨S8192x40976, .f32⟩
  | .hbm, ⟨10, _⟩ => ⟨S8192x40976, .f32⟩
  | .hbm, ⟨11, _⟩ => ⟨S8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.KHead.lean ====
/- The mLSTM kernel at a grid point, head by head: what it reads, and what it leaves in the result and the states. -/
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

section Head
variable (q k : Vec Ideal S256x256 .bf16) (v : Vec Ideal S256x512 .bf16) (ig fg : Vec Ideal S1x1x256 .f32)
  (C : Vec Ideal S1x256x512 .f32) (n : Vec Ideal S1x1x256 .f32) (mm : Vec Ideal S1x1 .f32)
  (nw : Vec Ideal S1x512 .f32) (gate : Vec Ideal S256x512 .bf16)

/-- One head's chunk: the rows' hidden states before their normalisation. -/
def hH : Vec Ideal S256x512 .f32 :=
  k0_pay22 q (k0_pay16 (k0_pay5 ig) k0_pay7 k0_pay8 (k0_pay9 fg) (k0_pay10 fg) k0_pay11 mm)
    (k0_pay17 q k (k0_pay5 ig) k0_pay7 k0_pay8 (k0_pay9 fg) (k0_pay10 fg) k0_pay11 mm)
    (k0_pay18 (k0_pay5 ig) k0_pay7 k0_pay8 (k0_pay9 fg) (k0_pay10 fg) k0_pay11 mm)
    (k0_pay20 q k v (k0_pay5 ig) k0_pay7 k0_pay8 (k0_pay9 fg) (k0_pay10 fg) k0_pay11 mm) (k0_pay21 C) n

/-- One head's chunk: the rows of the result, the hidden states normalised and gated. -/
def hO : Vec Ideal S256x512 .bf16 := k0_pay30 (hH q k v ig fg C n mm) nw gate

/-- One head's chunk: the matrix state after it. -/
def hC : Vec Ideal S1x256x512 .f32 :=
  k0_pay27 k v (k0_pay9 fg) (k0_pay12 (k0_pay5 ig) k0_pay8) (k0_pay13 (k0_pay6 fg)) mm (k0_pay19 C)

/-- One head's chunk: the normaliser state after it. -/
def hN : Vec Ideal S1x1x256 .f32 :=
  k0_pay28 (k0_pay25 (k0_pay9 fg) (k0_pay12 (k0_pay5 ig) k0_pay8) (k0_pay13 (k0_pay6 fg)) mm)
    (k0_pay26 k (k0_pay9 fg) (k0_pay12 (k0_pay5 ig) k0_pay8) (k0_pay13 (k0_pay6 fg)) mm) n

/-- One head's chunk: the stabiliser after it. -/
def hM : Vec Ideal S1x1x128 .f32 :=
  k0_pay29 (k0_pay24 (k0_pay9 fg) (k0_pay12 (k0_pay5 ig) k0_pay8) (k0_pay13 (k0_pay6 fg)) mm)

end Head

variable (m : (ℓ : Loc nD τ sig) → Buf (Elt Ideal) ℓ)

/-- A head's queries, and its keys, lie in the block. -/
theorem inbQ (h : Fin 8) : ∀ a, (![0, 256 * h.val] : Fin 2 → Nat) a + (![256, 256] : Fin 2 → Nat) a ≤ S256x2048.size a := by revert h; decide
/-- A head's values, and its gate, lie in the block. -/
theorem inbV (h : Fin 8) : ∀ a, (![0, 512 * h.val] : Fin 2 → Nat) a + (![256, 512] : Fin 2 → Nat) a ≤ S256x4096.size a := by revert h; decide
/-- A head's norm weights lie in the row. -/
theorem inbW (h : Fin 8) : ∀ a, (![0, 512 * h.val] : Fin 2 → Nat) a + (![1, 512] : Fin 2 → Nat) a ≤ S1x4096.size a := by revert h; decide
/-- A head's matrix state lies in the array of states. -/
theorem inbC (h : Fin 8) : ∀ a, (![h.val, 0, 0] : Fin 3 → Nat) a + (![1, 256, 512] : Fin 3 → Nat) a ≤ S8x256x512.size a := by revert h; decide
/-- A head's normaliser lies in the array of normalisers. -/
theorem inbN (h : Fin 8) : ∀ a, (![h.val, 0, 0] : Fin 3 → Nat) a + (![1, 1, 256] : Fin 3 → Nat) a ≤ S8x1x256.size a := by revert h; decide
/-- A head's stabiliser lies in the array of stabilisers. -/
theorem inbM (h : Fin 8) : ∀ a, (![h.val, 0, 0] : Fin 3 → Nat) a + (![1, 1, 128] : Fin 3 → Nat) a ≤ S8x1x128.size a := by revert h; decide

section Loads
variable (c : Dev nD) (t : Fin cfg0.N) (h : Fin 8)

/-- Head `h`'s queries of block `t`. -/
def ldq : Vec Ideal S256x256 .bf16 := View.ld (iblk m c 0 t) (Rect.unit (s := S256x2048) ![0, 256 * h.val] ![256, 256] (inbQ h))
/-- Head `h`'s keys of block `t`. -/
def ldk : Vec Ideal S256x256 .bf16 := View.ld (iblk m c 1 t) (Rect.unit (s := S256x2048) ![0, 256 * h.val] ![256, 256] (inbQ h))
/-- Head `h`'s values of block `t`. -/
def ldv : Vec Ideal S256x512 .bf16 := View.ld (iblk m c 2 t) (Rect.unit (s := S256x4096) ![0, 512 * h.val] ![256, 512] (inbV h))
/-- Head `h`'s input gates of block `t`. -/
def ldi : Vec Ideal S1x1x256 .f32 := View.ld (iblk m c 3 t) (Rect.unit (s := S1x16x256) (k0_off1 (grid0.coords t) (BitVec.ofNat 32 h.val)) S1x1x256.size (k0_off1_inb _ h))
/-- Head `h`'s forget gates of block `t`. -/
def ldf : Vec Ideal S1x1x256 .f32 := View.ld (iblk m c 3 t) (Rect.unit (s := S1x16x256) (k0_off2 (grid0.coords t) (BitVec.ofNat 32 h.val)) S1x1x256.size (k0_off2_inb _ h))
/-- Head `h`'s output gate of block `t`. -/
def ldg : Vec Ideal S256x512 .bf16 := View.ld (iblk m c 4 t) (Rect.unit (s := S256x4096) ![0, 512 * h.val] ![256, 512] (inbV h))
/-- Head `h`'s norm weights. -/
def ldw : Vec Ideal S1x512 .f32 := View.ld (iblk m c 5 t) (Rect.unit (s := S1x4096) ![0, 512 * h.val] ![1, 512] (inbW h))

/-- Head `h`'s matrix state out of the eight heads' array. -/
def ldC (X : Vec Ideal S8x256x512 .f32) (h : Fin 8) : Vec Ideal S1x256x512 .f32 :=
  View.ld X (Rect.unit (s := S8x256x512) ![h.val, 0, 0] ![1, 256, 512] (inbC h))
/-- Head `h`'s normaliser state out of the eight heads' array. -/
def ldN (X : Vec Ideal S8x1x256 .f32) (h : Fin 8) : Vec Ideal S1x1x256 .f32 :=
  View.ld X (Rect.unit (s := S8x1x256) ![h.val, 0, 0] ![1, 1, 256] (inbN h))

end Loads

/-- The one entry of the stabilisers' array from which head `h`'s is read. -/
abbrev boxM (h : Fin 8) : LoadRect S8x1x128 :=
  (Rect.unit (s := S8x1x128) ![h.val, 0, 0] ![1, 1, 128] (inbM h)).withinL
    ((Rect.unit (s := S1x128) ![0, 0] ![1, 1] inb_S1x128_S1x1_0_0).toLoadRect.consLift ![1, 1, 128] rfl (by decide)) (fun _ => rfl)

/-- Head `h`'s stabiliser read back out of the array `X`, as the body reads it. -/
def ldmB (X : Vec Ideal S8x1x128 .f32) (h : Fin 8) : Vec Ideal S1x1 .f32 :=
  LoadRect.valAlong (show (Rect.unit (s := S1x128) ![0, 0] ![1, 1] inb_S1x128_S1x1_0_0).toLoadRect.shape.numel = (boxM h).shape.numel by rfl)
    (View.readAt (Elt Ideal) (View.whole cc0_scratch2) (boxM h) ((Memref.isWhole_whole cc0_scratch2).unread X))

/-- Head `h`'s stabiliser at a batch's first chunk, read back from the zeros just stored. -/
def ldmA (h : Fin 8) : Vec Ideal S1x1 .f32 :=
  LoadRect.valAlong (show (Rect.unit (s := S1x128) ![0, 0] ![1, 1] inb_S1x128_S1x1_0_0).toLoadRect.shape.numel = (boxM h).shape.numel by rfl)
    ((View.whole cc0_scratch2).readCov (Val := Elt Ideal)
      [⟨Rect.unit (s := S8x1x128) ![0, 0, 0] ![8, 1, 128] inb_S8x1x128_S8x1x128_0_0_0, (k0_pay4 (F := Ideal))⟩] (boxM h))

section Points
variable (c : Dev nD) (t : Fin cfg0.N)

/-- The chunk's matrix states, the eight heads' in one array, from the incoming states. -/
def GC (C : Fin 8 → Vec Ideal S1x256x512 .f32) (mm : Fin 8 → Vec Ideal S1x1 .f32) : Vec Ideal S8x256x512 .f32 := fun y =>
  hC (ldk m c t (y 0)) (ldv m c t (y 0)) (ldi m c t (y 0)) (ldf m c t (y 0)) (C (y 0)) (mm (y 0)) (ix3 (0 : Fin 1) (y 1) (y 2))

/-- Read at head `h`'s piece it is that head's state. -/
theorem GC_emb (C : Fin 8 → Vec Ideal S1x256x512 .f32) (mm : Fin 8 → Vec Ideal S1x1 .f32) (h : Fin 8)
    (x : (Rect.unit (s := S8x256x512) ![h.val, 0, 0] ![1, 256, 512] (inbC h)).shape.Idx) :
    hC (ldk m c t h) (ldv m c t h) (ldi m c t h) (ldf m c t h) (C h) (mm h) x =
      GC m c t C mm ((Rect.unit (s := S8x256x512) ![h.val, 0, 0] ![1, 256, 512] (inbC h)).emb x) := by
  have e : (Rect.unit (s := S8x256x512) ![h.val, 0, 0] ![1, 256, 512] (inbC h)).emb x = ix3 h (x 1) (x 2) := by
    have h0 : (x 0).val < 1 := (x 0).isLt
    funext a; refine Fin.ext ?_
    fin_cases a <;> simp [Rect.emb, Rect.unit, ix3] <;> omega
  have ex : x = ix3 (0 : Fin 1) (x 1) (x 2) := by
    have h0 : (x 0).val < 1 := (x 0).isLt
    funext a; refine Fin.ext ?_
    fin_cases a <;> simp [ix3] <;> omega
  rw [e]
  exact congrArg _ ex

/-- The chunk's normaliser states, the eight heads' in one array, from the incoming states. -/
def GN (n : Fin 8 → Vec Ideal S1x1x256 .f32) (mm : Fin 8 → Vec Ideal S1x1 .f32) : Vec Ideal S8x1x256 .f32 := fun y =>
  hN (ldk m c t (y 0)) (ldi m c t (y 0)) (ldf m c t (y 0)) (n (y 0)) (mm (y 0)) (ix3 (0 : Fin 1) (y 1) (y 2))

/-- Read at head `h`'s piece it is that head's state. -/
theorem GN_emb (n : Fin 8 → Vec Ideal S1x1x256 .f32) (mm : Fin 8 → Vec Ideal S1x1 .f32) (h : Fin 8)
    (x : (Rect.unit (s := S8x1x256) ![h.val, 0, 0] ![1, 1, 256] (inbN h)).shape.Idx) :
    hN (ldk m c t h) (ldi m c t h) (ldf m c t h) (n h) (mm h) x =
      GN m c t n mm ((Rect.unit (s := S8x1x256) ![h.val, 0, 0] ![1, 1, 256] (inbN h)).emb x) := by
  have h0 : (x 0).val < 1 := (x 0).isLt
  have e : (Rect.unit (s := S8x1x256) ![h.val, 0, 0] ![1, 1, 256] (inbN h)).emb x = ix3 h (x 1) (x 2) := by
    funext a; refine Fin.ext ?_
    fin_cases a <;> simp [Rect.emb, Rect.unit, ix3] <;> omega
  have ex : x = ix3 (0 : Fin 1) (x 1) (x 2) := by
    funext a; refine Fin.ext ?_
    fin_cases a <;> simp [ix3] <;> omega
  rw [e]
  exact congrArg _ ex

/-- The chunk's stabilisers, the eight heads' in one array, from the incoming ones. -/
def GM (mm : Fin 8 → Vec Ideal S1x1 .f32) : Vec Ideal S8x1x128 .f32 := fun y =>
  hM (ldi m c t (y 0)) (ldf m c t (y 0)) (mm (y 0)) (ix3 (0 : Fin 1) (y 1) (y 2))

/-- Read at head `h`'s piece it is that head's stabiliser. -/
theorem GM_emb (mm : Fin 8 → Vec Ideal S1x1 .f32) (h : Fin 8)
    (x : (Rect.unit (s := S8x1x128) ![h.val, 0, 0] ![1, 1, 128] (inbM h)).shape.Idx) :
    hM (ldi m c t h) (ldf m c t h) (mm h) x =
      GM m c t mm ((Rect.unit (s := S8x1x128) ![h.val, 0, 0] ![1, 1, 128] (inbM h)).emb x) := by
  have h0 : (x 0).val < 1 := (x 0).isLt
  have e : (Rect.unit (s := S8x1x128) ![h.val, 0, 0] ![1, 1, 128] (inbM h)).emb x = ix3 h (x 1) (x 2) := by
    funext a; refine Fin.ext ?_
    fin_cases a <;> simp [Rect.emb, Rect.unit, ix3] <;> omega
  have ex : x = ix3 (0 : Fin 1) (x 1) (x 2) := by
    funext a; refine Fin.ext ?_
    fin_cases a <;> simp [ix3] <;> omega
  rw [e]
  exact congrArg _ ex

/-- The chunk's result rows, the eight heads side by side, from the incoming states. -/
def GO (C : Fin 8 → Vec Ideal S1x256x512 .f32) (n : Fin 8 → Vec Ideal S1x1x256 .f32) (mm : Fin 8 → Vec Ideal S1x1 .f32) :
    Vec Ideal S256x4096 .bf16 := fun y =>
  let h : Fin 8 := ⟨(y 1).val / 512, by have : (y 1).val < 4096 := (y 1).isLt; omega⟩
  hO (ldq m c t h) (ldk m c t h) (ldv m c t h) (ldi m c t h) (ldf m c t h) (C h) (n h) (mm h) (ldw m c t h) (ldg m c t h)
    (ix2 (y 0) (⟨(y 1).val % 512, Nat.mod_lt _ (by norm_num)⟩ : Fin 512))

/-- Read at head `h`'s columns it is that head's result. -/
theorem GO_emb (C : Fin 8 → Vec Ideal S1x256x512 .f32) (n : Fin 8 → Vec Ideal S1x1x256 .f32) (mm : Fin 8 → Vec Ideal S1x1 .f32)
    (h : Fin 8) (x : (Rect.unit (s := S256x4096) ![0, 512 * h.val] ![256, 512] (inbV h)).shape.Idx) :
    hO (ldq m c t h) (ldk m c t h) (ldv m c t h) (ldi m c t h) (ldf m c t h) (C h) (n h) (mm h) (ldw m c t h) (ldg m c t h) x =
      GO m c t C n mm ((Rect.unit (s := S256x4096) ![0, 512 * h.val] ![256, 512] (inbV h)).emb x) := by
  have h1 : (x 1).val < 512 := (x 1).isLt
  have e1 : (((Rect.unit (s := S256x4096) ![0, 512 * h.val] ![256, 512] (inbV h)).emb x) 1).val = 512 * h.val + (x 1).val := by
    simp [Rect.emb, Rect.unit]
  have e0 : (((Rect.unit (s := S256x4096) ![0, 512 * h.val] ![256, 512] (inbV h)).emb x) 0) = x 0 :=
    Fin.ext (by simp [Rect.emb, Rect.unit])
  have eh : (⟨(((Rect.unit (s := S256x4096) ![0, 512 * h.val] ![256, 512] (inbV h)).emb x) 1).val / 512,
      by rw [e1]; omega⟩ : Fin 8) = h := Fin.ext (by show _ / 512 = _; rw [e1]; omega)
  have ex : x = ix2 (((Rect.unit (s := S256x4096) ![0, 512 * h.val] ![256, 512] (inbV h)).emb x) 0)
      (⟨(((Rect.unit (s := S256x4096) ![0, 512 * h.val] ![256, 512] (inbV h)).emb x) 1).val % 512, Nat.mod_lt _ (by norm_num)⟩ : Fin 512) := by
    funext a
    fin_cases a
    · exact e0.symm
    · refine Fin.ext ?_
      show (x 1).val = _ % 512
      rw [e1]; omega
  show _ = hO _ _ _ _ _ _ _ _ _ _ _
  rw [eh]
  exact congrArg _ ex

/-- A batch's first chunk leaves in the result's block the heads' outputs from zero states. -/
theorem stO_A (h0 : t.val % 8 = 0) (acc : Vec Ideal S256x4096 .bf16 × Vec Ideal S8x256x512 .f32 × Vec Ideal S8x1x256 .f32 × Vec Ideal S8x1x128 .f32) :
    (stAt0 m c t.val t.isLt acc).1 = GO m c t (ldC (k0_pay2 (F := Ideal))) (ldN (k0_pay3 (F := Ideal))) ldmA := by
  funext y
  rw [stAt0_A m c t acc h0]
  dsimp only
  frame_out
  try simp (disch := decide) only [↓View.readCov_skip, View.readCov_fill, read_unread_whole]
  exact View.canon_append_of_piecesOf (GO m c t (ldC (k0_pay2 (F := Ideal))) (ldN (k0_pay3 (F := Ideal))) ldmA) [] [_, _, _, _, _, _, _, _]
    ⟨GO_emb m c t (ldC (k0_pay2 (F := Ideal))) (ldN (k0_pay3 (F := Ideal))) ldmA 7, GO_emb m c t (ldC (k0_pay2 (F := Ideal))) (ldN (k0_pay3 (F := Ideal))) ldmA 6, GO_emb m c t (ldC (k0_pay2 (F := Ideal))) (ldN (k0_pay3 (F := Ideal))) ldmA 5, GO_emb m c t (ldC (k0_pay2 (F := Ideal))) (ldN (k0_pay3 (F := Ideal))) ldmA 4, GO_emb m c t (ldC (k0_pay2 (F := Ideal))) (ldN (k0_pay3 (F := Ideal))) ldmA 3, GO_emb m c t (ldC (k0_pay2 (F := Ideal))) (ldN (k0_pay3 (F := Ideal))) ldmA 2, GO_emb m c t (ldC (k0_pay2 (F := Ideal))) (ldN (k0_pay3 (F := Ideal))) ldmA 1, GO_emb m c t (ldC (k0_pay2 (F := Ideal))) (ldN (k0_pay3 (F := Ideal))) ldmA 0, trivial⟩ y
    (View.cover_of_tiled_head _ _ _ (by rfl) y)

/-- And in the matrix states' array the heads' states from zero states. -/
theorem stC_A (h0 : t.val % 8 = 0) (acc : Vec Ideal S256x4096 .bf16 × Vec Ideal S8x256x512 .f32 × Vec Ideal S8x1x256 .f32 × Vec Ideal S8x1x128 .f32) :
    (stAt0 m c t.val t.isLt acc).2.1 = GC m c t (ldC (k0_pay2 (F := Ideal))) ldmA := by
  funext y
  rw [stAt0_A m c t acc h0]
  dsimp only
  frame_out
  try simp (disch := decide) only [↓View.readCov_skip, View.readCov_fill, read_unread_whole]
  exact View.canon_append_of_piecesOf (GC m c t (ldC (k0_pay2 (F := Ideal))) ldmA) [_] [_, _, _, _, _, _, _, _]
    ⟨GC_emb m c t (ldC (k0_pay2 (F := Ideal))) ldmA 7, GC_emb m c t (ldC (k0_pay2 (F := Ideal))) ldmA 6, GC_emb m c t (ldC (k0_pay2 (F := Ideal))) ldmA 5, GC_emb m c t (ldC (k0_pay2 (F := Ideal))) ldmA 4, GC_emb m c t (ldC (k0_pay2 (F := Ideal))) ldmA 3, GC_emb m c t (ldC (k0_pay2 (F := Ideal))) ldmA 2, GC_emb m c t (ldC (k0_pay2 (F := Ideal))) ldmA 1, GC_emb m c t (ldC (k0_pay2 (F := Ideal))) ldmA 0, trivial⟩ y
    (View.cover_of_tiled_head _ _ _ (by rfl) y)

/-- And in the normalisers' array likewise. -/
theorem stN_A (h0 : t.val % 8 = 0) (acc : Vec Ideal S256x4096 .bf16 × Vec Ideal S8x256x512 .f32 × Vec Ideal S8x1x256 .f32 × Vec Ideal S8x1x128 .f32) :
    (stAt0 m c t.val t.isLt acc).2.2.1 = GN m c t (ldN (k0_pay3 (F := Ideal))) ldmA := by
  funext y
  rw [stAt0_A m c t acc h0]
  dsimp only
  frame_out
  try simp (disch := decide) only [↓View.readCov_skip, View.readCov_fill, read_unread_whole]
  exact View.canon_append_of_piecesOf (GN m c t (ldN (k0_pay3 (F := Ideal))) ldmA) [_] [_, _, _, _, _, _, _, _]
    ⟨GN_emb m c t (ldN (k0_pay3 (F := Ideal))) ldmA 7, GN_emb m c t (ldN (k0_pay3 (F := Ideal))) ldmA 6, GN_emb m c t (ldN (k0_pay3 (F := Ideal))) ldmA 5, GN_emb m c t (ldN (k0_pay3 (F := Ideal))) ldmA 4, GN_emb m c t (ldN (k0_pay3 (F := Ideal))) ldmA 3, GN_emb m c t (ldN (k0_pay3 (F := Ideal))) ldmA 2, GN_emb m c t (ldN (k0_pay3 (F := Ideal))) ldmA 1, GN_emb m c t (ldN (k0_pay3 (F := Ideal))) ldmA 0, trivial⟩ y
    (View.cover_of_tiled_head _ _ _ (by rfl) y)

/-- And in the stabilisers' array likewise. -/
theorem stM_A (h0 : t.val % 8 = 0) (acc : Vec Ideal S256x4096 .bf16 × Vec Ideal S8x256x512 .f32 × Vec Ideal S8x1x256 .f32 × Vec Ideal S8x1x128 .f32) :
    (stAt0 m c t.val t.isLt acc).2.2.2 = GM m c t ldmA := by
  funext y
  rw [stAt0_A m c t acc h0]
  dsimp only
  frame_out
  try simp (disch := decide) only [↓View.readCov_skip, View.readCov_fill, read_unread_whole]
  exact View.canon_append_of_piecesOf (GM m c t ldmA) [_] [_, _, _, _, _, _, _, _]
    ⟨GM_emb m c t ldmA 7, GM_emb m c t ldmA 6, GM_emb m c t ldmA 5, GM_emb m c t ldmA 4, GM_emb m c t ldmA 3, GM_emb m c t ldmA 2, GM_emb m c t ldmA 1, GM_emb m c t ldmA 0, trivial⟩ y
    (View.cover_of_tiled_head _ _ _ (by rfl) y)

/-- Any later chunk leaves in the result's block the heads' outputs from the states the chunk before left. -/
theorem stO_B (h0 : ¬t.val % 8 = 0) (acc : Vec Ideal S256x4096 .bf16 × Vec Ideal S8x256x512 .f32 × Vec Ideal S8x1x256 .f32 × Vec Ideal S8x1x128 .f32) :
    (stAt0 m c t.val t.isLt acc).1 = GO m c t (ldC acc.2.1) (ldN acc.2.2.1) (ldmB acc.2.2.2) := by
  funext y
  rw [stAt0_B m c t acc h0]
  dsimp only
  frame_out
  try simp (disch := decide) only [↓View.readCov_skip, View.readCov_fill, read_unread_whole]
  exact View.canon_append_of_piecesOf (GO m c t (ldC acc.2.1) (ldN acc.2.2.1) (ldmB acc.2.2.2)) [] [_, _, _, _, _, _, _, _]
    ⟨GO_emb m c t (ldC acc.2.1) (ldN acc.2.2.1) (ldmB acc.2.2.2) 7, GO_emb m c t (ldC acc.2.1) (ldN acc.2.2.1) (ldmB acc.2.2.2) 6, GO_emb m c t (ldC acc.2.1) (ldN acc.2.2.1) (ldmB acc.2.2.2) 5, GO_emb m c t (ldC acc.2.1) (ldN acc.2.2.1) (ldmB acc.2.2.2) 4, GO_emb m c t (ldC acc.2.1) (ldN acc.2.2.1) (ldmB acc.2.2.2) 3, GO_emb m c t (ldC acc.2.1) (ldN acc.2.2.1) (ldmB acc.2.2.2) 2, GO_emb m c t (ldC acc.2.1) (ldN acc.2.2.1) (ldmB acc.2.2.2) 1, GO_emb m c t (ldC acc.2.1) (ldN acc.2.2.1) (ldmB acc.2.2.2) 0, trivial⟩ y
    (View.cover_of_tiled_head _ _ _ (by rfl) y)

/-- And in the matrix states' array the heads' states from those. -/
theorem stC_B (h0 : ¬t.val % 8 = 0) (acc : Vec Ideal S256x4096 .bf16 × Vec Ideal S8x256x512 .f32 × Vec Ideal S8x1x256 .f32 × Vec Ideal S8x1x128 .f32) :
    (stAt0 m c t.val t.isLt acc).2.1 = GC m c t (ldC acc.2.1) (ldmB acc.2.2.2) := by
  funext y
  rw [stAt0_B m c t acc h0]
  dsimp only
  frame_out
  try simp (disch := decide) only [↓View.readCov_skip, View.readCov_fill, read_unread_whole]
  exact View.canon_append_of_piecesOf (GC m c t (ldC acc.2.1) (ldmB acc.2.2.2)) [] [_, _, _, _, _, _, _, _]
    ⟨GC_emb m c t (ldC acc.2.1) (ldmB acc.2.2.2) 7, GC_emb m c t (ldC acc.2.1) (ldmB acc.2.2.2) 6, GC_emb m c t (ldC acc.2.1) (ldmB acc.2.2.2) 5, GC_emb m c t (ldC acc.2.1) (ldmB acc.2.2.2) 4, GC_emb m c t (ldC acc.2.1) (ldmB acc.2.2.2) 3, GC_emb m c t (ldC acc.2.1) (ldmB acc.2.2.2) 2, GC_emb m c t (ldC acc.2.1) (ldmB acc.2.2.2) 1, GC_emb m c t (ldC acc.2.1) (ldmB acc.2.2.2) 0, trivial⟩ y
    (View.cover_of_tiled_head _ _ _ (by rfl) y)

/-- And in the normalisers' array likewise. -/
theorem stN_B (h0 : ¬t.val % 8 = 0) (acc : Vec Ideal S256x4096 .bf16 × Vec Ideal S8x256x512 .f32 × Vec Ideal S8x1x256 .f32 × Vec Ideal S8x1x128 .f32) :
    (stAt0 m c t.val t.isLt acc).2.2.1 = GN m c t (ldN acc.2.2.1) (ldmB acc.2.2.2) := by
  funext y
  rw [stAt0_B m c t acc h0]
  dsimp only
  frame_out
  try simp (disch := decide) only [↓View.readCov_skip, View.readCov_fill, read_unread_whole]
  exact View.canon_append_of_piecesOf (GN m c t (ldN acc.2.2.1) (ldmB acc.2.2.2)) [] [_, _, _, _, _, _, _, _]
    ⟨GN_emb m c t (ldN acc.2.2.1) (ldmB acc.2.2.2) 7, GN_emb m c t (ldN acc.2.2.1) (ldmB acc.2.2.2) 6, GN_emb m c t (ldN acc.2.2.1) (ldmB acc.2.2.2) 5, GN_emb m c t (ldN acc.2.2.1) (ldmB acc.2.2.2) 4, GN_emb m c t (ldN acc.2.2.1) (ldmB acc.2.2.2) 3, GN_emb m c t (ldN acc.2.2.1) (ldmB acc.2.2.2) 2, GN_emb m c t (ldN acc.2.2.1) (ldmB acc.2.2.2) 1, GN_emb m c t (ldN acc.2.2.1) (ldmB acc.2.2.2) 0, trivial⟩ y
    (View.cover_of_tiled_head _ _ _ (by rfl) y)

/-- And in the stabilisers' array likewise. -/
theorem stM_B (h0 : ¬t.val % 8 = 0) (acc : Vec Ideal S256x4096 .bf16 × Vec Ideal S8x256x512 .f32 × Vec Ideal S8x1x256 .f32 × Vec Ideal S8x1x128 .f32) :
    (stAt0 m c t.val t.isLt acc).2.2.2 = GM m c t (ldmB acc.2.2.2) := by
  funext y
  rw [stAt0_B m c t acc h0]
  dsimp only
  frame_out
  try simp (disch := decide) only [↓View.readCov_skip, View.readCov_fill, read_unread_whole]
  exact View.canon_append_of_piecesOf (GM m c t (ldmB acc.2.2.2)) [] [_, _, _, _, _, _, _, _]
    ⟨GM_emb m c t (ldmB acc.2.2.2) 7, GM_emb m c t (ldmB acc.2.2.2) 6, GM_emb m c t (ldmB acc.2.2.2) 5, GM_emb m c t (ldmB acc.2.2.2) 4, GM_emb m c t (ldmB acc.2.2.2) 3, GM_emb m c t (ldmB acc.2.2.2) 2, GM_emb m c t (ldmB acc.2.2.2) 1, GM_emb m c t (ldmB acc.2.2.2) 0, trivial⟩ y
    (View.cover_of_tiled_head _ _ _ (by rfl) y)

end Points
end Cert.KernelIdeal.Value
end
-- ==== Proof.Ereals.lean ====
/-
The real numbers among the extended reals: the operations of both programs take real arguments to real results.
-/
module

public import Idealize.ShloMosaic.Lib.Pipeline.ValueKit
public import Idealize.ShloMosaic.Lib.WordCmp

@[expose] public section
noncomputable section

namespace Mlstm
open Idealize.ShloMosaic

/-- A real sum, as an extended real. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The select on a causal mask. -/
theorem select_sle {L : ℕ} (hL : L ≤ 2 ^ 31) (a b : Fin L) (x y : EReal) :
    Scalar.select (IntOp.cmpi .sle (BitVec.ofNat 32 a.val) (BitVec.ofNat 32 b.val)) x y = if a.val ≤ b.val then x else y := by
  have h := WordCmp.cmpi_sle_ofNat_eq_one_iff (w := 32) (a := a.val) (b := b.val) (by have := a.isLt; omega) (by have := b.isLt; omega)
  show (if IntOp.cmpi _ _ _ = 1#1 then x else y) = _
  by_cases hab : a.val ≤ b.val
  · rw [if_pos (h.mpr hab), if_pos hab]
  · rw [if_neg (fun e => hab (h.mp e)), if_neg hab]

/-- The select on a diagonal mask. -/
theorem select_eq {L : ℕ} (hL : L ≤ 2 ^ 31) (a b : Fin L) (x y : EReal) :
    Scalar.select (IntOp.cmpi .eq (BitVec.ofNat 32 a.val) (BitVec.ofNat 32 b.val)) x y = if a = b then x else y := by
  have h : IntOp.cmpi .eq (BitVec.ofNat 32 a.val) (BitVec.ofNat 32 b.val) = 1 ↔ a = b := by
    constructor
    · intro e
      by_contra hne
      have : BitVec.ofNat 32 a.val ≠ BitVec.ofNat 32 b.val := by
        intro e'
        have := congrArg BitVec.toNat e'
        have ha := a.isLt; have hb := b.isLt
        simp only [BitVec.toNat_ofNat] at this
        rw [Nat.mod_eq_of_lt (by omega), Nat.mod_eq_of_lt (by omega)] at this
        exact hne (Fin.ext this)
      exact this (by have := e; simp only [IntOp.cmpi] at this; revert this; cases hb : (BitVec.ofNat 32 a.val == BitVec.ofNat 32 b.val) <;> simp_all)
    · rintro rfl; simp [IntOp.cmpi]
  unfold Scalar.select
  by_cases hab : a = b
  · rw [if_pos (h.mpr hab), if_pos hab]
  · rw [if_neg (fun e => hab (h.mp e)), if_neg hab]

/-- The word of minus infinity. -/
theorem ofBits_ninf : Ideal.ofBits FTy.f32 4286578688#32 = ⊥ := by
  simp [Ideal.ofBits, Ideal.ieee]

/-- The word of a sixteenth. -/
theorem ofBits_sixteenth : Ideal.ofBits FTy.f32 1031798784#32 = ((1 / 16 : ℝ) : EReal) := by
  simp [Ideal.ofBits, Ideal.ieee, -EReal.coe_mul]; norm_num

/-- The larger of two reals, as an extended real. -/
theorem coe_max (x y : ℝ) : ((max x y : ℝ) : EReal) = max (x : EReal) (y : EReal) :=
  EReal.coe_strictMono.monotone.map_max

/-- The smaller of two reals, as an extended real. -/
theorem coe_min (x y : ℝ) : ((min x y : ℝ) : EReal) = min (x : EReal) (y : EReal) :=
  EReal.coe_strictMono.monotone.map_min

/-- The larger of a real and its negation is its absolute value. -/
theorem coe_abs (x : ℝ) : max (x : EReal) (-(x : EReal)) = ((|x| : ℝ) : EReal) := by
  rw [← EReal.coe_neg, ← coe_max]; rfl

/-- The log of one plus an exponential of a real is that real number. -/
theorem coe_log1p_exp (x : ℝ) : Ideal.log1p ((Real.exp x : ℝ) : EReal) = ((Real.log (1 + Real.exp x) : ℝ) : EReal) := by
  have h : 0 < 1 + Real.exp x := by positivity
  show Ideal.log (((1 : ℝ) : EReal) + _) = _
  rw [← EReal.coe_add]
  show (if 1 + Real.exp x ≤ 0 then (⊥ : EReal) else _) = _
  rw [if_neg (not_le.mpr h)]

/-- A sum of terms over a list, taken one after the other. -/
theorem foldl_add {ι : Type} (g : ι → EReal) (l : List ι) : ∀ v : EReal, l.foldl (fun r n => r + g n) v = v + (l.map g).sum := by
  induction l with
  | nil => intro v; simp
  | cons a l ih => intro v; simp only [List.foldl_cons, List.map_cons, List.sum_cons, ih, add_assoc]

/-- A window of `N` that ends at `t`, padded with zeros before the first term, sums the terms up to `t`. -/
theorem sum_window (f : ℕ → EReal) {N : ℕ} (t : Fin N) :
    ∑ n : Fin N, (if N - 1 ≤ t.val + n.val then f (t.val + n.val - (N - 1)) else 0) = ∑ j ∈ Finset.range (t.val + 1), f j := by
  obtain ⟨t, ht⟩ := t
  obtain ⟨a, rfl⟩ : ∃ a, N = a + (t + 1) := ⟨N - (t + 1), by omega⟩
  show ∑ n : Fin (a + (t + 1)), (if a + (t + 1) - 1 ≤ t + n.val then f (t + n.val - (a + (t + 1) - 1)) else 0) = _
  rw [Fin.sum_univ_eq_sum_range (fun n => if a + (t + 1) - 1 ≤ t + n then f (t + n - (a + (t + 1) - 1)) else 0) (a + (t + 1)), Finset.sum_range_add]
  rw [Finset.sum_eq_zero, zero_add]
  · refine Finset.sum_congr rfl fun j hj => ?_
    rw [if_pos (by omega)]
    congr 1; omega
  · intro j hj
    rw [if_neg (by have := Finset.mem_range.mp hj; omega)]

end Mlstm
end
-- ==== Proof.Recurrence.lean ====
/-
  The stabilised recurrence of one head over the real numbers, in closed form at every token, and the facts that a chunk
  of any length computes the closed form at its end from the closed form at its start.
-/
module

public import Idealize.ShloMosaic.Lib.Pipeline.ValueKit

@[expose] public section
noncomputable section
namespace Mlstm
open Finset

variable (i lf : ℕ → ℝ)

/-- The log forget gates summed over the tokens before `n`. -/
def B (n : ℕ) : ℝ := ∑ s ∈ range n, lf s

/-- The stabiliser after `n` tokens. -/
def M : ℕ → ℝ
  | 0 => 0
  | n + 1 => max (lf n + M n) (i n)

/-- The weight of token `j` in the state after `n` tokens. -/
def wgt (n j : ℕ) : ℝ := Real.exp (B lf n - B lf (j + 1) + i j - M i lf n)

/-- What carries a state from token `P` to token `n`. -/
def carry (P n : ℕ) : ℝ := Real.exp (B lf n - B lf P + M i lf P - M i lf n)

section State
variable {δ ε : Type} [Fintype δ] (q k : ℕ → δ → ℝ) (v : ℕ → ε → ℝ)

/-- The matrix state after `n` tokens. -/
def Cs (n : ℕ) (d : δ) (e : ε) : ℝ := ∑ j ∈ range n, wgt i lf n j * k j d * v j e

/-- The normaliser state after `n` tokens. -/
def Ns (n : ℕ) (d : δ) : ℝ := ∑ j ∈ range n, wgt i lf n j * k j d

/-- The weighted score of token `j` for the query of token `t`. -/
def sc (t j : ℕ) : ℝ := (∑ d, q t d * k j d) * (1 / 16) * wgt i lf (t + 1) j

/-- The numerator at token `t`. -/
def num (t : ℕ) (e : ε) : ℝ := ∑ j ∈ range (t + 1), sc i lf q k t j * v j e

/-- The denominator at token `t`. -/
def den (t : ℕ) : ℝ := ∑ j ∈ range (t + 1), sc i lf q k t j

/-- The hidden state at token `t`. -/
def hid (t : ℕ) (e : ε) : ℝ := num i lf q k v t e / max |den i lf q k t| (Real.exp (-M i lf (t + 1)))

end State

/-- A running sum with one term more. -/
theorem B_succ (n : ℕ) : B lf (n + 1) = B lf n + lf n := sum_range_succ _ _

/-- A sum over the first tokens of a chunk. -/
theorem sum_masked (f : ℕ → ℝ) {L : ℕ} (t : Fin L) (P : ℕ) :
    ∑ j : Fin L, (if j.val ≤ t.val then f (P + j) else 0) = ∑ j ∈ range (t.val + 1), f (P + j) := by
  rw [Fin.sum_univ_eq_sum_range (fun j => if j ≤ t.val then f (P + j) else 0) L]
  rw [← sum_filter]
  refine sum_congr ?_ fun _ _ => rfl
  ext a; simp only [mem_filter, mem_range]; have := t.isLt; omega

/-- A running sum past `P` is a sum of the terms from `P` on. -/
theorem B_add (P n : ℕ) : B lf (P + n) - B lf P = ∑ j ∈ range n, lf (P + j) := by
  unfold B; rw [sum_range_add]; ring

/-- The running sum of the log forget gates inside a chunk. -/
theorem B_masked {L : ℕ} (t : Fin L) (P : ℕ) :
    ∑ j : Fin L, (if j.val ≤ t.val then lf (P + j) else 0) = B lf (P + t + 1) - B lf P := by
  rw [sum_masked, ← B_add]; rfl

/-- The whole chunk's sum. -/
theorem B_total (L P : ℕ) : ∑ j : Fin L, lf (P + j) = B lf (P + L) - B lf P := by
  rw [B_add, Fin.sum_univ_eq_sum_range (fun j => lf (P + j)) L]

/-- The stabiliser is at least every token's own term, -/
theorem le_M (n j : ℕ) (h : j < n) : B lf n - B lf (j + 1) + i j ≤ M i lf n := by
  induction n with
  | zero => omega
  | succ n ih =>
    rcases Nat.lt_succ_iff_lt_or_eq.mp h with h | rfl
    · have := ih h
      rw [B_succ, M]; refine le_trans ?_ (le_max_left _ _); linarith
    · rw [M, sub_self, zero_add]; exact le_max_right _ _

/-- and at least an earlier stabiliser carried forward, -/
theorem le_M' (P n : ℕ) : B lf (P + n) - B lf P + M i lf P ≤ M i lf (P + n) := by
  induction n with
  | zero => simp
  | succ n ih =>
    rw [← Nat.add_assoc, B_succ, M]; refine le_trans ?_ (le_max_left _ _); linarith

/-- and it is one of them. -/
theorem M_attained (P n : ℕ) : M i lf (P + n) = B lf (P + n) - B lf P + M i lf P ∨
    ∃ j < n, M i lf (P + n) = B lf (P + n) - B lf (P + j + 1) + i (P + j) := by
  induction n with
  | zero => left; simp
  | succ n ih =>
    rw [← Nat.add_assoc, B_succ, M]
    rcases le_total (lf (P + n) + M i lf (P + n)) (i (P + n)) with h | h
    · right; refine ⟨n, by omega, ?_⟩
      rw [max_eq_right h, B_succ]; ring
    · rw [max_eq_left h]
      rcases ih with ih | ⟨j, hj, ih⟩
      · left; rw [ih]; ring
      · right; refine ⟨j, by omega, ?_⟩; rw [ih]; ring

/-- The masked row maximum inside a chunk, with the carried stabiliser, is the stabiliser after the row's token. -/
theorem max_row {L : ℕ} (t : Fin L) (P : ℕ) :
    max (Finset.fold max (⊥ : EReal) (fun j : Fin L =>
        if j.val ≤ t.val then (((B lf (P + t + 1) - B lf P) - (B lf (P + j + 1) - B lf P) + i (P + j) : ℝ) : EReal) else ⊥) univ)
      ((B lf (P + t + 1) - B lf P + M i lf P : ℝ) : EReal) = (M i lf (P + t + 1) : ℝ) := by
  change max (univ.sup _) _ = _
  apply le_antisymm
  · refine max_le (Finset.sup_le fun j _ => ?_) ?_
    · split_ifs with h
      · have h' : j.val ≤ t.val := h
        have := le_M i lf (P + t + 1) (P + j) (by omega)
        refine EReal.coe_le_coe_iff.mpr ?_; linarith
      · exact bot_le
    · exact EReal.coe_le_coe_iff.mpr (le_M' i lf P (t + 1))
  · rcases M_attained i lf P (t + 1) with h | ⟨j, hj, h⟩
    · rw [show P + t.val + 1 = P + (t.val + 1) from rfl, h]; exact le_max_right _ _
    · refine le_trans ?_ (le_max_left _ _)
      have hjL : j < L := by have := t.isLt; omega
      refine le_trans ?_ (Finset.le_sup (mem_univ (⟨j, hjL⟩ : Fin L)))
      rw [if_pos (show (⟨j, hjL⟩ : Fin L).val ≤ t.val from Nat.lt_succ_iff.mp hj)]
      refine EReal.coe_le_coe_iff.mpr ?_
      rw [show P + t.val + 1 = P + (t.val + 1) from rfl, h]
      have e : P + (⟨j, hjL⟩ : Fin L).val = P + j := rfl
      rw [e]; linarith

/-- The chunk's maximum over its tokens, with the carried stabiliser, is the stabiliser after the chunk. -/
theorem max_chunk (L P : ℕ) :
    max ((B lf (P + L) - B lf P + M i lf P : ℝ) : EReal)
      (Finset.fold max (⊥ : EReal) (fun j : Fin L =>
        (((B lf (P + L) - B lf P) - (B lf (P + j + 1) - B lf P) + i (P + j) : ℝ) : EReal)) univ) = (M i lf (P + L) : ℝ) := by
  change max _ (univ.sup _) = _
  apply le_antisymm
  · refine max_le ?_ (Finset.sup_le fun j _ => ?_)
    · exact EReal.coe_le_coe_iff.mpr (le_M' i lf P L)
    · have := le_M i lf (P + L) (P + j) (by omega)
      refine EReal.coe_le_coe_iff.mpr ?_; linarith
  · rcases M_attained i lf P L with h | ⟨j, hj, h⟩
    · rw [h]; exact le_max_left _ _
    · refine le_trans ?_ (le_max_right _ _)
      refine le_trans ?_ (Finset.le_sup (mem_univ (⟨j, hj⟩ : Fin L)))
      refine EReal.coe_le_coe_iff.mpr ?_
      rw [h]
      have e : P + (⟨j, hj⟩ : Fin L).val = P + j := rfl
      rw [e]; linarith

/-- Carrying a token's weight from `P` tokens to `n` gives its weight after `n`. -/
theorem carry_wgt (P n j : ℕ) : carry i lf P n * wgt i lf P j = wgt i lf n j := by
  unfold carry wgt; rw [← Real.exp_add]; congr 1; ring

section State
variable {δ ε : Type} [Fintype δ] (q k : ℕ → δ → ℝ) (v : ℕ → ε → ℝ)

/-- A chunk carries the matrix state on. -/
theorem Cs_chunk (L P : ℕ) (d : δ) (e : ε) :
    carry i lf P (P + L) * Cs i lf k v P d e + ∑ j : Fin L, wgt i lf (P + L) (P + j) * k (P + j) d * v (P + j) e =
      Cs i lf k v (P + L) d e := by
  unfold Cs
  rw [sum_range_add, Fin.sum_univ_eq_sum_range (fun j => wgt i lf (P + L) (P + j) * k (P + j) d * v (P + j) e) L, mul_sum]
  congr 1
  refine sum_congr rfl fun j _ => ?_
  rw [← carry_wgt i lf P (P + L) j]; ring

/-- A chunk carries the normaliser state on. -/
theorem Ns_chunk (L P : ℕ) (d : δ) :
    carry i lf P (P + L) * Ns i lf k P d + ∑ j : Fin L, wgt i lf (P + L) (P + j) * k (P + j) d = Ns i lf k (P + L) d := by
  unfold Ns
  rw [sum_range_add, Fin.sum_univ_eq_sum_range (fun j => wgt i lf (P + L) (P + j) * k (P + j) d) L, mul_sum]
  congr 1
  refine sum_congr rfl fun j _ => ?_
  rw [← carry_wgt i lf P (P + L) j]; ring

/-- The numerator of a chunk's token, from the carried state and the tokens of the chunk. -/
theorem num_chunk {L : ℕ} (t : Fin L) (P : ℕ) (e : ε) :
    ∑ j : Fin L, (if j.val ≤ t.val then sc i lf q k (P + t) (P + j) else 0) * v (P + j) e +
      carry i lf P (P + t + 1) * (1 / 16) * ∑ d, q (P + t) d * Cs i lf k v P d e = num i lf q k v (P + t) e := by
  unfold num
  have h1 : ∀ j : Fin L, (if j.val ≤ t.val then sc i lf q k (P + t) (P + j) else 0) * v (P + j) e =
      if j.val ≤ t.val then (fun n => sc i lf q k (P + t) n * v n e) (P + j) else 0 := fun j => by split_ifs <;> simp
  rw [sum_congr rfl fun j _ => h1 j, sum_masked (fun n => sc i lf q k (P + t.val) n * v n e), Nat.add_assoc P t.val 1,
    Finset.sum_range_add (fun j => sc i lf q k (P + t.val) j * v j e) P (t.val + 1), add_comm]
  congr 1
  unfold Cs sc
  simp only [mul_sum, sum_mul]
  rw [sum_comm]
  refine Finset.sum_congr rfl fun j _ => ?_
  refine sum_congr rfl fun d _ => ?_
  rw [← carry_wgt i lf P (P + t.val + 1) j, Nat.add_assoc]; ring

/-- The denominator likewise. -/
theorem den_chunk {L : ℕ} (t : Fin L) (P : ℕ) :
    ∑ j : Fin L, (if j.val ≤ t.val then sc i lf q k (P + t) (P + j) else 0) +
      carry i lf P (P + t + 1) * (1 / 16) * ∑ d, q (P + t) d * Ns i lf k P d = den i lf q k (P + t) := by
  have := num_chunk i lf q k (fun _ (_ : Unit) => (1 : ℝ)) t P ()
  simpa [num, den, Cs, Ns] using this

end State

end Mlstm
end
-- ==== Proof.Seqs.lean ====
/-
The sequences of real numbers the mLSTM runs over: for batch `b` and head `h` the input and forget gates, the queries,
the keys and the values of the tokens, read off the two input arrays.
-/
module

public import proofs.«01_k».proof.Proof.Ereals
public import proofs.«01_k».proof.Proof.Recurrence

@[expose] public section
noncomputable section

namespace Mlstm

/-- The log-sigmoid, in the form both programs compute it. -/
def lsig (x : ℝ) : ℝ := min x 0 - Real.log (1 + Real.exp (-|x|))

/-- Token `n` of batch `b` as a row of the arrays. -/
def tok (b : Fin 4) (n : ℕ) : Fin 8192 := ⟨2048 * b.val + n % 2048, by have := b.isLt; omega⟩

variable (X : Fin 8192 → Fin 8192 → ℝ) (Y : Fin 8192 → Fin 128 → ℝ) (b : Fin 4) (h : Fin 8)

/-- The input gates. -/
def sI (n : ℕ) : ℝ := Y (tok b n) ⟨h.val, by omega⟩
/-- The forget gates before the log-sigmoid. -/
def sR (n : ℕ) : ℝ := Y (tok b n) ⟨8 + h.val, by omega⟩
/-- The log forget gates. -/
def sF (n : ℕ) : ℝ := lsig (sR Y b h n)
/-- The queries. -/
def sQ (n : ℕ) (d : Fin 256) : ℝ := X (tok b n) ⟨256 * h.val + d.val, by omega⟩
/-- The keys. -/
def sK (n : ℕ) (d : Fin 256) : ℝ := X (tok b n) ⟨2048 + 256 * h.val + d.val, by omega⟩
/-- The values. -/
def sV (n : ℕ) (e : Fin 512) : ℝ := X (tok b n) ⟨4096 + 512 * h.val + e.val, by omega⟩

/-- The hidden states. -/
def HID (n : ℕ) (e : Fin 512) : ℝ := hid (sI Y b h) (sF Y b h) (sQ X b h) (sK X b h) (sV X b h) n e
/-- The matrix states. -/
def CST (n : ℕ) (d : Fin 256) (e : Fin 512) : ℝ := Cs (sI Y b h) (sF Y b h) (sK X b h) (sV X b h) n d e
/-- The normaliser states. -/
def NST (n : ℕ) (d : Fin 256) : ℝ := Ns (sI Y b h) (sF Y b h) (sK X b h) n d
/-- The stabilisers. -/
def MST (n : ℕ) : ℝ := M (sI Y b h) (sF Y b h) n

/-- The matrix state before any token is zero. -/
theorem CST_zero (d : Fin 256) (e : Fin 512) : CST X Y b h 0 d e = 0 := by simp [CST, Cs]
/-- The normaliser before any token is zero. -/
theorem NST_zero (d : Fin 256) : NST X Y b h 0 d = 0 := by simp [NST, Ns]
/-- The stabiliser before any token is zero. -/
theorem MST_zero : MST Y b h 0 = 0 := rfl

open Idealize.ShloMosaic in
/-- One entry of a head's result: the hidden states of the token over the head's columns, brought to mean zero and
    variance one, times the norm weight, times the gate. -/
def LNT (H : Fin 512 → EReal) (w g : EReal) (e : Fin 512) : EReal :=
  (H e - Ideal.div (∑ x, H x) (Ideal.ofBits FTy.f32 1140850688#32)) *
    Ideal.rsqrt (Ideal.div (∑ x, (H x - Ideal.div (∑ x, H x) (Ideal.ofBits FTy.f32 1140850688#32)) *
        (H x - Ideal.div (∑ x, H x) (Ideal.ofBits FTy.f32 1140850688#32))) (Ideal.ofBits FTy.f32 1140850688#32) +
      Ideal.ofBits FTy.f32 925353388#32) * w * g

end Mlstm
end
-- ==== Proof.KRead.lean ====
/-
The pieces of the kernel's body for one head, read at an index, when the gates, queries, keys, values and incoming states
are those of the sequences: each is the closed form of the recurrence at the chunk.
-/
module

public import proofs.«01_k».proof.Proof.KHead
public import proofs.«01_k».proof.Proof.Seqs

@[expose] public section
set_option maxRecDepth 16384
noncomputable section

namespace Cert.KernelIdeal.Value
open Cert.KernelIdeal Cert.KernelIdeal.Gen Idealize.ShloMosaic Idealize.ShloMosaic.TcCoe Idealize.SL.Sem
open Mlstm

section Reads
variable (q k : Vec Ideal S256x256 .bf16) (v : Vec Ideal S256x512 .bf16) (ig fg : Vec Ideal S1x1x256 .f32)
  (C : Vec Ideal S1x256x512 .f32) (n : Vec Ideal S1x1x256 .f32) (mm : Vec Ideal S1x1 .f32)
  (i fr lf : ℕ → ℝ) (qr kr : ℕ → Fin 256 → ℝ) (vr : ℕ → Fin 512 → ℝ) (P : ℕ)

include fr in
/-- The log forget gates: the log sigmoid of the forget gates. -/
theorem read6 (hf : ∀ t : Fin 256, fg (ix3 0 0 t) = (fr (P + t) : ℝ)) (hlf : ∀ n, lf n = lsig (fr n)) (t : Fin 256) :
    k0_pay6 fg (ix2 0 t) = (lf (P + t) : ℝ) := by
  pointwise [k0_pay6]
  rw [hf, hlf]
  show min _ 0 - Ideal.log1p (Ideal.exp (0 - max _ _)) = _
  rw [coe_abs, zero_sub, ← EReal.coe_neg, Ideal.exp_coe, coe_log1p_exp, ← EReal.coe_zero, ← coe_min, ← EReal.coe_sub]
  rfl

variable (hl : ∀ t : Fin 256, k0_pay6 fg (ix2 0 t) = (lf (P + t) : ℝ)) (hi : ∀ t : Fin 256, ig (ix3 0 0 t) = (i (P + t) : ℝ))
  (hm : mm (ix2 0 0) = (M i lf P : ℝ))
  (hq : ∀ t d : Fin 256, q (ix2 t d) = (qr (P + t) d : ℝ)) (hk : ∀ t d : Fin 256, k (ix2 t d) = (kr (P + t) d : ℝ))
  (hv : ∀ (t : Fin 256) (e : Fin 512), v (ix2 t e) = (vr (P + t) e : ℝ))
  (hCs : ∀ (d : Fin 256) (e : Fin 512), C (ix3 0 d e) = (Cs i lf kr vr P d e : ℝ))
  (hn : ∀ d : Fin 256, n (ix3 0 0 d) = (Ns i lf kr P d : ℝ))

include hl in
/-- The running sums of the log forget gates within the chunk. -/
theorem read9 (t : Fin 256) : k0_pay9 fg (ix2 t 0) = ((B lf (P + t + 1) - B lf P : ℝ) : EReal) := by
  pointwise [k0_pay9, k0_pay7]
  simp only [hl, select_sle (show 256 ≤ 2 ^ 31 by norm_num)]
  rw [← B_masked, coe_sum]
  refine Finset.sum_congr rfl fun j _ => ?_
  split_ifs <;> rfl

include hl hi in
/-- The logarithm of token `j`'s weight at token `t`; nothing for a later `j`. -/
theorem read14 (t j : Fin 256) : k0_pay14 (k0_pay5 ig) k0_pay7 k0_pay8 (k0_pay9 fg) (k0_pay10 fg) k0_pay11 (ix2 t j) =
    if j.val ≤ t.val then (((B lf (P + t + 1) - B lf P) - (B lf (P + j + 1) - B lf P) + i (P + j) : ℝ) : EReal) else ⊥ := by
  pointwise [k0_pay14, k0_pay5, k0_pay7, k0_pay8, k0_pay10, k0_pay11]
  simp only [hi, read9 fg lf P hl, select_sle (show 256 ≤ 2 ^ 31 by norm_num), select_eq (show 256 ≤ 2 ^ 31 by norm_num), ofBits_ninf]
  rw [Finset.sum_ite_eq Finset.univ j]
  simp only [Finset.mem_univ, if_true]
  simp only [EReal.coe_add, EReal.coe_sub]

include hl hm in
/-- The logarithm of the carried state's weight at token `t`, before stabilising. -/
theorem read15 (t : Fin 256) : k0_pay15 (k0_pay9 fg) mm (ix2 t 0) = ((B lf (P + t + 1) - B lf P + M i lf P : ℝ) : EReal) := by
  pointwise [k0_pay15]
  rw [hm, read9 fg lf P hl, EReal.coe_add]

include hl hi hm in
/-- The stabiliser after token `t`. -/
theorem read16 (t : Fin 256) :
    k0_pay16 (k0_pay5 ig) k0_pay7 k0_pay8 (k0_pay9 fg) (k0_pay10 fg) k0_pay11 mm (ix2 t 0) = (M i lf (P + t + 1) : ℝ) := by
  pointwise [k0_pay16]
  simp only [read14 ig fg i lf P hl hi, read15 fg mm i lf P hl hm, ofBits_ninf]
  exact max_row i lf t P

include hl hi hm hq hk in
/-- The score of token `j` at token `t`; zero for a later `j`. -/
theorem read17 (t j : Fin 256) :
    k0_pay17 q k (k0_pay5 ig) k0_pay7 k0_pay8 (k0_pay9 fg) (k0_pay10 fg) k0_pay11 mm (ix2 t j) =
      ((if j.val ≤ t.val then sc i lf qr kr (P + t) (P + j) else 0 : ℝ) : EReal) := by
  pointwise [k0_pay17]
  simp only [read14 ig fg i lf P hl hi, read16 ig fg mm i lf P hl hi hm, ofBits_sixteenth, hq, hk, ← EReal.coe_mul, ← coe_sum]
  split_ifs with h
  · rw [← EReal.coe_sub, Ideal.exp_coe, ← EReal.coe_mul]
    unfold sc wgt
    congr 3; ring
  · simp

include hl hi hm in
/-- The carried state's weight at token `t`, scaled as the queries are. -/
theorem read18 (t : Fin 256) :
    k0_pay18 (k0_pay5 ig) k0_pay7 k0_pay8 (k0_pay9 fg) (k0_pay10 fg) k0_pay11 mm (ix2 t 0) =
      ((carry i lf P (P + t + 1) * (1 / 16) : ℝ) : EReal) := by
  pointwise [k0_pay18]
  simp only [read15 fg mm i lf P hl hm, read16 ig fg mm i lf P hl hi hm, ofBits_sixteenth]
  rw [← EReal.coe_sub, Ideal.exp_coe, ← EReal.coe_mul]
  rfl

include hl hi hm hq hk hv in
/-- The part of the numerator at token `t` that comes from the chunk itself. -/
theorem read20 (t : Fin 256) (e : Fin 512) :
    k0_pay20 q k v (k0_pay5 ig) k0_pay7 k0_pay8 (k0_pay9 fg) (k0_pay10 fg) k0_pay11 mm (ix2 t e) =
      ((∑ j : Fin 256, (if j.val ≤ t.val then sc i lf qr kr (P + t) (P + j) else 0) * vr (P + j) e : ℝ) : EReal) := by
  pointwise [k0_pay20]
  simp only [read17 q k ig fg mm i lf qr kr P hl hi hm hq hk, hv, ← EReal.coe_mul, ← coe_sum]

include hl hi hm hq hk hv hCs hn in
/-- The hidden state at token `t`. -/
theorem readH (t : Fin 256) (e : Fin 512) :
    hH q k v ig fg C n mm (ix2 t e) = (hid i lf qr kr vr (P + t) e : ℝ) := by
  unfold hH
  pointwise [k0_pay22, k0_pay21, k0_pay19]
  simp only [read17 q k ig fg mm i lf qr kr P hl hi hm hq hk, read18 ig fg mm i lf P hl hi hm, read16 ig fg mm i lf P hl hi hm,
    read20 q k v ig fg mm i lf qr kr vr P hl hi hm hq hk hv, hq, hCs, hn, ← EReal.coe_mul, ← coe_sum, ← EReal.coe_add]
  rw [num_chunk, den_chunk]
  show Ideal.div _ (max (max _ (-_)) _) = _
  have hp : max |den i lf qr kr (P + t)| (Real.exp (-M i lf (P + t + 1))) ≠ 0 :=
    ne_of_gt (lt_of_lt_of_le (Real.exp_pos _) (le_max_right _ _))
  rw [coe_abs, zero_sub, ← EReal.coe_neg, Ideal.exp_coe, ← coe_max, Ideal.div_coe hp, ← EReal.coe_mul, mul_one_div]
  rfl

include hi in
/-- The input gates, as a column. -/
theorem read12 (t : Fin 256) : k0_pay12 (k0_pay5 ig) k0_pay8 (ix2 t 0) = (i (P + t) : ℝ) := by
  pointwise [k0_pay12, k0_pay8, k0_pay5]
  simp only [hi, select_eq (show 256 ≤ 2 ^ 31 by norm_num)]
  rw [Finset.sum_ite_eq' Finset.univ t]
  simp only [Finset.mem_univ, if_true]

include hl in
/-- The sum of the chunk's log forget gates. -/
theorem read13 : k0_pay13 (k0_pay6 fg) (ix2 0 0) = ((B lf (P + 256) - B lf P : ℝ) : EReal) := by
  pointwise [k0_pay13]
  simp only [hl]
  rw [← B_total, coe_sum]

include hl hi in
/-- The logarithm of token `t`'s weight at the chunk's end. -/
theorem read23 (t : Fin 256) : k0_pay23 (k0_pay9 fg) (k0_pay12 (k0_pay5 ig) k0_pay8) (k0_pay13 (k0_pay6 fg)) (ix2 t 0) =
    (((B lf (P + 256) - B lf P) - (B lf (P + t + 1) - B lf P) + i (P + t) : ℝ) : EReal) := by
  pointwise [k0_pay23]
  rw [read9 fg lf P hl, read12 ig i P hi, read13 fg lf P hl, EReal.coe_add, ← EReal.coe_sub]

include hl hi hm in
/-- The stabiliser at the chunk's end. -/
theorem read24 : k0_pay24 (k0_pay9 fg) (k0_pay12 (k0_pay5 ig) k0_pay8) (k0_pay13 (k0_pay6 fg)) mm (ix2 0 0) =
    (M i lf (P + 256) : ℝ) := by
  pointwise [k0_pay24]
  simp only [read23 ig fg i lf P hl hi, read13 fg lf P hl, hm, ofBits_ninf, ← EReal.coe_add]
  exact max_chunk i lf 256 P

include hl hi hm in
/-- The carried state's weight at the chunk's end. -/
theorem read25 : k0_pay25 (k0_pay9 fg) (k0_pay12 (k0_pay5 ig) k0_pay8) (k0_pay13 (k0_pay6 fg)) mm (ix2 0 0) =
    (carry i lf P (P + 256) : ℝ) := by
  pointwise [k0_pay25]
  simp only [read24 ig fg mm i lf P hl hi hm, read13 fg lf P hl, hm, ← EReal.coe_add]
  rw [← EReal.coe_sub, Ideal.exp_coe]
  rfl

include hl hi hm hk in
/-- Token `t`'s key times its weight at the chunk's end. -/
theorem read26 (t d : Fin 256) : k0_pay26 k (k0_pay9 fg) (k0_pay12 (k0_pay5 ig) k0_pay8) (k0_pay13 (k0_pay6 fg)) mm (ix2 t d) =
    ((wgt i lf (P + 256) (P + t) * kr (P + t) d : ℝ) : EReal) := by
  pointwise [k0_pay26]
  simp only [read24 ig fg mm i lf P hl hi hm, read23 ig fg i lf P hl hi, hk]
  rw [← EReal.coe_sub, Ideal.exp_coe, ← EReal.coe_mul]
  unfold wgt
  congr 3; ring

include hl hi hm hk hv hCs in
/-- The matrix state at the chunk's end. -/
theorem readC (d : Fin 256) (e : Fin 512) : hC k v ig fg C mm (ix3 0 d e) = (Cs i lf kr vr (P + 256) d e : ℝ) := by
  unfold hC
  pointwise [k0_pay27, k0_pay19]
  simp only [read25 ig fg mm i lf P hl hi hm, read26 k ig fg mm i lf kr P hl hi hm hk, hv, hCs, ← EReal.coe_mul, ← coe_sum, ← EReal.coe_add]
  rw [← Cs_chunk]

include hl hi hm hk hn in
/-- The normaliser at the chunk's end. -/
theorem readN (d : Fin 256) : hN k ig fg n mm (ix3 0 0 d) = (Ns i lf kr (P + 256) d : ℝ) := by
  unfold hN
  pointwise [k0_pay28]
  simp only [read25 ig fg mm i lf P hl hi hm, read26 k ig fg mm i lf kr P hl hi hm hk, hn, ← EReal.coe_mul, ← coe_sum, ← EReal.coe_add]
  rw [← Ns_chunk]

include hl hi hm in
/-- The stabiliser at the chunk's end, as stored. -/
theorem readM (x : Fin 128) : hM ig fg mm (ix3 0 0 x) = (M i lf (P + 256) : ℝ) := by
  unfold hM
  pointwise [k0_pay29]
  simp only [read24 ig fg mm i lf P hl hi hm]

end Reads
end Cert.KernelIdeal.Value
end
-- ==== Proof.KFold.lean ====
/- What the mLSTM kernel reads at a grid point, out of its arguments. -/
module

public import proofs.«01_k».proof.Proof.KRead

@[expose] public section
set_option maxRecDepth 16384
noncomputable section

namespace Cert.KernelIdeal.Value
open Cert.KernelIdeal Cert.KernelIdeal.Gen Idealize.ShloMosaic Idealize.ShloMosaic.TcCoe Idealize.SL.Sem
open Mlstm

variable (m : (ℓ : Loc nD τ sig) → Buf (Elt Ideal) ℓ)

/-- The printed index maps, over the grid. -/
theorem idx : ∀ t : Fin cfg0.N, (win0_0.index t 0 = t.val ∧ win0_0.index t 1 = 0) ∧ (win0_1.index t 0 = t.val ∧ win0_1.index t 1 = 1)
    ∧ (win0_2.index t 0 = t.val ∧ win0_2.index t 1 = 1) ∧ (win0_3.index t 0 = t.val / 8 ∧ win0_3.index t 1 = 0 ∧ win0_3.index t 2 = t.val % 8)
    ∧ (win0_4.index t 0 = t.val ∧ win0_4.index t 1 = 0) ∧ (win0_5.index t 0 = 0 ∧ win0_5.index t 1 = 0) :=
  (by decide +kernel : ∀ t : Fin grid0.N, _)

/-- There are 32 grid points. -/
theorem lt32 (t : Fin cfg0.N) : t.val < 32 := lt_of_lt_of_eq t.isLt N_0

/-- Where a head's input gates begin in the gates' block. -/
theorem offI (t : Fin cfg0.N) (h : Fin 8) : k0_off1 (grid0.coords t) (BitVec.ofNat 32 h.val) = ![0, h.val, 0] := by
  revert t h; exact (by decide +kernel : ∀ (t : Fin grid0.N) (h : Fin 8), k0_off1 (grid0.coords t) (BitVec.ofNat 32 h.val) = ![0, h.val, 0])
/-- Where a head's forget gates begin in the gates' block. -/
theorem offF (t : Fin cfg0.N) (h : Fin 8) : k0_off2 (grid0.coords t) (BitVec.ofNat 32 h.val) = ![0, 8 + h.val, 0] := by
  revert t h; exact (by decide +kernel : ∀ (t : Fin grid0.N) (h : Fin 8), k0_off2 (grid0.coords t) (BitVec.ofNat 32 h.val) = ![0, 8 + h.val, 0])

section Reads
variable (c : Dev nD) (t : Fin cfg0.N) (h : Fin 8)

/-- Head `h`'s queries at point `t` are columns of the projection's rows of the chunk. -/
theorem ldq_read (a d : Fin 256) : ldq m c t h (ix2 a d) =
    m ((c : Thread nD τ).loc main_arg0) (ix2 (⟨256 * t.val + a.val, by have := lt32 t; omega⟩ : Fin 8192) (⟨256 * h.val + d.val, by omega⟩ : Fin 8192)) := by
  unfold ldq
  blk_point [iblk, V, idx t]

/-- So are its keys. -/
theorem ldk_read (a d : Fin 256) : ldk m c t h (ix2 a d) =
    m ((c : Thread nD τ).loc main_arg0) (ix2 (⟨256 * t.val + a.val, by have := lt32 t; omega⟩ : Fin 8192) (⟨2048 + 256 * h.val + d.val, by omega⟩ : Fin 8192)) := by
  unfold ldk
  blk_point [iblk, V, idx t]

/-- So are its values. -/
theorem ldv_read (a : Fin 256) (e : Fin 512) : ldv m c t h (ix2 a e) =
    m ((c : Thread nD τ).loc main_arg0) (ix2 (⟨256 * t.val + a.val, by have := lt32 t; omega⟩ : Fin 8192) (⟨4096 + 512 * h.val + e.val, by omega⟩ : Fin 8192)) := by
  unfold ldv
  blk_point [iblk, V, idx t]

/-- Its output gate is columns of the gate's rows of the chunk. -/
theorem ldg_read (a : Fin 256) (e : Fin 512) : ldg m c t h (ix2 a e) =
    m ((c : Thread nD τ).loc main_arg2) (ix2 (⟨256 * t.val + a.val, by have := lt32 t; omega⟩ : Fin 8192) (⟨512 * h.val + e.val, by omega⟩ : Fin 4096)) := by
  unfold ldg
  blk_point [iblk, V, idx t]

/-- Its norm weights are columns of the weight. -/
theorem ldw_read (e : Fin 512) : ldw m c t h (ix2 0 e) =
    m ((c : Thread nD τ).loc main_arg3) (ix1 (⟨512 * h.val + e.val, by omega⟩ : Fin 4096)) := by
  have key : ∀ X : FVec Ideal S1x4096 .f32, View.ld (View.read (Elt Ideal) ((cfg0.win 5).blk t).view X)
      (Rect.unit (s := S1x4096) ![0, 512 * h.val] ![1, 512] (inbW h)) (ix2 0 e) = X (ix2 (0 : Fin 1) (⟨512 * h.val + e.val, by omega⟩ : Fin 4096)) := by
    intro X; show X _ = X _; blk_ext [idx t]
    all_goals simp [LoadRect.idx, Rect.unit, Rect.toLoadRect, ix2]
    all_goals omega
  unfold ldw
  blk_simp [iblk, V, idx t]
  entry_read
  refine (key _).trans ?_
  pointwise []
  all_goals blk_point [idx t]

/-- Its input gates are a column of the gates' rows of the chunk. -/
theorem ldi_read (a : Fin 256) : ldi m c t h (ix3 0 0 a) =
    m ((c : Thread nD τ).loc main_arg1) (ix2 (⟨256 * t.val + a.val, by have := lt32 t; omega⟩ : Fin 8192) (⟨h.val, by omega⟩ : Fin 128)) := by
  have key : ∀ X : FVec Ideal S4x16x2048 .f32, View.ld (View.read (Elt Ideal) ((cfg0.win 3).blk t).view X)
      (Rect.unit (s := S1x16x256) (k0_off1 (grid0.coords t) (BitVec.ofNat 32 h.val)) S1x1x256.size (k0_off1_inb _ h)) (ix3 0 0 a) =
      X (ix3 (⟨t.val / 8, by have := lt32 t; omega⟩ : Fin 4) (⟨h.val, by omega⟩ : Fin 16) (⟨256 * (t.val % 8) + a.val, by omega⟩ : Fin 2048)) := by
    intro X; show X _ = X _; blk_ext [idx t, offI t h]
    all_goals simp [LoadRect.idx, Rect.unit, Rect.toLoadRect, offI t h, ix3]
    all_goals omega
  unfold ldi
  blk_simp [iblk, V, idx t]
  entry_read
  refine (key _).trans ?_
  pointwise []
  all_goals blk_point [idx t]

/-- Its forget gates are the column eight further on. -/
theorem ldf_read (a : Fin 256) : ldf m c t h (ix3 0 0 a) =
    m ((c : Thread nD τ).loc main_arg1) (ix2 (⟨256 * t.val + a.val, by have := lt32 t; omega⟩ : Fin 8192) (⟨8 + h.val, by omega⟩ : Fin 128)) := by
  have key : ∀ X : FVec Ideal S4x16x2048 .f32, View.ld (View.read (Elt Ideal) ((cfg0.win 3).blk t).view X)
      (Rect.unit (s := S1x16x256) (k0_off2 (grid0.coords t) (BitVec.ofNat 32 h.val)) S1x1x256.size (k0_off2_inb _ h)) (ix3 0 0 a) =
      X (ix3 (⟨t.val / 8, by have := lt32 t; omega⟩ : Fin 4) (⟨8 + h.val, by omega⟩ : Fin 16) (⟨256 * (t.val % 8) + a.val, by omega⟩ : Fin 2048)) := by
    intro X; show X _ = X _; blk_ext [idx t, offF t h]
    all_goals simp [LoadRect.idx, Rect.unit, Rect.toLoadRect, offF t h, ix3]
    all_goals omega
  unfold ldf
  blk_simp [iblk, V, idx t]
  entry_read
  refine (key _).trans ?_
  pointwise []
  all_goals blk_point [idx t]

end Reads
end Cert.KernelIdeal.Value
end
-- ==== Proof.KStep.lean ====
/-
One grid point of the kernel: if the eight heads' states coming in are those after the tokens before the chunk, the
states going out are those after the chunk's tokens, and the result rows are the head's hidden states normalised and gated.
-/
module

public import proofs.«01_k».proof.Proof.KFold

@[expose] public section
set_option maxRecDepth 16384
noncomputable section

namespace Cert.KernelIdeal.Value
open Cert.KernelIdeal Cert.KernelIdeal.Gen Idealize.ShloMosaic Idealize.ShloMosaic.TcCoe Idealize.SL.Sem
open Mlstm

section States
variable (h : Fin 8)

/-- A head's matrix state is its part of the array of states. -/
theorem ldC_read (A : Vec Ideal S8x256x512 .f32) (d : Fin 256) (e : Fin 512) : ldC A h (ix3 0 d e) = A (ix3 h d e) := by
  unfold ldC
  refine congrArg A ?_
  funext a; refine Fin.ext ?_
  fin_cases a <;> simp [LoadRect.idx, Rect.unit, Rect.toLoadRect, ix3]

/-- A head's normaliser is its part of the array of normalisers. -/
theorem ldN_read (A : Vec Ideal S8x1x256 .f32) (d : Fin 256) : ldN A h (ix3 0 0 d) = A (ix3 h 0 d) := by
  unfold ldN
  refine congrArg A ?_
  funext a; refine Fin.ext ?_
  fin_cases a <;> simp [LoadRect.idx, Rect.unit, Rect.toLoadRect, ix3]

/-- A head's stabiliser is read at the first place of its row. -/
theorem boxM_idx (y : (boxM h).shape.Idx) : (boxM h).idx y = ix3 h 0 0 := by
  have h0 : (y 0).val < 1 := (y 0).isLt
  have h1 : (y 1).val < 1 := (y 1).isLt
  have h2 : (y 2).val < 1 := (y 2).isLt
  funext a; refine Fin.ext ?_
  fin_cases a <;> simp [LoadRect.idx, boxM, Rect.withinL, LoadRect.consLift, Rect.unit, Rect.toLoadRect, ix3, Fin.cons] <;> omega

/-- A head's stabiliser is the first entry of its row. -/
theorem ldmB_read (A : Vec Ideal S8x1x128 .f32) (x : S1x1.Idx) : ldmB A h x = A (ix3 h 0 0) := by
  unfold ldmB
  show View.readAt (Elt Ideal) (View.whole cc0_scratch2) (boxM h) ((Memref.isWhole_whole cc0_scratch2).unread A) _ = _
  rw [View.readAt_apply, boxM_idx]
  exact congrFun ((Memref.isWhole_whole cc0_scratch2).read_unread A) _

/-- The matrix states begin at zero. -/
theorem pay2_zero (y : S8x256x512.Idx) : k0_pay2 (F := Ideal) y = ((0 : ℝ) : EReal) := by
  pointwise [k0_pay2]
  exact EReal.coe_zero.symm
/-- The normalisers begin at zero. -/
theorem pay3_zero (y : S8x1x256.Idx) : k0_pay3 (F := Ideal) y = ((0 : ℝ) : EReal) := by
  pointwise [k0_pay3]
  exact EReal.coe_zero.symm
/-- The stabilisers begin at zero. -/
theorem pay4_zero (y : S8x1x128.Idx) : k0_pay4 (F := Ideal) y = ((0 : ℝ) : EReal) := by
  pointwise [k0_pay4]
  exact EReal.coe_zero.symm

/-- A stabiliser read at a batch's first chunk is zero. -/
theorem ldmA_read (x : S1x1.Idx) : ldmA h x = ((0 : ℝ) : EReal) := by
  unfold ldmA
  rw [View.readCov_eq_canon']
  show View.canon _ ((boxM h).idx _) = _
  rw [boxM_idx]
  refine (congrFun (View.canon_cons_unit_lit (S := S8x1x128) (Val := Elt Ideal) (e := .f32) (off := ![0, 0, 0]) inb_S8x1x128_S8x1x128_0_0_0
    (k0_pay4 (F := Ideal)) [] (by decide)) _).trans ?_
  exact pay4_zero _

end States

section Step
variable (m : (ℓ : Loc nD τ sig) → Buf (Elt Ideal) ℓ) (c : Dev nD) (t : Fin cfg0.N)
  (X : Fin 8192 → Fin 8192 → ℝ) (Y : Fin 8192 → Fin 128 → ℝ)
  (hX : ∀ r s, m ((c : Thread nD τ).loc main_arg0) (ix2 r s) = ((X r s : ℝ) : EReal))
  (hY : ∀ r s, m ((c : Thread nD τ).loc main_arg1) (ix2 r s) = ((Y r s : ℝ) : EReal))
  (C : Fin 8 → Vec Ideal S1x256x512 .f32) (n : Fin 8 → Vec Ideal S1x1x256 .f32) (mm : Fin 8 → Vec Ideal S1x1 .f32)

/-- The batch of a grid point. -/
def bt : Fin 4 := ⟨t.val / 8, by have := lt32 t; omega⟩
/-- The number of tokens before the chunk of a grid point. -/
def pt : ℕ := 256 * (t.val % 8)

/-- Token `a` of the chunk at point `t` is row `256 t + a` of the arrays. -/
theorem tok_pt (a : Fin 256) : tok (bt t) (pt t + a.val) = ⟨256 * t.val + a.val, by have := lt32 t; omega⟩ := by
  refine Fin.ext ?_
  show 2048 * (t.val / 8) + (256 * (t.val % 8) + a.val) % 2048 = 256 * t.val + a.val
  omega

variable (hC0 : ∀ h d e, C h (ix3 0 d e) = (CST X Y (bt t) h (pt t) d e : ℝ))
  (hN0 : ∀ h d, n h (ix3 0 0 d) = (NST X Y (bt t) h (pt t) d : ℝ))
  (hM0 : ∀ h, mm h (ix2 0 0) = (MST Y (bt t) h (pt t) : ℝ))

include hX in
/-- The queries at point `t` are the sequence's. -/
theorem rq (h : Fin 8) (a d : Fin 256) : ldq m c t h (ix2 a d) = (sQ X (bt t) h (pt t + a) d : ℝ) := by
  rw [ldq_read, hX, sQ, tok_pt]
include hX in
/-- The keys at point `t` are the sequence's. -/
theorem rk (h : Fin 8) (a d : Fin 256) : ldk m c t h (ix2 a d) = (sK X (bt t) h (pt t + a) d : ℝ) := by
  rw [ldk_read, hX, sK, tok_pt]
include hX in
/-- The values at point `t` are the sequence's. -/
theorem rv (h : Fin 8) (a : Fin 256) (e : Fin 512) : ldv m c t h (ix2 a e) = (sV X (bt t) h (pt t + a) e : ℝ) := by
  rw [ldv_read, hX, sV, tok_pt]
include hY in
/-- The input gates at point `t` are the sequence's. -/
theorem ri (h : Fin 8) (a : Fin 256) : ldi m c t h (ix3 0 0 a) = (sI Y (bt t) h (pt t + a) : ℝ) := by
  rw [ldi_read, hY, sI, tok_pt]
include hY in
/-- The log forget gates at point `t` are the sequence's. -/
theorem rf (h : Fin 8) (a : Fin 256) : k0_pay6 (ldf m c t h) (ix2 0 a) = (sF Y (bt t) h (pt t + a) : ℝ) := by
  refine read6 (ldf m c t h) (sR Y (bt t) h) (sF Y (bt t) h) (pt t) (fun a => ?_) (fun _ => rfl) a
  rw [ldf_read, hY, sR, tok_pt]

include hX hY hC0 hM0 in
/-- The chunk takes the matrix states after `pt t` tokens to those after `pt t + 256`. -/
theorem stepC (h : Fin 8) (d : Fin 256) (e : Fin 512) : GC m c t C mm (ix3 h d e) = (CST X Y (bt t) h (pt t + 256) d e : ℝ) :=
  readC (ldk m c t h) (ldv m c t h) (ldi m c t h) (ldf m c t h) (C h) (mm h) (sI Y (bt t) h) (sF Y (bt t) h)
    (sK X (bt t) h) (sV X (bt t) h) (pt t) (rf m c t Y hY h) (ri m c t Y hY h) (hM0 h) (rk m c t X hX h) (rv m c t X hX h) (hC0 h) d e

include hX hY hN0 hM0 in
/-- It takes the normalisers likewise. -/
theorem stepN (h : Fin 8) (d : Fin 256) : GN m c t n mm (ix3 h 0 d) = (NST X Y (bt t) h (pt t + 256) d : ℝ) :=
  readN (ldk m c t h) (ldi m c t h) (ldf m c t h) (n h) (mm h) (sI Y (bt t) h) (sF Y (bt t) h)
    (sK X (bt t) h) (pt t) (rf m c t Y hY h) (ri m c t Y hY h) (hM0 h) (rk m c t X hX h) (hN0 h) d

include hY hM0 in
/-- It takes the stabilisers likewise. -/
theorem stepM (h : Fin 8) (x : Fin 128) : GM m c t mm (ix3 h 0 x) = (MST Y (bt t) h (pt t + 256) : ℝ) :=
  readM (ldi m c t h) (ldf m c t h) (mm h) (sI Y (bt t) h) (sF Y (bt t) h) (pt t) (rf m c t Y hY h) (ri m c t Y hY h) (hM0 h) x

include hX hY hC0 hN0 hM0 in
/-- Its hidden states are the sequence's. -/
theorem stepH (h : Fin 8) (a : Fin 256) (e : Fin 512) :
    hH (ldq m c t h) (ldk m c t h) (ldv m c t h) (ldi m c t h) (ldf m c t h) (C h) (n h) (mm h) (ix2 a e) = (HID X Y (bt t) h (pt t + a) e : ℝ) :=
  readH (ldq m c t h) (ldk m c t h) (ldv m c t h) (ldi m c t h) (ldf m c t h) (C h) (n h) (mm h) (sI Y (bt t) h) (sF Y (bt t) h)
    (sQ X (bt t) h) (sK X (bt t) h) (sV X (bt t) h) (pt t) (rf m c t Y hY h) (ri m c t Y hY h) (hM0 h) (rq m c t X hX h) (rk m c t X hX h)
    (rv m c t X hX h) (hC0 h) (hN0 h) a e

/-- The body's last part, at an index. -/
theorem tail (H : FVec Ideal S256x512 .f32) (w : Vec Ideal S1x512 .f32) (g : Vec Ideal S256x512 .bf16) (a : Fin 256) (e : Fin 512) :
    k0_pay30 H w g (ix2 a e) = LNT (fun x => H (ix2 a x)) (w (ix2 0 e)) (g (ix2 a e)) e := by
  pointwise [k0_pay30]
  rfl

include hX hY hC0 hN0 hM0 in
/-- What it leaves in the result's block is the norm and gate of the sequence's hidden states. -/
theorem stepO (h : Fin 8) (a : Fin 256) (e : Fin 512) :
    GO m c t C n mm (ix2 a (⟨512 * h.val + e.val, by omega⟩ : Fin 4096)) =
      LNT (fun x => ((HID X Y (bt t) h (pt t + a) x : ℝ) : EReal))
        (m ((c : Thread nD τ).loc main_arg3) (ix1 (⟨512 * h.val + e.val, by omega⟩ : Fin 4096)))
        (m ((c : Thread nD τ).loc main_arg2) (ix2 (⟨256 * t.val + a.val, by have := lt32 t; omega⟩ : Fin 8192) (⟨512 * h.val + e.val, by omega⟩ : Fin 4096))) e := by
  have e1 : (⟨(512 * h.val + e.val) / 512, by omega⟩ : Fin 8) = h := Fin.ext (by show _ / 512 = _; omega)
  have e2 : (⟨(512 * h.val + e.val) % 512, Nat.mod_lt _ (by norm_num)⟩ : Fin 512) = e := Fin.ext (by show _ % 512 = _; omega)
  have key : GO m c t C n mm (ix2 a (⟨512 * h.val + e.val, by omega⟩ : Fin 4096)) =
      hO (ldq m c t h) (ldk m c t h) (ldv m c t h) (ldi m c t h) (ldf m c t h) (C h) (n h) (mm h) (ldw m c t h) (ldg m c t h) (ix2 a e) := by
    show hO _ _ _ _ _ _ _ _ _ _ (ix2 a (⟨(512 * h.val + e.val) % 512, _⟩ : Fin 512)) = _
    rw [e2]
    exact congrArg (fun h' => hO (ldq m c t h') (ldk m c t h') (ldv m c t h') (ldi m c t h') (ldf m c t h') (C h') (n h') (mm h')
      (ldw m c t h') (ldg m c t h') (ix2 a e)) e1
  rw [key, hO, tail, ldw_read, ldg_read]
  simp only [stepH m c t X Y hX hY C n mm hC0 hN0 hM0]

end Step
end Cert.KernelIdeal.Value
end
-- ==== Proof.KSum.lean ====
/-
The kernel's result: by induction over the grid points the states after a point are those after its chunk's tokens, so the
result array holds, for every token and head, the hidden state normalised and gated.
-/
module

public import proofs.«01_k».proof.Proof.KStep

@[expose] public section
set_option maxRecDepth 16384
noncomputable section

namespace Cert.KernelIdeal.Value
open Cert.KernelIdeal Cert.KernelIdeal.Gen Idealize.ShloMosaic Idealize.ShloMosaic.TcCoe Idealize.SL.Sem
open Mlstm

variable (m : (ℓ : Loc nD τ sig) → Buf (Elt Ideal) ℓ) (c : Dev nD)
  (X : Fin 8192 → Fin 8192 → ℝ) (Y : Fin 8192 → Fin 128 → ℝ)
  (hX : ∀ r s, m ((c : Thread nD τ).loc main_arg0) (ix2 r s) = ((X r s : ℝ) : EReal))
  (hY : ∀ r s, m ((c : Thread nD τ).loc main_arg1) (ix2 r s) = ((Y r s : ℝ) : EReal))

/-- What the kernel carries: its result block and the three states. -/
abbrev Acc := Vec Ideal S256x4096 .bf16 × Vec Ideal S8x256x512 .f32 × Vec Ideal S8x1x256 .f32 × Vec Ideal S8x1x128 .f32

/-- The states are those of batch `b` after `P` tokens. -/
def Holds (b : Fin 4) (P : ℕ) (acc : Acc) : Prop :=
  (∀ h d e, acc.2.1 (ix3 h d e) = (CST X Y b h P d e : ℝ)) ∧ (∀ h d, acc.2.2.1 (ix3 h 0 d) = (NST X Y b h P d : ℝ))
    ∧ ∀ h x, acc.2.2.2 (ix3 h 0 x) = (MST Y b h P : ℝ)

/-- The result block is the one of point `t`. -/
def Gives (t : Fin cfg0.N) (acc : Acc) : Prop := ∀ (h : Fin 8) (a : Fin 256) (e : Fin 512),
  acc.1 (ix2 a (⟨512 * h.val + e.val, by omega⟩ : Fin 4096)) =
      LNT (fun x => ((HID X Y (bt t) h (pt t + a) x : ℝ) : EReal))
        (m ((c : Thread nD τ).loc main_arg3) (ix1 (⟨512 * h.val + e.val, by omega⟩ : Fin 4096)))
        (m ((c : Thread nD τ).loc main_arg2) (ix2 (⟨256 * t.val + a.val, by have := lt32 t; omega⟩ : Fin 8192) (⟨512 * h.val + e.val, by omega⟩ : Fin 4096))) e

include hX hY in
/-- A batch's first point starts from zero states, whatever was carried. -/
theorem first (t : Fin cfg0.N) (h0 : t.val % 8 = 0) (acc : Acc) :
    Holds X Y (bt t) (pt t + 256) (stAt0 m c t.val t.isLt acc) ∧ Gives m c X Y t (stAt0 m c t.val t.isLt acc) := by
  have hp : pt t = 0 := by show 256 * (t.val % 8) = 0; rw [h0]
  have hC0 : ∀ h d e, ldC (k0_pay2 (F := Ideal)) h (ix3 0 d e) = (CST X Y (bt t) h (pt t) d e : ℝ) := fun h d e => by
    rw [ldC_read, hp, CST_zero, pay2_zero]
  have hN0 : ∀ h d, ldN (k0_pay3 (F := Ideal)) h (ix3 0 0 d) = (NST X Y (bt t) h (pt t) d : ℝ) := fun h d => by
    rw [ldN_read, hp, NST_zero, pay3_zero]
  have hM0 : ∀ h, ldmA h (ix2 0 0) = (MST Y (bt t) h (pt t) : ℝ) := fun h => by
    rw [ldmA_read, hp, MST_zero]
  refine ⟨⟨fun h d e => ?_, fun h d => ?_, fun h x => ?_⟩, fun h a e => ?_⟩
  · rw [stC_A m c t h0 acc]; exact stepC m c t X Y hX hY _ _ hC0 hM0 h d e
  · rw [stN_A m c t h0 acc]; exact stepN m c t X Y hX hY _ _ hN0 hM0 h d
  · rw [stM_A m c t h0 acc]; exact stepM m c t Y hY _ hM0 h x
  · rw [stO_A m c t h0 acc]; exact stepO m c t X Y hX hY _ _ _ hC0 hN0 hM0 h a e

include hX hY in
/-- Every other point goes on from the states it finds. -/
theorem later (t : Fin cfg0.N) (h0 : ¬t.val % 8 = 0) (acc : Acc) (hacc : Holds X Y (bt t) (pt t) acc) :
    Holds X Y (bt t) (pt t + 256) (stAt0 m c t.val t.isLt acc) ∧ Gives m c X Y t (stAt0 m c t.val t.isLt acc) := by
  obtain ⟨aC, aN, aM⟩ := hacc
  have hC0 : ∀ h d e, ldC acc.2.1 h (ix3 0 d e) = (CST X Y (bt t) h (pt t) d e : ℝ) := fun h d e => by
    rw [ldC_read, aC]
  have hN0 : ∀ h d, ldN acc.2.2.1 h (ix3 0 0 d) = (NST X Y (bt t) h (pt t) d : ℝ) := fun h d => by
    rw [ldN_read, aN]
  have hM0 : ∀ h, ldmB acc.2.2.2 h (ix2 0 0) = (MST Y (bt t) h (pt t) : ℝ) := fun h => by
    rw [ldmB_read, aM]
  refine ⟨⟨fun h d e => ?_, fun h d => ?_, fun h x => ?_⟩, fun h a e => ?_⟩
  · rw [stC_B m c t h0 acc]; exact stepC m c t X Y hX hY _ _ hC0 hM0 h d e
  · rw [stN_B m c t h0 acc]; exact stepN m c t X Y hX hY _ _ hN0 hM0 h d
  · rw [stM_B m c t h0 acc]; exact stepM m c t Y hY _ hM0 h x
  · rw [stO_B m c t h0 acc]; exact stepO m c t X Y hX hY _ _ _ hC0 hN0 hM0 h a e

include hX hY in
/-- Over the grid. -/
theorem all : ∀ (n : ℕ) (hn : n < cfg0.N),
    Holds X Y (bt ⟨n, hn⟩) (pt ⟨n, hn⟩ + 256) (outsAt0 m c n hn) ∧ Gives m c X Y ⟨n, hn⟩ (outsAt0 m c n hn) := by
  intro n
  induction n with
  | zero =>
    intro hn
    rw [outsAt0_zero m c hn]
    exact first m c X Y hX hY ⟨0, hn⟩ rfl junk0
  | succ n ih =>
    intro hn
    rw [outsAt0_succ m c n hn]
    by_cases h0 : (n + 1) % 8 = 0
    · exact first m c X Y hX hY ⟨n + 1, hn⟩ h0 _
    · refine later m c X Y hX hY ⟨n + 1, hn⟩ h0 _ ?_
      have hb : bt ⟨n + 1, hn⟩ = bt ⟨n, by omega⟩ := Fin.ext (by show (n + 1) / 8 = n / 8; omega)
      have hp : pt ⟨n + 1, hn⟩ = pt ⟨n, by omega⟩ + 256 := by show 256 * ((n + 1) % 8) = 256 * (n % 8) + 256; omega
      rw [hb, hp]
      exact (ih (by omega)).1

include hX hY in
/-- The kernel's result, for token `n` of batch `b`, at column `e` of head `h`. -/
theorem result (b : Fin 4) (n : Fin 2048) (h : Fin 8) (e : Fin 512) :
    G6 m c (ix2 (tok b n) (⟨512 * h.val + e.val, by omega⟩ : Fin 4096)) =
      LNT (fun x => ((HID X Y b h n x : ℝ) : EReal)) (m ((c : Thread nD τ).loc main_arg3) (ix1 (⟨512 * h.val + e.val, by omega⟩ : Fin 4096)))
        (m ((c : Thread nD τ).loc main_arg2) (ix2 (tok b n) (⟨512 * h.val + e.val, by omega⟩ : Fin 4096))) e := by
  have hN : cfg0.N = 32 := N_0
  have hr : (tok b n).val = 2048 * b.val + n.val := by show 2048 * b.val + n.val % 2048 = _; omega
  have hT : 8 * b.val + n.val / 256 < cfg0.N := by omega
  have hpt : pt6Of (ix2 (tok b n) (⟨512 * h.val + e.val, by omega⟩ : Fin 4096)) = 8 * b.val + n.val / 256 := by
    show 1 * ((tok b n).val / 256 - 0) + 1 * ((512 * h.val + e.val) / 4096 - 0) = _
    omega
  have hloc : loc6Of (ix2 (tok b n) (⟨512 * h.val + e.val, by omega⟩ : Fin 4096)) =
      ix2 (⟨n.val % 256, Nat.mod_lt _ (by norm_num)⟩ : Fin 256) (⟨512 * h.val + e.val, by omega⟩ : Fin 4096) := by
    funext a; refine Fin.ext ?_
    fin_cases a
    · show (tok b n).val % 256 = n.val % 256; omega
    · show (512 * h.val + e.val) % 4096 = _; show _ = 512 * h.val + e.val; omega
  unfold G6
  rw [dif_pos (by rw [hpt]; exact hT)]
  have hs : ∀ (j : ℕ) (hj : j < cfg0.N), j = 8 * b.val + n.val / 256 →
      (Pipeline.accAt (fun n h => stAt0 m c n h junk0) (stAt0 m c) 0 j (by omega)).1 (loc6Of (ix2 (tok b n) (⟨512 * h.val + e.val, by omega⟩ : Fin 4096))) =
      (outsAt0 m c (8 * b.val + n.val / 256) hT).1 (ix2 (⟨n.val % 256, Nat.mod_lt _ (by norm_num)⟩ : Fin 256) (⟨512 * h.val + e.val, by omega⟩ : Fin 4096)) := by
    intro j hj e; subst e
    rw [outsAt0_sweep m c _ hT, hloc]
  refine (hs _ (by rw [hpt]; exact hT) hpt).trans ?_
  rw [(all m c X Y hX hY _ hT).2 h ⟨n.val % 256, Nat.mod_lt _ (by norm_num)⟩ e]
  have e1 : bt ⟨8 * b.val + n.val / 256, hT⟩ = b := Fin.ext (by show (8 * b.val + n.val / 256) / 8 = b.val; omega)
  have e2 : pt ⟨8 * b.val + n.val / 256, hT⟩ + n.val % 256 = n.val := by show 256 * ((8 * b.val + n.val / 256) % 8) + n.val % 256 = n.val; omega
  have e3 : (⟨256 * (8 * b.val + n.val / 256) + n.val % 256, by omega⟩ : Fin 8192) = tok b n := Fin.ext (by rw [hr]; show 256 * (8 * b.val + n.val / 256) + n.val % 256 = _; omega)
  simp only [e1, e2, e3]

end Cert.KernelIdeal.Value
end
-- ==== Proof.ROps.lean ====
/-
The array operations of the reference's loop, each read at an index: the slices of the trip's chunk, the running sum, the
products, the maxima, and the update of the result array.
-/
module

public import proofs.«01_k».proof.Proof.Gen.ReferenceIdeal.Run
public import proofs.«01_k».proof.Proof.Seqs

@[expose] public section
set_option maxRecDepth 16384
noncomputable section

namespace Cert.ReferenceIdeal.Value
open Cert.ReferenceIdeal Cert.ReferenceIdeal.Gen Idealize.ShloMosaic Idealize.ShloMosaic.TcCoe Idealize.SL.Sem
open Mlstm

/-- The starts of a slice of a rank-five array at row `x`. -/
abbrev st5 (x : (⟨S_, .i32⟩ : BufTy).Contents (Elt Ideal)) : Fin 5 → Int := fun k =>
  (((![x, constantI S_ 32 0#32, constantI S_ 32 0#32, constantI S_ 32 0#32, constantI S_ 32 0#32] : Fin 5 → (⟨S_, .i32⟩ : BufTy).Contents (Elt Ideal))) k (Shape.Idx.first h_S_)).toInt
/-- The starts of a slice of a rank-four array at row `x`. -/
abbrev st4 (x : (⟨S_, .i32⟩ : BufTy).Contents (Elt Ideal)) : Fin 4 → Int := fun k =>
  (((![x, constantI S_ 32 0#32, constantI S_ 32 0#32, constantI S_ 32 0#32] : Fin 4 → (⟨S_, .i32⟩ : BufTy).Contents (Elt Ideal))) k (Shape.Idx.first h_S_)).toInt

/-- A word below thirty-two, read signed. -/
theorem toInt32 : ∀ n : Fin 32, (BitVec.ofNat 32 n.val).toInt = (n.val : Int) := by decide

section
variable (x : (⟨S_, .i32⟩ : BufTy).Contents (Elt Ideal)) (n : Fin 32) (hx : x = fun _ => BitVec.ofNat 32 n.val)
include hx

/-- The starts of a rank-five slice at row `n` are `n` and zeros. -/
theorem st5_eq : ∀ k, st5 x k = ((![n.val, 0, 0, 0, 0] : Fin 5 → ℕ) k : Int) := by
  subst hx
  intro k
  fin_cases k
  · exact toInt32 n
  all_goals rfl

/-- The starts of a rank-four slice at row `n` are `n` and zeros. -/
theorem st4_eq : ∀ k, st4 x k = ((![n.val, 0, 0, 0] : Fin 4 → ℕ) k : Int) := by
  subst hx
  intro k
  fin_cases k
  · exact toInt32 n
  all_goals rfl

/-- The slice at row `n` of the queries or keys is their chunk `n`. -/
theorem sliceK (A : FVec Ideal S32x4x8x64x256 .f32) (b : Fin 4) (h : Fin 8) (t : Fin 64) (d : Fin 256) :
    shapeCast S4x8x64x256 (Host.dynamicSlice S1x4x8x64x256 A (st5 x) sliceFits_S32x4x8x64x256_S1x4x8x64x256)
      shapeCasts_S1x4x8x64x256_S4x8x64x256 (ix4 b h t d) = A (ix5 n b h t d) := by
  rw [WordCmp.dynamicSlice_eq_extract S1x4x8x64x256 A (st5 x) sliceFits_S32x4x8x64x256_S1x4x8x64x256 ![n.val, 0, 0, 0, 0]
    (by clear hx; revert n; decide) (st5_eq x n hx)]
  pointwise []

/-- The slice at row `n` of the values is their chunk `n`. -/
theorem sliceV (A : FVec Ideal S32x4x8x64x512 .f32) (b : Fin 4) (h : Fin 8) (t : Fin 64) (d : Fin 512) :
    shapeCast S4x8x64x512 (Host.dynamicSlice S1x4x8x64x512 A (st5 x) sliceFits_S32x4x8x64x512_S1x4x8x64x512)
      shapeCasts_S1x4x8x64x512_S4x8x64x512 (ix4 b h t d) = A (ix5 n b h t d) := by
  rw [WordCmp.dynamicSlice_eq_extract S1x4x8x64x512 A (st5 x) sliceFits_S32x4x8x64x512_S1x4x8x64x512 ![n.val, 0, 0, 0, 0]
    (by clear hx; revert n; decide) (st5_eq x n hx)]
  pointwise []

/-- The slice at row `n` of the gates is their chunk `n`. -/
theorem sliceG (A : FVec Ideal S32x4x8x64 .f32) (b : Fin 4) (h : Fin 8) (t : Fin 64) :
    shapeCast S4x8x64 (Host.dynamicSlice S1x4x8x64 A (st4 x) sliceFits_S32x4x8x64_S1x4x8x64)
      shapeCasts_S1x4x8x64_S4x8x64 (ix3 b h t) = A (ix4 n b h t) := by
  rw [WordCmp.dynamicSlice_eq_extract S1x4x8x64 A (st4 x) sliceFits_S32x4x8x64_S1x4x8x64 ![n.val, 0, 0, 0]
    (by clear hx; revert n; decide) (st4_eq x n hx)]
  pointwise []

/-- Writing a chunk's hidden states at row `n` changes row `n` alone. -/
theorem update (A : FVec Ideal S32x4x8x64x512 .f32) (H : FVec Ideal S4x8x64x512 .f32) (n' : Fin 32) (b : Fin 4) (h : Fin 8) (t : Fin 64) (e : Fin 512) :
    Host.dynamicUpdateSlice A (broadcastInDim S1x4x8x64x512 ![1, 2, 3, 4] bcast_S4x8x64x512_S1x4x8x64x512_1_2_3_4 H) (st5 x)
      updateFits_S32x4x8x64x512_S1x4x8x64x512 (ix5 n' b h t e) = if n' = n then H (ix4 b h t e) else A (ix5 n' b h t e) := by
  rw [WordCmp.dynamicUpdateSlice_eq_update A _ (st5 x) updateFits_S32x4x8x64x512_S1x4x8x64x512 ![n.val, 0, 0, 0, 0]
    (by clear hx; revert n; decide) (st5_eq x n hx)]
  pointwise []
  by_cases e1 : n' = n
  · subst e1; rw [dif_pos ⟨le_refl _, Nat.lt_succ_self _⟩, if_pos rfl]
  · rw [dif_neg (fun q => e1 (Fin.ext (by omega))), if_neg e1]
end

/-- Position `p` of a window along the last axis. -/
theorem symm_window : ∀ p : Fin (⟨3, ![1, 1, 64]⟩ : Shape).numel, ((⟨3, ![1, 1, 64]⟩ : Shape).rowMajor.symm p 0).val = 0 ∧
    ((⟨3, ![1, 1, 64]⟩ : Shape).rowMajor.symm p 1).val = 0 ∧ ((⟨3, ![1, 1, 64]⟩ : Shape).rowMajor.symm p 2).val = p.val := by
  decide +kernel

/-- The running sum over a chunk, at token `t`. -/
theorem cumsum (A : FVec Ideal S4x8x64 .f32) (b : Fin 4) (h : Fin 8) (f : ℕ → EReal) (hA : ∀ j : Fin 64, A (ix3 b h j) = f j.val) (t : Fin 64) :
    Host.reduceWindowAdd ![1, 1, 64] ![1, 1, 1] ![0, 0, 63] ![0, 0, 0] A (broadcastInDim S_ ![] bcast_S_S_ (constant S_ .f32 0x00000000#32))
      reduceWindows_S4x8x64_S4x8x64_w1s1p0_0_w1s1p0_0_w64s1p63_0 h_S_ (ix3 b h t) = ∑ j ∈ Finset.range (t.val + 1), f j := by
  have hz : (broadcastInDim S_ ![] bcast_S_S_ (constant (F := Ideal) S_ .f32 0x00000000#32)) (Shape.Idx.first h_S_) = (0 : EReal) := by
    pointwise []
  have ht := t.isLt
  have hb := b.isLt
  have hh := h.isLt
  show List.foldl (fun r (p : Fin (⟨3, ![1, 1, 64]⟩ : Shape).numel) => r + _) _ _ = _
  rw [foldl_add]
  rw [show (broadcastInDim S_ ![] bcast_S_S_ (constant (F := Ideal) S_ .f32 0x00000000#32)) (Shape.Idx.first h_S_) = (0 : EReal) from hz, zero_add]
  rw [← sum_window f t]
  rw [Fin.sum_univ_def]
  refine congrArg List.sum (List.map_congr_left fun p _ => ?_)
  obtain ⟨w0, w1, w2⟩ := symm_window p
  have hp : p.val < 64 := p.isLt
  split
  · next hin =>
    have h2 := hin 2
    change 63 ≤ t.val * 1 + ((⟨3, ![1, 1, 64]⟩ : Shape).rowMajor.symm p 2).val ∧ t.val * 1 + ((⟨3, ![1, 1, 64]⟩ : Shape).rowMajor.symm p 2).val - 63 < 64 at h2
    rw [w2] at h2
    rw [if_pos (show 64 - 1 ≤ t.val + p.val by omega)]
    refine (congrArg A (?_ : _ = ix3 b h (⟨t.val + p.val - 63, by omega⟩ : Fin 64))).trans (hA _)
    funext a; refine Fin.ext ?_
    match a with
    | ⟨0, _⟩ => show b.val * 1 + ((⟨3, ![1, 1, 64]⟩ : Shape).rowMajor.symm p 0).val - 0 = b.val; rw [w0]; omega
    | ⟨1, _⟩ => show h.val * 1 + ((⟨3, ![1, 1, 64]⟩ : Shape).rowMajor.symm p 1).val - 0 = h.val; rw [w1]; omega
    | ⟨2, _⟩ => show t.val * 1 + ((⟨3, ![1, 1, 64]⟩ : Shape).rowMajor.symm p 2).val - 63 = t.val + p.val - 63; rw [w2]; omega
  · next hin =>
    rw [if_neg fun hle => hin fun a => by
      match a with
      | ⟨0, _⟩ =>
        show 0 ≤ b.val * 1 + ((⟨3, ![1, 1, 64]⟩ : Shape).rowMajor.symm p 0).val ∧ b.val * 1 + ((⟨3, ![1, 1, 64]⟩ : Shape).rowMajor.symm p 0).val - 0 < 4
        rw [w0]; omega
      | ⟨1, _⟩ =>
        show 0 ≤ h.val * 1 + ((⟨3, ![1, 1, 64]⟩ : Shape).rowMajor.symm p 1).val ∧ h.val * 1 + ((⟨3, ![1, 1, 64]⟩ : Shape).rowMajor.symm p 1).val - 0 < 8
        rw [w1]; omega
      | ⟨2, _⟩ =>
        show 63 ≤ t.val * 1 + ((⟨3, ![1, 1, 64]⟩ : Shape).rowMajor.symm p 2).val ∧ t.val * 1 + ((⟨3, ![1, 1, 64]⟩ : Shape).rowMajor.symm p 2).val - 63 < 64
        rw [w2]; omega]

/-- The largest entry over a last axis of 64. -/
theorem rowmax (A : FVec Ideal S4x8x64x64 .f32) (b : Fin 4) (h : Fin 8) (t : Fin 64) :
    Host.reduce FloatOps.maximumf A (constant S_ .f32 0xFF800000#32) reducesTo_S4x8x64x64_S4x8x64_d3 h_S_ (ix3 b h t) =
      Finset.fold max ⊥ (fun j => A (ix4 b h t j)) Finset.univ := by
  pointwise []
  rw [ofBits_ninf]

/-- The largest entry of a row of 64. -/
theorem lastmax (A : FVec Ideal S4x8x64 .f32) (b : Fin 4) (h : Fin 8) :
    Host.reduce FloatOps.maximumf A (constant S_ .f32 0xFF800000#32) reducesTo_S4x8x64_S4x8_d2 h_S_ (ix2 b h) =
      Finset.fold max ⊥ (fun j => A (ix3 b h j)) Finset.univ := by
  pointwise []
  rw [ofBits_ninf]

/-- The row stabilisers. -/
theorem rowmaxM (A : FVec Ideal S4x8x64x64 .f32) (C : FVec Ideal S4x8x64 .f32) (b : Fin 4) (h : Fin 8) (t : Fin 64) :
    maximumf (Host.reduce FloatOps.maximumf A (constant S_ .f32 0xFF800000#32) reducesTo_S4x8x64x64_S4x8x64_d3 h_S_) C (ix3 b h t) =
      max (Finset.fold max ⊥ (fun j => A (ix4 b h t j)) Finset.univ) (C (ix3 b h t)) :=
  congrArg (fun z : EReal => max z (C (ix3 b h t))) (rowmax A b h t)

/-- The stabilisers carried on. -/
theorem lastmaxM (D M : FVec Ideal S4x8 .f32) (A : FVec Ideal S4x8x64 .f32) (b : Fin 4) (h : Fin 8) :
    maximumf (addf D M) (Host.reduce FloatOps.maximumf A (constant S_ .f32 0xFF800000#32) reducesTo_S4x8x64_S4x8_d2 h_S_) (ix2 b h) =
      max (D (ix2 b h) + M (ix2 b h)) (Finset.fold max ⊥ (fun j => A (ix3 b h j)) Finset.univ) :=
  congrArg (fun z : EReal => max (D (ix2 b h) + M (ix2 b h)) z) (lastmax A b h)

/-- The factor that carries a state over the chunk. -/
theorem decay (D M S : FVec Ideal S4x8 .f32) (b : Fin 4) (h : Fin 8) :
    Host.exp (subf (addf D M) S) (ix2 b h) = Ideal.exp (D (ix2 b h) + M (ix2 b h) - S (ix2 b h)) := by
  pointwise []

/-- The causal mask, at row `t` and column `j`. -/
theorem mask (t j : Fin 64) (y z : EReal) :
    Scalar.select (Scalar.select (IntOp.cmpi CmpIPredicate.sge (IntOp.addi (BitVec.ofNat 32 t.val) 0#32) (BitVec.ofNat 32 j.val)) 1#1 0#1) y z =
      if j.val ≤ t.val then y else z := by
  have h := WordCmp.cmpi_sge_ofNat_eq_one_iff (w := 32) (a := t.val) (b := j.val) (by have := t.isLt; omega) (by have := j.isLt; omega)
  have e : IntOp.addi (BitVec.ofNat 32 t.val) 0#32 = BitVec.ofNat 32 t.val := BitVec.add_zero _
  rw [e]
  by_cases hab : j.val ≤ t.val
  · rw [h.mpr hab, if_pos hab]; rfl
  · rw [if_neg hab]
    show (if (if IntOp.cmpi _ _ _ = 1#1 then 1#1 else 0#1) = 1#1 then y else z) = z
    rw [if_neg (fun q => hab (h.mp q))]; rfl

/-- The scores of a chunk. -/
theorem scores (Q K : FVec Ideal S4x8x64x256 .f32) (b : Fin 4) (h : Fin 8) (t j : Fin 64) :
    Host.dotGeneral dot_S4x8x64x256_S4x8x64x256_S4x8x64x64_3_3_2_2_01_01 none Q K (ix4 b h t j) =
      ∑ d, Q (ix4 b h t d) * K (ix4 b h j d) := by
  pointwise []

/-- The chunk's state update. -/
theorem updC (D : FVec Ideal S4x8 .f32) (C : FVec Ideal S4x8x256x512 .f32) (K : FVec Ideal S4x8x64x256 .f32) (W : FVec Ideal S4x8x64x512 .f32)
    (b : Fin 4) (h : Fin 8) (d : Fin 256) (e : Fin 512) :
    addf (mulf (broadcastInDim S4x8x256x512 ![0, 1, 2, 3] bcast_S4x8x1x1_S4x8x256x512_0_1_2_3 (broadcastInDim S4x8x1x1 ![0, 1] bcast_S4x8_S4x8x1x1_0_1 D)) C)
      (Host.dotGeneral dot_S4x8x64x256_S4x8x64x512_S4x8x256x512_2_2_3_3_01_01 none K W) (ix4 b h d e) =
      D (ix2 b h) * C (ix4 b h d e) + ∑ t, K (ix4 b h t d) * W (ix4 b h t e) := by
  pointwise []

/-- The chunk's normaliser update. -/
theorem updN (D : FVec Ideal S4x8 .f32) (N : FVec Ideal S4x8x256 .f32) (K : FVec Ideal S4x8x64x256 .f32)
    (b : Fin 4) (h : Fin 8) (d : Fin 256) :
    addf (mulf (broadcastInDim S4x8x256 ![0, 1, 2] bcast_S4x8x1_S4x8x256_0_1_2 (broadcastInDim S4x8x1 ![0, 1] bcast_S4x8_S4x8x1_0_1 D)) N)
      (Host.reduceAdd K (constant S_ .f32 0x00000000#32) reducesTo_S4x8x64x256_S4x8x256_d2 h_S_) (ix3 b h d) =
      D (ix2 b h) * N (ix3 b h d) + ∑ t, K (ix4 b h t d) := by
  pointwise []

/-- The chunk's numerators. -/
theorem nums (S : FVec Ideal S4x8x64x64 .f32) (W : FVec Ideal S4x8x64x512 .f32) (I : FVec Ideal S4x8x64 .f32) (Q : FVec Ideal S4x8x64x256 .f32)
    (C : FVec Ideal S4x8x256x512 .f32) (b : Fin 4) (h : Fin 8) (t : Fin 64) (e : Fin 512) :
    addf (Host.dotGeneral dot_S4x8x64x64_S4x8x64x512_S4x8x64x512_3_2_2_3_01_01 none S W)
      (mulf (broadcastInDim S4x8x64x512 ![0, 1, 2, 3] bcast_S4x8x64x1_S4x8x64x512_0_1_2_3 (broadcastInDim S4x8x64x1 ![0, 1, 2] bcast_S4x8x64_S4x8x64x1_0_1_2 I))
        (Host.dotGeneral dot_S4x8x64x256_S4x8x256x512_S4x8x64x512_3_2_2_3_01_01 none Q C)) (ix4 b h t e) =
      ∑ j, S (ix4 b h t j) * W (ix4 b h j e) + I (ix3 b h t) * ∑ d, Q (ix4 b h t d) * C (ix4 b h d e) := by
  pointwise []

/-- The chunk's denominators. -/
theorem dens (S : FVec Ideal S4x8x64x64 .f32) (I : FVec Ideal S4x8x64 .f32) (Q : FVec Ideal S4x8x64x256 .f32)
    (N : FVec Ideal S4x8x256 .f32) (b : Fin 4) (h : Fin 8) (t : Fin 64) :
    addf (Host.reduceAdd S (constant S_ .f32 0x00000000#32) reducesTo_S4x8x64x64_S4x8x64_d3 h_S_)
      (mulf I (Host.dotGeneral dot_S4x8x64x256_S4x8x256_S4x8x64_3_2_2_n_01_01 none Q N)) (ix3 b h t) =
      ∑ j, S (ix4 b h t j) + I (ix3 b h t) * ∑ d, Q (ix4 b h t d) * N (ix3 b h d) := by
  pointwise []

/-- The chunk's hidden states from the numerators, the denominators and the stabilisers. -/
theorem quot (A : FVec Ideal S4x8x64x512 .f32) (D M : FVec Ideal S4x8x64 .f32) (b : Fin 4) (h : Fin 8) (t : Fin 64) (e : Fin 512) :
    Host.divf A (broadcastInDim S4x8x64x512 ![0, 1, 2, 3] bcast_S4x8x64x1_S4x8x64x512_0_1_2_3 (broadcastInDim S4x8x64x1 ![0, 1, 2] bcast_S4x8x64_S4x8x64x1_0_1_2
      (maximumf (Host.absf D) (Host.exp (Host.negf M))))) (ix4 b h t e) =
      Ideal.div (A (ix4 b h t e)) (max (max (D (ix3 b h t)) (-D (ix3 b h t))) (Ideal.exp (-M (ix3 b h t)))) := by
  pointwise []
  rfl

/-- The chunk's hidden states, written in their place. -/
theorem hidden (x : (⟨S_, .i32⟩ : BufTy).Contents (Elt Ideal)) (n : Fin 32) (hx : x = fun _ => BitVec.ofNat 32 n.val)
    (A : FVec Ideal S32x4x8x64x512 .f32) (S : FVec Ideal S4x8x64x64 .f32) (W : FVec Ideal S4x8x64x512 .f32) (I M : FVec Ideal S4x8x64 .f32)
    (Q : FVec Ideal S4x8x64x256 .f32) (C : FVec Ideal S4x8x256x512 .f32) (N : FVec Ideal S4x8x256 .f32)
    (n' : Fin 32) (b : Fin 4) (h : Fin 8) (t : Fin 64) (e : Fin 512) :
    id (Host.dynamicUpdateSlice A (broadcastInDim S1x4x8x64x512 ![1, 2, 3, 4] bcast_S4x8x64x512_S1x4x8x64x512_1_2_3_4 (Host.divf
      (addf (Host.dotGeneral dot_S4x8x64x64_S4x8x64x512_S4x8x64x512_3_2_2_3_01_01 none S W)
        (mulf (broadcastInDim S4x8x64x512 ![0, 1, 2, 3] bcast_S4x8x64x1_S4x8x64x512_0_1_2_3 (broadcastInDim S4x8x64x1 ![0, 1, 2] bcast_S4x8x64_S4x8x64x1_0_1_2 I))
          (Host.dotGeneral dot_S4x8x64x256_S4x8x256x512_S4x8x64x512_3_2_2_3_01_01 none Q C)))
      (broadcastInDim S4x8x64x512 ![0, 1, 2, 3] bcast_S4x8x64x1_S4x8x64x512_0_1_2_3 (broadcastInDim S4x8x64x1 ![0, 1, 2] bcast_S4x8x64_S4x8x64x1_0_1_2
        (maximumf (Host.absf (addf (Host.reduceAdd S (constant S_ .f32 0x00000000#32) reducesTo_S4x8x64x64_S4x8x64_d3 h_S_)
          (mulf I (Host.dotGeneral dot_S4x8x64x256_S4x8x256_S4x8x64_3_2_2_n_01_01 none Q N)))) (Host.exp (Host.negf M))))))) (st5 x)
      updateFits_S32x4x8x64x512_S1x4x8x64x512) (ix5 n' b h t e) =
      if n' = n then Ideal.div (∑ j, S (ix4 b h t j) * W (ix4 b h j e) + I (ix3 b h t) * ∑ d, Q (ix4 b h t d) * C (ix4 b h d e))
        (max (max (∑ j, S (ix4 b h t j) + I (ix3 b h t) * ∑ d, Q (ix4 b h t d) * N (ix3 b h d))
          (-(∑ j, S (ix4 b h t j) + I (ix3 b h t) * ∑ d, Q (ix4 b h t d) * N (ix3 b h d)))) (Ideal.exp (-M (ix3 b h t))))
      else A (ix5 n' b h t e) := by
  refine (update x n hx A _ n' b h t e).trans ?_
  rw [quot, nums, dens]

end Cert.ReferenceIdeal.Value
end
-- ==== Proof.RStep.lean ====
/- One trip of the reference's loop over the chunks: from the states at the chunk's first token to the states at its end and the
   chunk's hidden states. -/
module

public import proofs.«01_k».proof.Proof.ROps

@[expose] public section
set_option maxRecDepth 16384
noncomputable section

namespace Cert.ReferenceIdeal.Value
open Cert.ReferenceIdeal Cert.ReferenceIdeal.Gen Idealize.ShloMosaic Idealize.ShloMosaic.TcCoe Idealize.SL.Sem
open Mlstm

/-- The queries, by chunk. -/
abbrev aQ (V0 : Valuation τ sig (Elt Ideal)) : FVec Ideal S32x4x8x64x256 .f32 := V0 (Proc.devRef .tc main_v33_0)
/-- The keys, by chunk. -/
abbrev aK (V0 : Valuation τ sig (Elt Ideal)) : FVec Ideal S32x4x8x64x256 .f32 := V0 (Proc.devRef .tc main_v33_1)
/-- The values, by chunk. -/
abbrev aV (V0 : Valuation τ sig (Elt Ideal)) : FVec Ideal S32x4x8x64x512 .f32 := V0 (Proc.devRef .tc main_v33_2)
/-- The input gates, by chunk. -/
abbrev aI (V0 : Valuation τ sig (Elt Ideal)) : FVec Ideal S32x4x8x64 .f32 := V0 (Proc.devRef .tc main_v33_3)
/-- The log forget gates, by chunk. -/
abbrev aF (V0 : Valuation τ sig (Elt Ideal)) : FVec Ideal S32x4x8x64 .f32 := V0 (Proc.devRef .tc main_v33_4)
/-- The trip counter. -/
abbrev aX (V0 : Valuation τ sig (Elt Ideal)) : (⟨S_, .i32⟩ : BufTy).Contents (Elt Ideal) := V0 (Proc.devRef .tc main_v33_5)
/-- The carried matrix states. -/
abbrev aC (V0 : Valuation τ sig (Elt Ideal)) : FVec Ideal S4x8x256x512 .f32 := V0 (Proc.devRef .tc main_v33_6)
/-- The carried normaliser states. -/
abbrev aN (V0 : Valuation τ sig (Elt Ideal)) : FVec Ideal S4x8x256 .f32 := V0 (Proc.devRef .tc main_v33_7)
/-- The carried stabilisers. -/
abbrev aM (V0 : Valuation τ sig (Elt Ideal)) : FVec Ideal S4x8 .f32 := V0 (Proc.devRef .tc main_v33_8)
/-- The hidden states gathered so far. -/
abbrev aH (V0 : Valuation τ sig (Elt Ideal)) : FVec Ideal S32x4x8x64x512 .f32 := V0 (Proc.devRef .tc main_v33_9)

variable (X : Fin 8192 → Fin 8192 → ℝ) (Y : Fin 8192 → Fin 128 → ℝ)

/-- The arrays the loop slices hold the sequences. -/
structure Arrays (V0 : Valuation τ sig (Elt Ideal)) : Prop where
  q : ∀ (n : Fin 32) b h (t : Fin 64) d, aQ V0 (ix5 n b h t d) = ((sQ X b h (64 * n.val + t.val) d * (1 / 16) : ℝ) : EReal)
  k : ∀ (n : Fin 32) b h (t : Fin 64) d, aK V0 (ix5 n b h t d) = ((sK X b h (64 * n.val + t.val) d : ℝ) : EReal)
  v : ∀ (n : Fin 32) b h (t : Fin 64) d, aV V0 (ix5 n b h t d) = ((sV X b h (64 * n.val + t.val) d : ℝ) : EReal)
  i : ∀ (n : Fin 32) b h (t : Fin 64), aI V0 (ix4 n b h t) = ((sI Y b h (64 * n.val + t.val) : ℝ) : EReal)
  f : ∀ (n : Fin 32) b h (t : Fin 64), aF V0 (ix4 n b h t) = ((sF Y b h (64 * n.val + t.val) : ℝ) : EReal)

/-- The carried states are those after `P` tokens. -/
structure States (V0 : Valuation τ sig (Elt Ideal)) (P : ℕ) : Prop where
  C : ∀ b h d e, aC V0 (ix4 b h d e) = ((CST X Y b h P d e : ℝ) : EReal)
  N : ∀ b h d, aN V0 (ix3 b h d) = ((NST X Y b h P d : ℝ) : EReal)
  M : ∀ b h, aM V0 (ix2 b h) = ((MST Y b h P : ℝ) : EReal)

variable (V0 : Valuation τ sig (Elt Ideal)) (n : Fin 32) (hx : aX V0 = fun _ => BitVec.ofNat 32 n.val)
variable (hA : Arrays X Y V0) (hS : States X Y V0 (64 * n.val))

/-- The exponential of a real. -/
theorem exp_sub (x y : ℝ) : Ideal.exp ((x : EReal) - (y : EReal)) = ((Real.exp (x - y) : ℝ) : EReal) := by
  rw [← EReal.coe_sub, Ideal.exp_coe]

section
include hx hA

/-- The chunk's queries, scaled. -/
theorem r62 (b : Fin 4) (h : Fin 8) (t : Fin 64) (d : Fin 256) :
    res_main_while0b_v62 V0 (ix4 b h t d) = ((sQ X b h (64 * n.val + t.val) d * (1 / 16) : ℝ) : EReal) :=
  (sliceK (aX V0) n hx (aQ V0) b h t d).trans (hA.q n b h t d)

/-- The chunk's keys. -/
theorem r63 (b : Fin 4) (h : Fin 8) (t : Fin 64) (d : Fin 256) :
    res_main_while0b_v63 V0 (ix4 b h t d) = ((sK X b h (64 * n.val + t.val) d : ℝ) : EReal) :=
  (sliceK (aX V0) n hx (aK V0) b h t d).trans (hA.k n b h t d)

/-- The chunk's values. -/
theorem r64 (b : Fin 4) (h : Fin 8) (t : Fin 64) (d : Fin 512) :
    res_main_while0b_v64 V0 (ix4 b h t d) = ((sV X b h (64 * n.val + t.val) d : ℝ) : EReal) :=
  (sliceV (aX V0) n hx (aV V0) b h t d).trans (hA.v n b h t d)

/-- The chunk's input gates. -/
theorem r65 (b : Fin 4) (h : Fin 8) (t : Fin 64) :
    res_main_while0b_v65 V0 (ix3 b h t) = ((sI Y b h (64 * n.val + t.val) : ℝ) : EReal) :=
  (sliceG (aX V0) n hx (aI V0) b h t).trans (hA.i n b h t)

/-- The running sums of the chunk's log forget gates. -/
theorem r67 (b : Fin 4) (h : Fin 8) (t : Fin 64) :
    res_main_while0b_v67 V0 (ix3 b h t) = ((B (sF Y b h) (64 * n.val + t.val + 1) - B (sF Y b h) (64 * n.val) : ℝ) : EReal) := by
  refine (cumsum _ b h (fun j => ((sF Y b h (64 * n.val + j) : ℝ) : EReal))
    (fun j => (sliceG (aX V0) n hx (aF V0) b h j).trans (hA.f n b h j)) t).trans ?_
  rw [← coe_sum, ← B_add]; rfl

/-- The sum of the chunk's log forget gates. -/
theorem r69 (b : Fin 4) (h : Fin 8) :
    res_main_while0b_v69 V0 (ix2 b h) = ((B (sF Y b h) (64 * n.val + 64) - B (sF Y b h) (64 * n.val) : ℝ) : EReal) := by
  pointwise [res_main_while0b_v69]
  exact r67 X Y V0 n hx hA b h 63

/-- The logarithm of token `j`'s weight at token `t`; nothing for a later `j`. -/
theorem r80 (b : Fin 4) (h : Fin 8) (t j : Fin 64) :
    res_main_while0b_v80 V0 (ix4 b h t j) = if j.val ≤ t.val then
      (((B (sF Y b h) (64 * n.val + t.val + 1) - B (sF Y b h) (64 * n.val)) - (B (sF Y b h) (64 * n.val + j.val + 1) - B (sF Y b h) (64 * n.val)) +
        sI Y b h (64 * n.val + j.val) : ℝ) : EReal) else ⊥ := by
  pointwise [res_main_while0b_v80]
  rw [r67 X Y V0 n hx hA, r67 X Y V0 n hx hA, r65 X Y V0 n hx hA]
  refine (mask t j _ _).trans ?_
  rw [← EReal.coe_sub, ← EReal.coe_add]
  refine congrArg (fun z : EReal => if j.val ≤ t.val then _ else z) ofBits_ninf

/-- The logarithm of token `j`'s weight at the chunk's end. -/
theorem r114 (b : Fin 4) (h : Fin 8) (j : Fin 64) :
    res_main_while0b_v114 V0 (ix3 b h j) =
      (((B (sF Y b h) (64 * n.val + 64) - B (sF Y b h) (64 * n.val)) - (B (sF Y b h) (64 * n.val + j.val + 1) - B (sF Y b h) (64 * n.val)) +
        sI Y b h (64 * n.val + j.val) : ℝ) : EReal) := by
  pointwise [res_main_while0b_v114]
  rw [r67 X Y V0 n hx hA, r69 X Y V0 n hx hA, r65 X Y V0 n hx hA, ← EReal.coe_sub, ← EReal.coe_add]

include hS

/-- The logarithm of the carried state's weight at token `t`, before stabilising. -/
theorem r83 (b : Fin 4) (h : Fin 8) (t : Fin 64) :
    res_main_while0b_v83 V0 (ix3 b h t) =
      ((B (sF Y b h) (64 * n.val + t.val + 1) - B (sF Y b h) (64 * n.val) + MST Y b h (64 * n.val) : ℝ) : EReal) := by
  pointwise [res_main_while0b_v83]
  rw [r67 X Y V0 n hx hA, EReal.coe_add]
  exact congrArg _ (hS.M b h)

/-- The stabiliser after token `t`. -/
theorem r85 (b : Fin 4) (h : Fin 8) (t : Fin 64) :
    res_main_while0b_v85 V0 (ix3 b h t) = ((MST Y b h (64 * n.val + t.val + 1) : ℝ) : EReal) := by
  refine (rowmaxM (res_main_while0b_v80 V0) (res_main_while0b_v83 V0) b h t).trans ?_
  simp only [r80 X Y V0 n hx hA, r83 X Y V0 n hx hA hS]
  exact max_row _ _ t _

/-- The stabiliser at the chunk's end. -/
theorem r117 (b : Fin 4) (h : Fin 8) :
    res_main_while0b_v117 V0 (ix2 b h) = ((MST Y b h (64 * n.val + 64) : ℝ) : EReal) := by
  refine (lastmaxM (res_main_while0b_v69 V0) (aM V0) (res_main_while0b_v114 V0) b h).trans ?_
  simp only [r114 X Y V0 n hx hA, r69 X Y V0 n hx hA, hS.M, ← EReal.coe_add]
  exact max_chunk _ _ 64 _

/-- The score of token `j` at token `t`; zero for a later `j`. -/
theorem r91 (b : Fin 4) (h : Fin 8) (t j : Fin 64) :
    res_main_while0b_v91 V0 (ix4 b h t j) =
      ((if j.val ≤ t.val then sc (sI Y b h) (sF Y b h) (sQ X b h) (sK X b h) (64 * n.val + t.val) (64 * n.val + j.val) else 0 : ℝ) : EReal) := by
  pointwise [res_main_while0b_v91]
  simp only [r62 X Y V0 n hx hA, r63 X Y V0 n hx hA, r80 X Y V0 n hx hA, r85 X Y V0 n hx hA hS, ← EReal.coe_mul, ← coe_sum]
  split_ifs
  · rw [exp_sub, ← EReal.coe_mul]
    refine congrArg _ ?_
    unfold sc wgt
    refine congrArg₂ (· * ·) ?_ (congrArg Real.exp ?_)
    · rw [Finset.sum_mul]; exact Finset.sum_congr rfl fun d _ => by ring
    · unfold MST; ring
  · rw [EReal.bot_sub, show Ideal.exp ⊥ = (0 : EReal) from rfl, mul_zero]; exact EReal.coe_zero.symm

/-- The carried state's weight at token `t`. -/
theorem r93 (b : Fin 4) (h : Fin 8) (t : Fin 64) :
    res_main_while0b_v93 V0 (ix3 b h t) = ((carry (sI Y b h) (sF Y b h) (64 * n.val) (64 * n.val + t.val + 1) : ℝ) : EReal) := by
  pointwise [res_main_while0b_v93]
  rw [r83 X Y V0 n hx hA hS, r85 X Y V0 n hx hA hS, exp_sub]; rfl

/-- The carried state's weight at the chunk's end. -/
theorem r120 (b : Fin 4) (h : Fin 8) :
    res_main_while0b_v120 V0 (ix2 b h) = ((carry (sI Y b h) (sF Y b h) (64 * n.val) (64 * n.val + 64) : ℝ) : EReal) := by
  refine (decay (res_main_while0b_v69 V0) (aM V0) (res_main_while0b_v117 V0) b h).trans ?_
  rw [r117 X Y V0 n hx hA hS, r69 X Y V0 n hx hA, hS.M, ← EReal.coe_add, exp_sub]; rfl

/-- Token `j`'s key times its weight at the chunk's end. -/
theorem r127 (b : Fin 4) (h : Fin 8) (j : Fin 64) (d : Fin 256) :
    res_main_while0b_v127 V0 (ix4 b h j d) =
      ((wgt (sI Y b h) (sF Y b h) (64 * n.val + 64) (64 * n.val + j.val) * sK X b h (64 * n.val + j.val) d : ℝ) : EReal) := by
  pointwise [res_main_while0b_v127]
  rw [r114 X Y V0 n hx hA, r117 X Y V0 n hx hA hS, r63 X Y V0 n hx hA, exp_sub, ← EReal.coe_mul]
  refine congrArg _ (congrArg (fun z => Real.exp z * _) ?_)
  unfold MST; ring

/-- The matrix states at the chunk's end. -/
theorem s6 (b : Fin 4) (h : Fin 8) (d : Fin 256) (e : Fin 512) :
    step_main_v33_6 V0 (ix4 b h d e) = ((CST X Y b h (64 * n.val + 64) d e : ℝ) : EReal) := by
  refine (updC (res_main_while0b_v120 V0) (aC V0) (res_main_while0b_v127 V0) (res_main_while0b_v64 V0) b h d e).trans ?_
  simp only [r120 X Y V0 n hx hA hS, r127 X Y V0 n hx hA hS, r64 X Y V0 n hx hA, hS.C, ← EReal.coe_mul, ← coe_sum, ← EReal.coe_add]
  exact congrArg _ (Cs_chunk _ _ _ _ 64 _ d e)

/-- The normaliser states at the chunk's end. -/
theorem s7 (b : Fin 4) (h : Fin 8) (d : Fin 256) :
    step_main_v33_7 V0 (ix3 b h d) = ((NST X Y b h (64 * n.val + 64) d : ℝ) : EReal) := by
  refine (updN (res_main_while0b_v120 V0) (aN V0) (res_main_while0b_v127 V0) b h d).trans ?_
  simp only [r120 X Y V0 n hx hA hS, r127 X Y V0 n hx hA hS, hS.N, ← EReal.coe_mul, ← coe_sum, ← EReal.coe_add]
  exact congrArg _ (Ns_chunk _ _ _ 64 _ d)

/-- The chunk's hidden states, written in their place. -/
theorem s9 (n' : Fin 32) (b : Fin 4) (h : Fin 8) (t : Fin 64) (e : Fin 512) :
    step_main_v33_9 V0 (ix5 n' b h t e) = if n' = n then ((HID X Y b h (64 * n.val + t.val) e : ℝ) : EReal) else aH V0 (ix5 n' b h t e) := by
  refine (hidden (aX V0) n hx (aH V0) (res_main_while0b_v91 V0) (res_main_while0b_v64 V0) (res_main_while0b_v93 V0) (res_main_while0b_v85 V0)
    (res_main_while0b_v62 V0) (aC V0) (aN V0) n' b h t e).trans ?_
  refine congrArg (fun z : EReal => if n' = n then z else _) ?_
  simp only [r91 X Y V0 n hx hA hS, r93 X Y V0 n hx hA hS, r62 X Y V0 n hx hA, r64 X Y V0 n hx hA, r85 X Y V0 n hx hA hS, hS.C, hS.N,
    ← EReal.coe_mul, ← coe_sum, ← EReal.coe_add]
  have e1 : ∀ s : Fin 256 → ℝ, ∑ d, sQ X b h (64 * n.val + t.val) d * (1 / 16) * s d = (1 / 16) * ∑ d, sQ X b h (64 * n.val + t.val) d * s d := fun s => by
    rw [Finset.mul_sum]; exact Finset.sum_congr rfl fun d _ => by ring
  rw [e1, e1, ← mul_assoc, ← mul_assoc]
  unfold CST NST MST HID hid
  rw [num_chunk, den_chunk]
  have hp : max |den (sI Y b h) (sF Y b h) (sQ X b h) (sK X b h) (64 * n.val + t.val)| (Real.exp (-M (sI Y b h) (sF Y b h) (64 * n.val + t.val + 1))) ≠ 0 :=
    ne_of_gt (lt_of_lt_of_le (Real.exp_pos _) (le_max_right _ _))
  rw [coe_abs, ← EReal.coe_neg, Ideal.exp_coe, ← coe_max, Ideal.div_coe hp, ← EReal.coe_mul, mul_one_div]
end

end Cert.ReferenceIdeal.Value
end
-- ==== Proof.RTail.lean ====
/- The reference's arrays before the loop, and its result after it. -/
module

public import proofs.«01_k».proof.Proof.RStep

@[expose] public section
set_option maxRecDepth 16384
noncomputable section

namespace Cert.ReferenceIdeal.Value
open Cert.ReferenceIdeal Cert.ReferenceIdeal.Gen Idealize.ShloMosaic Idealize.ShloMosaic.TcCoe Idealize.SL.Sem
open Mlstm Idealize.ShloMosaic.StableHlo Idealize.ShloMosaic.HostLoop

/-- The hidden states of a token, from the array the loop fills chunk by chunk. -/
theorem regroup (H : FVec Ideal S32x4x8x64x512 .f32) (b : Fin 4) (n : Fin 2048) (h : Fin 8) (x : Fin 512) :
    shapeCast S4x2048x8x512 (transpose S4x32x64x8x512 [0, 1, 3, 2, 4] (transpose S4x32x8x64x512 [1, 0, 2, 3, 4] H transposes_S32x4x8x64x512_S4x32x8x64x512_1_0_2_3_4) transposes_S4x32x8x64x512_S4x32x64x8x512_0_1_3_2_4) shapeCasts_S4x32x64x8x512_S4x2048x8x512 (ix4 b n h x)
     = H (ix5 (⟨n.val / 64, by omega⟩ : Fin 32) b h (⟨n.val % 64, by omega⟩ : Fin 64) x) := by
  pointwise []

/-- The reference's norm over a head's columns, its weight and the gate, at an entry. -/
theorem norm (H : FVec Ideal S4x2048x8x512 .f32) (w : FVec Ideal S4096 .f32) (g : FVec Ideal S8192x4096 .bf16)
   (b : Fin 4) (n : Fin 2048) (h : Fin 8) (e : Fin 512) :
  truncf .bf16 (mulf (mulf (shapeCast _ (mulf (subf H (broadcastInDim S4x2048x8x512 ![0, 1, 2, 3] bcast_S4x2048x8x1_S4x2048x8x512_0_1_2_3 (Host.divf (broadcastInDim S4x2048x8x1 ![0, 1, 2] bcast_S4x2048x8_S4x2048x8x1_0_1_2 (Host.reduceAdd H (constant S_ .f32 0x00000000#32) reducesTo_S4x2048x8x512_S4x2048x8_d3 h_S_)) (broadcastInDim S4x2048x8x1 ![] bcast_S_S4x2048x8x1 (constant S_ .f32 0x44000000#32))))) (broadcastInDim S4x2048x8x512 ![0, 1, 2, 3] bcast_S4x2048x8x1_S4x2048x8x512_0_1_2_3 (Host.rsqrt (addf (Host.divf (broadcastInDim S4x2048x8x1 ![0, 1, 2] bcast_S4x2048x8_S4x2048x8x1_0_1_2 (Host.reduceAdd (mulf (subf H (broadcastInDim S4x2048x8x512 ![0, 1, 2, 3] bcast_S4x2048x8x1_S4x2048x8x512_0_1_2_3 (Host.divf (broadcastInDim S4x2048x8x1 ![0, 1, 2] bcast_S4x2048x8_S4x2048x8x1_0_1_2 (Host.reduceAdd H (constant S_ .f32 0x00000000#32) reducesTo_S4x2048x8x512_S4x2048x8_d3 h_S_)) (broadcastInDim S4x2048x8x1 ![] bcast_S_S4x2048x8x1 (constant S_ .f32 0x44000000#32))))) (subf H (broadcastInDim S4x2048x8x512 ![0, 1, 2, 3] bcast_S4x2048x8x1_S4x2048x8x512_0_1_2_3 (Host.divf (broadcastInDim S4x2048x8x1 ![0, 1, 2] bcast_S4x2048x8_S4x2048x8x1_0_1_2 (Host.reduceAdd H (constant S_ .f32 0x00000000#32) reducesTo_S4x2048x8x512_S4x2048x8_d3 h_S_)) (broadcastInDim S4x2048x8x1 ![] bcast_S_S4x2048x8x1 (constant S_ .f32 0x44000000#32)))))) (constant S_ .f32 0x00000000#32) reducesTo_S4x2048x8x512_S4x2048x8_d3 h_S_)) (broadcastInDim S4x2048x8x1 ![] bcast_S_S4x2048x8x1 (constant S_ .f32 0x44000000#32))) (broadcastInDim S4x2048x8x1 ![] bcast_S_S4x2048x8x1 (constant S_ .f32 0x3727C5AC#32)))))) shapeCasts_S4x2048x8x512_S8192x4096) (broadcastInDim S8192x4096 ![0, 1] bcast_S1x4096_S8192x4096_0_1 (broadcastInDim S1x4096 ![1] bcast_S4096_S1x4096_1 w))) (extf .f32 g bitsLt_bf16_f32)) bitsLt_bf16_f32
    (ix2 (⟨2048 * b.val + n.val, by omega⟩ : Fin 8192) (⟨512 * h.val + e.val, by omega⟩ : Fin 4096))
   = LNT (fun x => H (ix4 b n h x)) (w (ix1 (⟨512 * h.val + e.val, by omega⟩ : Fin 4096)))
      (g (ix2 (⟨2048 * b.val + n.val, by omega⟩ : Fin 8192) (⟨512 * h.val + e.val, by omega⟩ : Fin 4096))) e := by
  unfold LNT
  pointwise []

/-- A row of the arrays as a token. -/
theorem row_tok (b : Fin 4) (n : Fin 32) (t : Fin 64) (hp : b.val * 2048 + (n.val * 64 + t.val) < 8192) :
    (⟨b.val * 2048 + (n.val * 64 + t.val), hp⟩ : Fin 8192) = tok b (64 * n.val + t.val) := by
  have := n.isLt; have := t.isLt
  refine Fin.ext ?_
  show b.val * 2048 + (n.val * 64 + t.val) = 2048 * b.val + (64 * n.val + t.val) % 2048
  omega

section
variable (X : Fin 8192 → Fin 8192 → ℝ) (Y : Fin 8192 → Fin 128 → ℝ)
variable (A : FVec Ideal S8192x8192 .bf16) (hA : ∀ r s, A (ix2 r s) = ((X r s : ℝ) : EReal))
variable (G : FVec Ideal S8192x128 .f32) (hG : ∀ r s, G (ix2 r s) = ((Y r s : ℝ) : EReal))
include hA

/-- The queries, by chunk and scaled by a sixteenth. -/
theorem chunkQ (n : Fin 32) (b : Fin 4) (h : Fin 8) (t : Fin 64) (d : Fin 256) :
    mulf (transpose S32x4x8x64x256 [0, 1, 3, 2, 4] (transpose S32x4x64x8x256 [1, 0, 2, 3, 4] (shapeCast S4x32x64x8x256 (shapeCast S4x2048x8x256
      (extractStridedSlice S4x2048x2048 ![0, 0, 0] (shapeCast S4x2048x8192 (extf .f32 A bitsLt_bf16_f32) shapeCasts_S8192x8192_S4x2048x8192)
        slices_S4x2048x8192_S4x2048x2048_0_0_0) shapeCasts_S4x2048x2048_S4x2048x8x256) shapeCasts_S4x2048x8x256_S4x32x64x8x256)
        transposes_S4x32x64x8x256_S32x4x64x8x256_1_0_2_3_4) transposes_S32x4x64x8x256_S32x4x8x64x256_0_1_3_2_4)
      (broadcastInDim S32x4x8x64x256 ![] bcast_S_S32x4x8x64x256 (constant S_ .f32 1031798784#32)) (ix5 n b h t d) =
      ((sQ X b h (64 * n.val + t.val) d * (1 / 16) : ℝ) : EReal) := by
  pointwise []
  rw [hA, row_tok, ofBits_sixteenth, ← EReal.coe_mul]
  unfold sQ
  refine congrArg (fun s => ((X _ s * (1 / 16) : ℝ) : EReal)) (Fin.ext ?_)
  show h.val * 256 + d.val = 256 * h.val + d.val
  omega

/-- The keys, by chunk. -/
theorem chunkK (n : Fin 32) (b : Fin 4) (h : Fin 8) (t : Fin 64) (d : Fin 256) :
    transpose S32x4x8x64x256 [0, 1, 3, 2, 4] (transpose S32x4x64x8x256 [1, 0, 2, 3, 4] (shapeCast S4x32x64x8x256 (shapeCast S4x2048x8x256
      (extractStridedSlice S4x2048x2048 ![0, 0, 2048] (shapeCast S4x2048x8192 (extf .f32 A bitsLt_bf16_f32) shapeCasts_S8192x8192_S4x2048x8192)
        slices_S4x2048x8192_S4x2048x2048_0_0_2048) shapeCasts_S4x2048x2048_S4x2048x8x256) shapeCasts_S4x2048x8x256_S4x32x64x8x256)
        transposes_S4x32x64x8x256_S32x4x64x8x256_1_0_2_3_4) transposes_S32x4x64x8x256_S32x4x8x64x256_0_1_3_2_4 (ix5 n b h t d) =
      ((sK X b h (64 * n.val + t.val) d : ℝ) : EReal) := by
  pointwise []
  rw [hA, row_tok]
  unfold sK
  refine congrArg (fun s => ((X _ s : ℝ) : EReal)) (Fin.ext ?_)
  simp only []
  omega

/-- The values, by chunk. -/
theorem chunkV (n : Fin 32) (b : Fin 4) (h : Fin 8) (t : Fin 64) (d : Fin 512) :
    transpose S32x4x8x64x512 [0, 1, 3, 2, 4] (transpose S32x4x64x8x512 [1, 0, 2, 3, 4] (shapeCast S4x32x64x8x512 (shapeCast S4x2048x8x512
      (extractStridedSlice S4x2048x4096 ![0, 0, 4096] (shapeCast S4x2048x8192 (extf .f32 A bitsLt_bf16_f32) shapeCasts_S8192x8192_S4x2048x8192)
        slices_S4x2048x8192_S4x2048x4096_0_0_4096) shapeCasts_S4x2048x4096_S4x2048x8x512) shapeCasts_S4x2048x8x512_S4x32x64x8x512)
        transposes_S4x32x64x8x512_S32x4x64x8x512_1_0_2_3_4) transposes_S32x4x64x8x512_S32x4x8x64x512_0_1_3_2_4 (ix5 n b h t d) =
      ((sV X b h (64 * n.val + t.val) d : ℝ) : EReal) := by
  pointwise []
  rw [hA, row_tok]
  unfold sV
  refine congrArg (fun s => ((X _ s : ℝ) : EReal)) (Fin.ext ?_)
  simp only []
  omega

omit hA
include hG

/-- The input gates, by chunk. -/
theorem chunkI (n : Fin 32) (b : Fin 4) (h : Fin 8) (t : Fin 64) :
    transpose S32x4x8x64 [0, 1, 3, 2] (transpose S32x4x64x8 [1, 0, 2, 3] (shapeCast S4x32x64x8
      (extractStridedSlice S4x2048x8 ![0, 0, 0] (shapeCast S4x2048x128 G shapeCasts_S8192x128_S4x2048x128)
        slices_S4x2048x128_S4x2048x8_0_0_0) shapeCasts_S4x2048x8_S4x32x64x8)
        transposes_S4x32x64x8_S32x4x64x8_1_0_2_3) transposes_S32x4x64x8_S32x4x8x64_0_1_3_2 (ix4 n b h t) =
      ((sI Y b h (64 * n.val + t.val) : ℝ) : EReal) := by
  pointwise []
  rw [hG, row_tok]
  unfold sI
  refine congrArg (fun s => ((Y _ s : ℝ) : EReal)) (Fin.ext ?_)
  rfl

/-- The forget gates, by chunk. -/
theorem chunkR (n : Fin 32) (b : Fin 4) (h : Fin 8) (t : Fin 64) :
    transpose S32x4x8x64 [0, 1, 3, 2] (transpose S32x4x64x8 [1, 0, 2, 3] (shapeCast S4x32x64x8
      (extractStridedSlice S4x2048x8 ![0, 0, 8] (shapeCast S4x2048x128 G shapeCasts_S8192x128_S4x2048x128)
        slices_S4x2048x128_S4x2048x8_0_0_8) shapeCasts_S4x2048x8_S4x32x64x8)
        transposes_S4x32x64x8_S32x4x64x8_1_0_2_3) transposes_S32x4x64x8_S32x4x8x64_0_1_3_2 (ix4 n b h t) =
      ((sR Y b h (64 * n.val + t.val) : ℝ) : EReal) := by
  pointwise []
  rw [hG, row_tok]
  rfl
end

/-- Zero, everywhere. -/
abbrev zeros : FVec Ideal S32x4x8x64 .f32 := broadcastInDim S32x4x8x64 ![] bcast_S_S32x4x8x64 (constant S_ .f32 0#32)

/-- The log forget gates: minus the softplus of minus the forget gates. -/
theorem logs (R : FVec Ideal S32x4x8x64 .f32) (n : Fin 32) (b : Fin 4) (h : Fin 8) (t : Fin 64) (r : ℝ) (hr : R (ix4 n b h t) = (r : EReal)) :
    Host.negf (select (cmpf .une (subf (Host.negf R) zeros) (subf (Host.negf R) zeros)) (addf (Host.negf R) zeros)
      (addf (maximumf (Host.negf R) zeros) (Host.log1p (Host.exp (Host.negf (Host.absf (subf (Host.negf R) zeros)))))))
      (ix4 n b h t) = ((lsig r : ℝ) : EReal) := by
  pointwise []
  rw [hr, if_neg (not_not.mpr rfl)]
  show -(max (-(r : EReal)) 0 + Ideal.log1p (Ideal.exp (-(max (-(r : EReal)) (- -(r : EReal)))))) = _
  rw [← EReal.coe_neg, coe_abs, ← EReal.coe_neg, Ideal.exp_coe, coe_log1p_exp, ← EReal.coe_zero, ← coe_max, ← EReal.coe_add, ← EReal.coe_neg]
  refine congrArg _ ?_
  unfold lsig
  rw [abs_neg]
  rcases le_total r 0 with h0 | h0
  · rw [max_eq_left (by linarith), min_eq_left h0]; ring
  · rw [max_eq_right (by linarith), min_eq_right h0]; ring

section
variable (m : (ℓ : Loc nD τ sig) → Buf (Elt Ideal) ℓ) (c : Dev nD) (X : Fin 8192 → Fin 8192 → ℝ) (Y : Fin 8192 → Fin 128 → ℝ)
variable (hX : ∀ r s, m ((c : Thread nD τ).loc main_arg0) (ix2 r s) = ((X r s : ℝ) : EReal))
variable (hY : ∀ r s, m ((c : Thread nD τ).loc main_arg1) (ix2 r s) = ((Y r s : ℝ) : EReal))
include hX hY

/-- Before the loop the arrays it slices hold the sequences. -/
theorem arrays : Arrays X Y (entryContents preI m c) where
  q n b h t d := by
    show (entryContents preI m c) (Proc.devRef .tc main_v33_0) (ix5 n b h t d) = _
    simp only [entryContents, afterL_cons, afterL_nil]
    after_reads_simp
    exact chunkQ X (m ((c : Thread nD τ).loc main_arg0)) hX n b h t d
  k n b h t d := by
    show (entryContents preI m c) (Proc.devRef .tc main_v33_1) (ix5 n b h t d) = _
    simp only [entryContents, afterL_cons, afterL_nil]
    after_reads_simp
    exact chunkK X (m ((c : Thread nD τ).loc main_arg0)) hX n b h t d
  v n b h t d := by
    show (entryContents preI m c) (Proc.devRef .tc main_v33_2) (ix5 n b h t d) = _
    simp only [entryContents, afterL_cons, afterL_nil]
    after_reads_simp
    exact chunkV X (m ((c : Thread nD τ).loc main_arg0)) hX n b h t d
  i n b h t := by
    show (entryContents preI m c) (Proc.devRef .tc main_v33_3) (ix4 n b h t) = _
    simp only [entryContents, afterL_cons, afterL_nil]
    after_reads_simp
    exact chunkI Y (m ((c : Thread nD τ).loc main_arg1)) hY n b h t
  f n b h t := by
    show (entryContents preI m c) (Proc.devRef .tc main_v33_4) (ix4 n b h t) = _
    simp only [entryContents, afterL_cons, afterL_nil]
    after_reads_simp
    exact logs _ n b h t _ (chunkR Y (m ((c : Thread nD τ).loc main_arg1)) hY n b h t)

omit hX hY in
/-- Before the loop the states are those before the first token. -/
theorem states : States X Y (entryContents preI m c) 0 where
  C b h d e := by
    show (entryContents preI m c) (Proc.devRef .tc main_v33_6) (ix4 b h d e) = _
    simp only [entryContents, afterL_cons, afterL_nil]
    after_reads_simp
    rw [CST_zero]
    exact (show (broadcastInDim S4x8x256x512 ![] bcast_S_S4x8x256x512 (constant (F := Ideal) S_ .f32 0#32)) (ix4 b h d e) = (0 : EReal) by pointwise []).trans EReal.coe_zero.symm
  N b h d := by
    show (entryContents preI m c) (Proc.devRef .tc main_v33_7) (ix3 b h d) = _
    simp only [entryContents, afterL_cons, afterL_nil]
    after_reads_simp
    rw [NST_zero]
    exact (show (broadcastInDim S4x8x256 ![] bcast_S_S4x8x256 (constant (F := Ideal) S_ .f32 0#32)) (ix3 b h d) = (0 : EReal) by pointwise []).trans EReal.coe_zero.symm
  M b h := by
    show (entryContents preI m c) (Proc.devRef .tc main_v33_8) (ix2 b h) = _
    simp only [entryContents, afterL_cons, afterL_nil]
    after_reads_simp
    rw [MST_zero]
    exact (show (broadcastInDim S4x8 ![] bcast_S_S4x8 (constant (F := Ideal) S_ .f32 0#32)) (ix2 b h) = (0 : EReal) by pointwise []).trans EReal.coe_zero.symm

/-- After `k` trips: the arrays are as before, the states are those after `64 k` tokens and the first `k` chunks' hidden states are written. -/
theorem trips (k : ℕ) (hk : k ≤ 32) :
    aX (STEP^[k] (entryContents preI m c)) = (fun _ => BitVec.ofNat 32 k) ∧ Arrays X Y (STEP^[k] (entryContents preI m c)) ∧
      States X Y (STEP^[k] (entryContents preI m c)) (64 * k) ∧
      ∀ (n : Fin 32) b h (t : Fin 64) e, n.val < k →
        aH (STEP^[k] (entryContents preI m c)) (ix5 n b h t e) = ((HID X Y b h (64 * n.val + t.val) e : ℝ) : EReal) := by
  induction k with
  | zero => exact ⟨ctr_entry m c, arrays m c X Y hX hY, states m c X Y, fun n _ _ _ _ hn => absurd hn (Nat.not_lt_zero _)⟩
  | succ k ih =>
    obtain ⟨hx, hA, hS, hH⟩ := ih (by omega)
    rw [Function.iterate_succ_apply']
    generalize STEP^[k] (entryContents preI m c) = W at hx hA hS hH ⊢
    refine ⟨?_, ⟨?_, ?_, ?_, ?_, ?_⟩, ⟨?_, ?_, ?_⟩, ?_⟩
    · show STEP W (Proc.devRef .tc main_v33_5) = _
      rw [STEP_main_v33_5]
      show addi (aX W) (constantI S_ 32 1#32) = _
      rw [hx]
      funext j
      show BitVec.ofNat 32 k + 1#32 = BitVec.ofNat 32 (k + 1)
      rw [BitVec.ofNat_add]
    · intro n b h t d; show STEP W (Proc.devRef .tc main_v33_0) _ = _; rw [STEP_main_v33_0]; exact hA.q n b h t d
    · intro n b h t d; show STEP W (Proc.devRef .tc main_v33_1) _ = _; rw [STEP_main_v33_1]; exact hA.k n b h t d
    · intro n b h t d; show STEP W (Proc.devRef .tc main_v33_2) _ = _; rw [STEP_main_v33_2]; exact hA.v n b h t d
    · intro n b h t; show STEP W (Proc.devRef .tc main_v33_3) _ = _; rw [STEP_main_v33_3]; exact hA.i n b h t
    · intro n b h t; show STEP W (Proc.devRef .tc main_v33_4) _ = _; rw [STEP_main_v33_4]; exact hA.f n b h t
    · intro b h d e; show STEP W (Proc.devRef .tc main_v33_6) _ = _; rw [STEP_main_v33_6]
      exact s6 X Y W ⟨k, by omega⟩ hx hA hS b h d e
    · intro b h d; show STEP W (Proc.devRef .tc main_v33_7) _ = _; rw [STEP_main_v33_7]
      exact s7 X Y W ⟨k, by omega⟩ hx hA hS b h d
    · intro b h; show STEP W (Proc.devRef .tc main_v33_8) _ = _; rw [STEP_main_v33_8]
      exact r117 X Y W ⟨k, by omega⟩ hx hA hS b h
    · intro n b h t e hn; show STEP W (Proc.devRef .tc main_v33_9) _ = _; rw [STEP_main_v33_9]
      refine (s9 X Y W ⟨k, by omega⟩ hx hA hS n b h t e).trans ?_
      by_cases e1 : n = ⟨k, by omega⟩
      · rw [if_pos e1, e1]
      · rw [if_neg e1]
        exact hH n b h t e (lt_of_le_of_ne (Nat.lt_succ_iff.mp hn) fun q => e1 (Fin.ext q))

/-- The reference's result, at a token and a column. -/
theorem result (b : Fin 4) (n : Fin 2048) (h : Fin 8) (e : Fin 512) :
    out_main_v61 (STEP^[32] (entryContents preI m c)) (ix2 (tok b n.val) (⟨512 * h.val + e.val, by omega⟩ : Fin 4096)) =
      LNT (fun x => ((HID X Y b h n.val x : ℝ) : EReal))
        (m ((c : Thread nD τ).loc main_arg3) (ix1 (⟨512 * h.val + e.val, by omega⟩ : Fin 4096)))
        (m ((c : Thread nD τ).loc main_arg2) (ix2 (tok b n.val) (⟨512 * h.val + e.val, by omega⟩ : Fin 4096))) e := by
  have hn := n.isLt
  have et : tok b n.val = ⟨2048 * b.val + n.val, by omega⟩ :=
    Fin.ext (by show 2048 * b.val + n.val % 2048 = 2048 * b.val + n.val; omega)
  have h2 := iter_main_arg2 m c 32
  have h3 := iter_main_arg3 m c 32
  obtain ⟨_, _, _, hH⟩ := trips m c X Y hX hY 32 le_rfl
  rw [et]
  generalize STEP^[32] (entryContents preI m c) = W at h2 h3 hH ⊢
  refine (norm (shapeCast S4x2048x8x512 (transpose S4x32x64x8x512 [0, 1, 3, 2, 4] (transpose S4x32x8x64x512 [1, 0, 2, 3, 4] (aH W)
    transposes_S32x4x8x64x512_S4x32x8x64x512_1_0_2_3_4) transposes_S4x32x8x64x512_S4x32x64x8x512_0_1_3_2_4) shapeCasts_S4x32x64x8x512_S4x2048x8x512)
    (W (Proc.devRef .tc main_arg3)) (W (Proc.devRef .tc main_arg2)) b n h e).trans ?_
  rw [h2, h3]
  refine congrArg (fun H => LNT H _ _ e) (funext fun x => ?_)
  refine (regroup (aH W) b n h x).trans ((hH _ b h _ x (by show n.val / 64 < 32; omega)).trans ?_)
  refine congrArg (fun z => ((HID X Y b h z x : ℝ) : EReal)) ?_
  show 64 * (n.val / 64) + n.val % 64 = n.val
  omega
end

end Cert.ReferenceIdeal.Value
end
-- ==== Proof.Finite.lean ====
/- The precondition, read: every entry of the projection and of the gates is a real number. -/
module

public import proofs.«01_k».proof.Pre_finite
public import Idealize.ShloMosaic.Lib.ReduceAll
public import Idealize.ShloMosaic.Lib.Tactic.ValueTie

@[expose] public section
noncomputable section

namespace Cert.Pre_finite.Gen
open Idealize.ShloMosaic Cert.Pre_finite

/-- The side conditions of the precondition's operations. -/
instance facts : Cert.Pre_finite.Facts where
  bitsLt_bf16_f32 := by decide
  bcast_S_S8192x8192 := by decide
  reducesTo_S8192x8192_S_d0_1 := by decide
  h_S_ := by decide
  bcast_S_S8192x128 := by decide
  reducesTo_S8192x128_S_d0_1 := by decide

/-- An extended real whose absolute value is below infinity is a real. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The one index of a scalar. -/
theorem scalar_idx : Subsingleton S_.Idx := ⟨fun a b => funext fun i => Fin.elim0 i⟩

/-- A conjunction of bits is one only where both are. -/
theorem and_one (x y : BitVec 1) (h : x &&& y = 1#1) : x = 1#1 ∧ y = 1#1 := by revert x y; decide

variable (A : FVec Ideal S8192x8192 .bf16) (G : FVec Ideal S8192x128 .f32) (g : FVec Ideal S8192x4096 .bf16) (w : FVec Ideal S4096 .f32)
  (h : fn (F := Ideal) A G g w = fun _ => 1#1)
include h

/-- The projection's entries are real numbers. -/
theorem reals_A : ∃ X : Fin 8192 → Fin 8192 → ℝ, ∀ r s, A (ix2 r s) = ((X r s : ℝ) : EReal) := by
  have h0 := (and_one _ _ (congrFun h ix0)).1
  haveI := scalar_idx
  have h1 : ∀ r s, ∃ y : ℝ, A (ix2 r s) = (y : EReal) := fun r s =>
    real_of_lt _ (Host.reduce_andi_all _ _ _ _ ix0 h0 (ix2 r s))
  choose X hX using h1
  exact ⟨X, hX⟩

/-- The gates' entries are real numbers. -/
theorem reals_G : ∃ Y : Fin 8192 → Fin 128 → ℝ, ∀ r s, G (ix2 r s) = ((Y r s : ℝ) : EReal) := by
  have h0 := (and_one _ _ (congrFun h ix0)).2
  haveI := scalar_idx
  have h1 : ∀ r s, ∃ y : ℝ, G (ix2 r s) = (y : EReal) := fun r s =>
    real_of_lt _ (Host.reduce_andi_all _ _ _ _ ix0 h0 (ix2 r s))
  choose Y hY using h1
  exact ⟨Y, hY⟩

end Cert.Pre_finite.Gen
end
-- ==== Proof.Recur.lean ====
/- The mLSTM's two programs give the same result: the recurrence of either, read over the reals, is the one sequence of hidden
   states, normalised, weighted and gated alike. -/
module

public import proofs.«01_k».proof.Defs
public import proofs.«01_k».proof.Proof.KSum
public import proofs.«01_k».proof.Proof.RTail
public import proofs.«01_k».proof.Proof.Finite
public import Idealize.ShloMosaic.Adequacy
public import Idealize.ShloMosaic.Init
public import Idealize.ShloMosaic.Lib.Quiescent

@[expose] public section
noncomputable section

namespace Cert.Proof
open Idealize.ShloMosaic Idealize.SL.Sem Mlstm

/-- An index of the result, as a token and a head's column. -/
theorem split_idx (j : (⟨2, ![8192, 4096]⟩ : Shape).Idx) : ∃ (b : Fin 4) (n : Fin 2048) (h : Fin 8) (e : Fin 512),
    j = ix2 (tok b n.val) (⟨512 * h.val + e.val, by omega⟩ : Fin 4096) := by
  have h0 : (j 0).val < 8192 := (j 0).isLt
  have h1 : (j 1).val < 4096 := (j 1).isLt
  refine ⟨⟨(j 0).val / 2048, by omega⟩, ⟨(j 0).val % 2048, by omega⟩, ⟨(j 1).val / 512, by omega⟩, ⟨(j 1).val % 512, by omega⟩, ?_⟩
  funext a; refine Fin.ext ?_
  fin_cases a
  · show (j 0).val = 2048 * ((j 0).val / 2048) + (j 0).val % 2048 % 2048; omega
  · show (j 1).val = 512 * ((j 1).val / 512) + (j 1).val % 512; omega

/-- Where the projection and the gates are finite, the kernel's and the reference's mLSTM are the same array. -/
theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3⟩ := hagree c
  obtain ⟨X, hX⟩ := Cert.Pre_finite.Gen.reals_A _ _ _ _ (hpre c)
  obtain ⟨Y, hY⟩ := Cert.Pre_finite.Gen.reals_G _ _ _ _ (hpre c)
  funext j
  obtain ⟨b, n, hd, e, rfl⟩ := split_idx j
  refine (Cert.ReferenceIdeal.Value.result m' c X Y (fun r s => (congrFun e0 _).trans (hX r s)) (fun r s => (congrFun e1 _).trans (hY r s)) b n hd e).trans ?_
  rw [e2, e3]
  exact (Cert.KernelIdeal.Value.result m c X Y hX hY b n hd e).symm

end Cert.Proof
end
-- ==== Proof.OutRun.lean ====
/- The body of the fused output-projection kernel, run on any staging buffers. -/
module

public import proofs.«01_k».proof.Proof.Gen.Kernel2.Frame
public import proofs.«01_k».proof.Proof.Gen.Kernel2.Skeleton

@[expose] public section

set_option maxRecDepth 16384

noncomputable section

namespace Cert.Kernel2.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2.Gen
open Idealize.ShloMosaic.Pipeline (Dat RDat Cfg Window)

variable {F : FTy → Type} [FloatOps F]

local notation "𝕄" => MT nD τ sig Unit (Elt F) ℕ (UR sig nD τ) ℕ

/-- The point is the last of its row block, so the kernel normalises the row block there. -/
abbrev last (i : grid0.Coords) : Prop :=
  (Scalar.cmpi .ne (Scalar.extui (Scalar.cmpi .eq (BitVec.ofNat 32 (i 1).val) 3#32)) 0#32) = 1#1

/-- `last` holds at the points that are 3 modulo 4. -/
theorem last_iff : ∀ t : Fin cfg0.N, last (grid0.coords t) ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [last, e1]
    word_cmp
   : ∀ t : Fin grid0.N, last (grid0.coords t) ↔ t.val % 4 = 3)

/-- What the body stores into the output block at a point that is not the last of its row block, and that it does: the
    inputs keep their contents and the output block has those stores written over what it held. -/
def plain (c : Dev nD) (i : grid0.Coords) (a2 : Memref sig .tc .vmem S512x4096 .bf16) (h2 : a2.IsWhole)
    (a3 : Memref sig .tc .vmem S4096x1024 .bf16) (h3 : a3.IsWhole) (a4 : Memref sig .tc .vmem S512x1024 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (hn : ¬last i)
    (x0 : Vec F S512x4096 .bf16) (x1 : Vec F S4096x1024 .bf16) (x2 : Vec F S512x1024 .f32) (x3 : Vec F S1x4096 .f32) (x4 : Vec F S1x4096 .f32)
    (y : Vec F S512x4096 .f32) :
    { L : List (View.Piece (Elt F) S512x4096 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare y
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ a7.view.loc (c : Thread nD τ) ↦[a7.view.set]{fullShare} a7.view.writes (Elt F) (h7.unread y) L) -∗ K ⟨⟩))
          ⊢ wp frame (wpE (defs₀ (F := F)) Variants.none c none) E (cc0_outproj_ln i a2 h2 a3 h3 a4 h4 a5 h5 a6 h6 a7 h7) K } := by
  refine ⟨?_, fun E K => ?run⟩
  case run =>
    simp only [cc0_outproj_ln_eq_skeleton]; unfold cc0_outproj_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | sl_exact hn)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexact H5

/-- The same at the last point of a row block, where the row block is normalised in four groups of rows. -/
def norm (c : Dev nD) (i : grid0.Coords) (a2 : Memref sig .tc .vmem S512x4096 .bf16) (h2 : a2.IsWhole)
    (a3 : Memref sig .tc .vmem S4096x1024 .bf16) (h3 : a3.IsWhole) (a4 : Memref sig .tc .vmem S512x1024 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (hl : last i)
    (x0 : Vec F S512x4096 .bf16) (x1 : Vec F S4096x1024 .bf16) (x2 : Vec F S512x1024 .f32) (x3 : Vec F S1x4096 .f32) (x4 : Vec F S1x4096 .f32)
    (y : Vec F S512x4096 .f32) :
    { L : List (View.Piece (Elt F) S512x4096 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare y
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ a7.view.loc (c : Thread nD τ) ↦[a7.view.set]{fullShare} a7.view.writes (Elt F) (h7.unread y) L) -∗ K ⟨⟩))
          ⊢ wp frame (wpE (defs₀ (F := F)) Variants.none c none) E (cc0_outproj_ln i a2 h2 a3 h3 a4 h4 a5 h5 a6 h6 a7 h7) K } := by
  refine ⟨?_, fun E K => ?run⟩
  case run =>
    simp only [cc0_outproj_ln_eq_skeleton]; unfold cc0_outproj_ln_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | sl_exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexact H5

end Cert.Kernel2.Run

end
-- ==== Proof.OutFrame.lean ====
/- The fused output-projection kernel runs: its arguments end unchanged, and what its output array holds at the end is, row
   block by row block, what four consecutive points made of the block. -/
module

public import proofs.«01_k».proof.Proof.OutRun
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel2.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2.Gen
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of the body at point `t` into the output block, given that the block held `y`. -/
def stores (c : Dev nD) (t : Fin cfg0.N) (y : Vec F S512x4096 .f32) : List (View.Piece (Elt F) S512x4096 .f32) :=
  if h : last (grid0.coords t) then
    (norm c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) h
      (iblk m c 0 t) (iblk m c 1 t) (iblk m c 2 t) (iblk m c 3 t) (iblk m c 4 t) y).1
  else
    (plain c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) h
      (iblk m c 0 t) (iblk m c 1 t) (iblk m c 2 t) (iblk m c 3 t) (iblk m c 4 t) y).1

/-- What the body leaves in the output block at point `t`, given that the block held `y`. -/
def step (c : Dev nD) (t : Fin cfg0.N) (y : Vec F S512x4096 .f32) : Vec F S512x4096 .f32 :=
  (st0_5 t).view.read (Elt F) ((st0_5 t).view.writes (Elt F) ((hstage0_5 ((cfg0.slots t 5).cast nbuf0_5)).unread y) (stores m c t y))

/-- What the body may have left in the output block after point `n`: a row block's first point finds anything there, each
    later one what the point before it left. -/
def left (c : Dev nD) : (n : ℕ) → n < cfg0.N → Vec F S512x4096 .f32 → Prop
  | 0, h, x => ∃ y, x = step m c ⟨0, h⟩ y
  | n + 1, h, x => ∃ y, (n % 4 ≠ 3 → left c n (Nat.lt_of_succ_lt h) y) ∧ x = step m c ⟨n + 1, h⟩ y

/-- The blocks of the arrays at each point: an input's buffer holds its block before and after the body. Nothing is read
    from what this says of the output block, for which `rel` below stands. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st0_5 t).view.read (Elt F) (st0_5 t).view.junk
  Φ _ := Pipeline.ΦA spec0 c
  q _ := fullShare
  owed _ := 0

/-- The arrays are as the host operations before the kernel leave them. -/
theorem dat_A (c : Dev nD) (w : Fin cfg0.W) : (dat m c).A w = V m c (Pipeline.arrRef spec0 w) := by dsimp only [dat]

/-- The window of the output. -/
def outs : Fin cfg0.W → Bool := fun w => decide (w = 5)

/-- What the body may leave in a window: of the output `left`, of the others nothing is said here. -/
def rel (c : Dev nD) (w : Fin cfg0.W) (t : Fin cfg0.N) : ((cfg0.win w).block.Idx → Elt F (cfg0.win w).elt) → Prop :=
  match w with
  | ⟨5, _⟩ => fun X => left m c t.val t.isLt X
  | ⟨_, _⟩ => fun _ => True

/-- After a point that is not the last of a row block, the next finds in the output block what that point left. -/
theorem found (c : Dev nD) (n : ℕ) (h : n + 1 < cfg0.N) (hn : n % 4 ≠ 3) (y : Vec F S512x4096 .f32)
    (hy : ((dat m c).toRRel outs (rel m c)).Finds 5 ⟨n + 1, h⟩ y) : left m c n (Nat.lt_of_succ_lt h) y := by
  rcases (RDat.finds_of_pos (w := (5 : Fin cfg0.W)) (t := ⟨n + 1, h⟩) _ rfl (Nat.succ_ne_zero n) y).mp hy with hf | hl
  · exact absurd ((flush0_5 _).mp hf) hn
  · exact Dat.toRRel_leaves (w := (5 : Fin cfg0.W)) _ rfl hl

/-- What the body leaves at point `t` of what it found there is `left`. -/
theorem leaves (c : Dev nD) (t : Fin cfg0.N) (y : Vec F S512x4096 .f32)
    (hy : ((dat m c).toRRel outs (rel m c)).Finds 5 t y) : left m c t.val t.isLt (step m c t y) := by
  rcases t with ⟨_ | n, h⟩
  · exact ⟨y, rfl⟩
  · exact ⟨y, fun hn => found m c n h hn y hy, rfl⟩

/-- Each input's buffer holds its block when the body is called. -/
theorem before_0 (c : Dev nD) (t : Fin cfg0.N) (d) : (dat m c).before 0 t d = iblk m c 0 t :=
  before0_0_of m (dat m c) (dat_A m c 0) (fun t => by dsimp only [dat]) t d
/-- Input 1's buffer holds its block when the body is called. -/
theorem before_1 (c : Dev nD) (t : Fin cfg0.N) (d) : (dat m c).before 1 t d = iblk m c 1 t :=
  before0_1_of m (dat m c) (dat_A m c 1) (fun t => by dsimp only [dat]) t d
/-- Input 2's buffer holds its block when the body is called. -/
theorem before_2 (c : Dev nD) (t : Fin cfg0.N) (d) : (dat m c).before 2 t d = iblk m c 2 t :=
  before0_2_of m (dat m c) (dat_A m c 2) (fun t => by dsimp only [dat]) t d
/-- Input 3's buffer holds its block when the body is called. -/
theorem before_3 (c : Dev nD) (t : Fin cfg0.N) (d) : (dat m c).before 3 t d = iblk m c 3 t :=
  before0_3_of m (dat m c) (dat_A m c 3) (fun t => by dsimp only [dat]) t d
/-- Input 4's buffer holds its block when the body is called. -/
theorem before_4 (c : Dev nD) (t : Fin cfg0.N) (d) : (dat m c).before 4 t d = iblk m c 4 t :=
  before0_4_of m (dat m c) (dat_A m c 4) (fun t => by dsimp only [dat]) t d

/-- The body at point `t`: called with each input's block and the output block at `y`, it returns with the inputs as they
    were and the output block at `step t y`. -/
theorem body (c : Dev nD) (t : Fin cfg0.N) (y : Vec F S512x4096 .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare y
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (step m c t y)) -∗ K ⟨⟩))
      ⊢ wp frame (wpE (defs₀ (F := F)) Variants.none c none) Set.univ (bodyAt0 t) K := by
  by_cases h : last (grid0.coords t)
  · iintro ⟨H0, H1, H2, H3, H4, H5, Hk⟩
    iapply ((norm c (grid0.coords t) _ _ _ _ _ _ _ _ _ _ _ _ h (iblk m c 0 t) (iblk m c 1 t) (iblk m c 2 t) (iblk m c 3 t) (iblk m c 4 t) y).2 Set.univ K)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    iapply Hk
    isplitl [H0]; · iexact H0
    isplitl [H1]; · iexact H1
    isplitl [H2]; · iexact H2
    isplitl [H3]; · iexact H3
    isplitl [H4]; · iexact H4
    unfold owns; iexists _; isplitr
    swap; · iexact H5
    ipureintro; unfold step stores; rw [dif_pos h]
  · iintro ⟨H0, H1, H2, H3, H4, H5, Hk⟩
    iapply ((plain c (grid0.coords t) _ _ _ _ _ _ _ _ _ _ _ _ h (iblk m c 0 t) (iblk m c 1 t) (iblk m c 2 t) (iblk m c 3 t) (iblk m c 4 t) y).2 Set.univ K)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    iapply Hk
    isplitl [H0]; · iexact H0
    isplitl [H1]; · iexact H1
    isplitl [H2]; · iexact H2
    isplitl [H3]; · iexact H3
    isplitl [H4]; · iexact H4
    unfold owns; iexists _; isplitr
    swap; · iexact H5
    ipureintro; unfold step stores; rw [dif_neg h]

/-- The body table's entry at point `t` is the body on that point's buffers. -/
theorem row (t : Fin cfg0.N) : defs₀ (F := F) .tc cfg0.body (cfg0.bodyArgs t (cfg0.slots t)) = bodyAt0 t := by
  unfold defs₀; rw [Defs.onTc_tc]

/-- What the launch asks of the body at every point. -/
theorem obligation (c : Dev nD) :
    Pipeline.BodyObligationRel (dat (F := F) m c) (defs₀ (F := F)) Variants.none () Set.univ outs (rel m c) := fun t => by
  rw [bigSep_W0, bigSep_W0, row]
  show iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ Y, ⌜((dat m c).toRRel outs (rel m c)).Finds 5 t Y⌝ ∗ owns (c : Thread nD τ) (st0_5 t) fullShare Y))
    ⊢ wp frame (wpE (defs₀ (F := F)) Variants.none c none) Set.univ (bodyAt0 t) (fun _ =>
      iprop((dat m c).Φ t.castSucc ∗ (dat m c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ (∃ X, ⌜left m c t.val t.isLt X⌝ ∗ owns (c : Thread nD τ) (st0_5 t) fullShare X)))
  simp only [before_0, before_1, before_2, before_3, before_4]
  iintro ⟨HΦ, Ho, ⟨%d0, H0⟩, ⟨%d1, H1⟩, ⟨%d2, H2⟩, ⟨%d3, H3⟩, ⟨%d4, H4⟩, ⟨%y, %hy, H5⟩⟩
  iapply (body m c t y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro; exact leaves m c t y hy

set_option backward.isDefEq.respectTransparency.types false in
/-- The whole program runs; at the end the arrays are what the points may have left, the other buffers are as the kernel
    found them, and every counter is back at zero. -/
theorem launched : θ_run defs (onTc (τ := τ) (main (F := F))) (s₀ m ρ) (fun r =>
    RDat.FramePost cfg0 (fun c => (dat m c).toRRel outs (rel m c)) (V m) r ∧ r.2.sem = fun _ => 0) :=
  RDat.θ_run_frame (Q' := _) cfgs (0 : Fin 1) launch0 defs₀ Variants.none (fun c => (dat m c).toRRel outs (rel m c)) m ρ main
    (hbody := fun c => (obligation m c).toRRel) (hshare := fun c => (dat m c).share_full fun _ => rfl)
    (howed := fun _ _ => rfl) (V := V m) (hmain := hmain m Variants.none) (hA := dat_A m) (hΦ := fun _ _ => rfl)

/-- The argument arrays end as they were. -/
theorem kept (r : PUnit × MemSt nD τ sig (Elt F)) (h : RDat.FramePost cfg0 (fun c => (dat m c).toRRel outs (rel m c)) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h.arr_in c 0 rfl).trans ((dat_A m c 0).trans (V_main_arg0 m c)),
   (h.arr_in c 1 rfl).trans ((dat_A m c 1).trans (V_main_arg1 m c)),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The program runs, its arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (launched m ρ)

/-- The output array ends as `G c` if, at the last point of each row block, whatever the points may have left there is that
    block of `G c`. -/
theorem result (G : (c : Dev nD) → Buf (Elt F) ((c.tc : Thread nD τ).loc main_v3))
    (hG : ∀ c (t : Fin cfg0.N), t.val % 4 = 3 → ∀ X, left m c t.val t.isLt X → ∀ y : S512x4096.Idx,
      X y = G c (((cfg0.win 5).blk t).view.emb y)) :
    θ_run defs (onTc (τ := τ) (main (F := F))) ⟨m, fun _ => 0, ρ⟩ (fun r => ∀ c : Dev nD,
      r.2.mem ((c.tc : Thread nD τ).loc main_v3) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, kept m r h.1 c⟩) (launched m ρ)
  obtain ⟨after, hl, ha⟩ := RDat.FramePost.exists_exact h.1 c
  refine (ha 5).trans (Dat.arrAt_eq_of_covers (((dat m c).toRRel outs (rel m c)).withAfter after) 5 (G c) (by decide +kernel) fun t hf y => ?_)
  exact hG c t ((flush0_5 t).mp hf) (after 5 t) (Dat.toRRel_leaves (w := (5 : Fin cfg0.W)) _ rfl (hl 5 t hf)) y

end Cert.Kernel2.Run

end
-- ==== Proof.OutRow.lean ====
/- Layer norm of a row, and the entries of what the fused output projection stores and of its reference's result. -/
module

public import proofs.«01_k».proof.Defs
public import proofs.«01_k».proof.Proof.Gen.Kernel2.Skeleton
public import proofs.«01_k».proof.Proof.Gen.Reference2Ideal.Run
public import Idealize.ShloMosaic.Lib.Pipeline.ValueKit
public import Idealize.ShloMosaic.Lib.Tactic.ValueTie

@[expose] public section

set_option maxRecDepth 16384

noncomputable section

namespace Cert.Kernel2.Run
open Idealize.ShloMosaic Idealize.ShloMosaic.TcCoe Idealize.SL.Sem Cert.Kernel2.Gen

/-- The mean of a row of 4096 entries. -/
def mean (z : Fin 4096 → EReal) : EReal := Ideal.div (∑ k, z k) (Ideal.ofBits .f32 0x45800000#32)

/-- An entry of a row's layer norm: the entry less the mean, times the reciprocal root of the variance, scaled and shifted. -/
def lnorm (z : Fin 4096 → EReal) (d : Fin 4096) (w b : EReal) : EReal :=
  (z d - mean z) * Ideal.rsqrt (Ideal.div (∑ k, (z k - mean z) * (z k - mean z)) (Ideal.ofBits .f32 0x45800000#32) + Ideal.ofBits .f32 0x3727C5AC#32) * w + b

/-- An entry before the norm: the scaled residual plus the product of a row and a column. -/
def resid (x : EReal) (a b : Fin 4096 → EReal) : EReal := Ideal.ofBits .f32 0x3F9837F0#32 * x + ∑ k, a k * b k

/-- The block of columns a point stores, at an entry. -/
theorem pay1_at (X : FVec Ideal S512x1024 .f32) (A : FVec Ideal S512x4096 .bf16) (B : FVec Ideal S4096x1024 .bf16) (r : Fin 512) (q : Fin 1024) :
    k0_pay1 (F := Ideal) X A B (ix2 r q) = resid (X (ix2 r q)) (fun k => A (ix2 r k)) (fun k => B (ix2 k q)) := by
  pointwise [k0_pay1, resid]

/-- The first group of rows normalised, at an entry. -/
theorem pay3_at (Z : FVec Ideal S128x4096 .f32) (w b : FVec Ideal S1x4096 .f32) (r : Fin 128) (d : Fin 4096) :
    k0_pay3 (F := Ideal) Z w b (ix2 r d) = lnorm (fun k => Z (ix2 r k)) d (w (ix2 0 d)) (b (ix2 0 d)) := by
  pointwise [k0_pay3, lnorm, mean]

/-- The second group's, whose deviations and variance are computed apart. -/
theorem pay6_at (Z : FVec Ideal S128x4096 .f32) (w b : FVec Ideal S1x4096 .f32) (r : Fin 128) (d : Fin 4096) :
    k0_pay6 (F := Ideal) (k0_pay4 Z) (k0_pay5 Z) w b (ix2 r d) = lnorm (fun k => Z (ix2 r k)) d (w (ix2 0 d)) (b (ix2 0 d)) :=
  pay3_at Z w b r d

/-- The third group's. -/
theorem pay7_at (Z : FVec Ideal S128x4096 .f32) (w b : FVec Ideal S1x4096 .f32) (r : Fin 128) (d : Fin 4096) :
    k0_pay7 (F := Ideal) Z w b (ix2 r d) = lnorm (fun k => Z (ix2 r k)) d (w (ix2 0 d)) (b (ix2 0 d)) :=
  pay3_at Z w b r d

/-- The last group's. -/
theorem pay2_at (Z : FVec Ideal S128x4096 .f32) (w b : FVec Ideal S1x4096 .f32) (r : Fin 128) (d : Fin 4096) :
    k0_pay2 (F := Ideal) Z w b (ix2 r d) = lnorm (fun k => Z (ix2 r k)) d (w (ix2 0 d)) (b (ix2 0 d)) :=
  pay3_at Z w b r d

end Cert.Kernel2.Run

namespace Cert.Reference2Ideal
open Idealize.ShloMosaic Idealize.ShloMosaic.TcCoe Idealize.SL.Sem Cert.Reference2Ideal.Gen

/-- The reference's array before the norm. -/
def sums (A : FVec Ideal S8192x4096 .bf16) (B : FVec Ideal S4096x4096 .bf16) (X : FVec Ideal S4x2048x4096 .f32) : FVec Ideal S8192x4096 .f32 :=
  addf (mulf (broadcastInDim S8192x4096 ![] bcast_S_S8192x4096 (constant S_ .f32 0x3F9837F0#32)) (shapeCast _ X shapeCasts_S4x2048x4096_S8192x4096)) (Host.dotGeneral dot_S8192x4096_S4096x4096_S8192x4096_1_0_0_1_n_n none (extf .f32 A bitsLt_bf16_f32) (extf .f32 B bitsLt_bf16_f32))

/-- The reference's deviations from the rows' means. -/
def devs (Z : FVec Ideal S8192x4096 .f32) : FVec Ideal S8192x4096 .f32 :=
  subf Z (broadcastInDim S8192x4096 ![0, 1] bcast_S8192x1_S8192x4096_0_1 (Host.divf (broadcastInDim S8192x1 ![0] bcast_S8192_S8192x1_0 (Host.reduceAdd Z (constant S_ .f32 0x00000000#32) reducesTo_S8192x4096_S8192_d1 h_S_)) (broadcastInDim S8192x1 ![] bcast_S_S8192x1 (constant S_ .f32 0x45800000#32))))

/-- The reference's layer norm of the rows. -/
def normed (Z : FVec Ideal S8192x4096 .f32) (w b : FVec Ideal S4096 .f32) : FVec Ideal S8192x4096 .f32 :=
  addf (mulf (mulf (devs Z) (broadcastInDim S8192x4096 ![0, 1] bcast_S8192x1_S8192x4096_0_1 (Host.rsqrt (addf (Host.divf (broadcastInDim S8192x1 ![0] bcast_S8192_S8192x1_0 (Host.reduceAdd (mulf (devs Z) (devs Z)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32))))))
    (broadcastInDim S8192x4096 ![0, 1] bcast_S1x4096_S8192x4096_0_1 (broadcastInDim S1x4096 ![1] bcast_S4096_S1x4096_1 w)))
    (broadcastInDim S8192x4096 ![0, 1] bcast_S1x4096_S8192x4096_0_1 (broadcastInDim S1x4096 ![1] bcast_S4096_S1x4096_1 b))

/-- The reference's result is `normed` of `sums`. -/
theorem res_eq (m : (ℓ : Loc nD τ sig) → Buf (Elt Ideal) ℓ) (c : Dev nD) : Value.res_main_v30 m c
    = normed (sums (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := rfl

/-- An entry of the array before the norm. -/
theorem sums_at (A : FVec Ideal S8192x4096 .bf16) (B : FVec Ideal S4096x4096 .bf16) (X : FVec Ideal S4x2048x4096 .f32) (i : Fin 8192) (j : Fin 4096) :
    sums A B X (ix2 i j) = Cert.Kernel2.Run.resid (X (ix3 ⟨i.val / 2048, by omega⟩ ⟨i.val % 2048, by omega⟩ j)) (fun k => A (ix2 i k)) (fun k => B (ix2 k j)) := by
  pointwise [sums, Cert.Kernel2.Run.resid]

/-- An entry of the layer norm. -/
theorem normed_at (Z : FVec Ideal S8192x4096 .f32) (w b : FVec Ideal S4096 .f32) (i : Fin 8192) (j : Fin 4096) :
    normed Z w b (ix2 i j) = Cert.Kernel2.Run.lnorm (fun k => Z (ix2 i k)) j (w (ix1 j)) (b (ix1 j)) := by
  pointwise [normed, devs, Cert.Kernel2.Run.lnorm, Cert.Kernel2.Run.mean]

end Cert.Reference2Ideal
end
-- ==== Proof.OutVal.lean ====
/- What the fused output projection leaves in a row block: layer norm of the row block of its reference. -/
module

public import proofs.«01_k».proof.Proof.OutFrame
public import proofs.«01_k».proof.Proof.OutRow
public import Idealize.ShloMosaic.Lib.WritesUnit
public import Idealize.ShloMosaic.Lib.VecWindow

@[expose] public section

set_option maxRecDepth 16384

noncomputable section

namespace Cert.Kernel2.Run
open Idealize.ShloMosaic Idealize.ShloMosaic.TcCoe Idealize.SL.Sem Idealize.ShloMosaic.Tactic Cert.Kernel2.Gen

variable (m : (ℓ : Loc nD τ sig) → Buf (Elt Ideal) ℓ)

/-- The blocks each window holds at each grid point. -/
theorem idx : ∀ t : Fin cfg0.N, win0_0.index t = ![t.val / 4, 0] ∧ win0_1.index t = ![0, t.val % 4] ∧ win0_2.index t = ![t.val / 4, t.val % 4]
    ∧ win0_3.index t = ![0, 0] ∧ win0_4.index t = ![0, 0] ∧ win0_5.index t = ![t.val / 4, 0] :=
  (by decide +kernel : ∀ t : Fin grid0.N, _)

/-- The first column a point stores. -/
theorem off1 : ∀ t : Fin cfg0.N, k0_off1 (grid0.coords t) = ![0, 1024 * (t.val % 4)] :=
  (by decide +kernel : ∀ t : Fin grid0.N, _)

/-- The reference's array before the norm, of the arguments held in memory. -/
abbrev sums (c : Dev nD) : FVec Ideal S8192x4096 .f32 :=
  Cert.Reference2Ideal.sums (m ((c : Thread nD τ).loc main_arg0)) (m ((c : Thread nD τ).loc main_arg1)) (m ((c : Thread nD τ).loc main_arg2))

/-- Row `r` of the row block of point `t` of that array. -/
def zrow (c : Dev nD) (t : Fin cfg0.N) (r : Fin 512) (k : Fin 4096) : EReal :=
  sums m c (ix2 ⟨512 * (t.val / 4) + r.val, by have : t.val < 64 := Nat.lt_of_lt_of_eq t.isLt N_0; omega⟩ k)

/-- An entry of the rows of the residual, one batch after another. -/
theorem rows (X : FVec Ideal S4x2048x4096 .f32) (i : Fin 8192) (k : Fin 4096) :
    shapeCast S8192x4096 X shapeCasts_S4x2048x4096_S8192x4096 (ix2 i k) = X (ix3 ⟨i.val / 2048, by omega⟩ ⟨i.val % 2048, by omega⟩ k) := by
  pointwise []

/-- An entry of a vector as a row. -/
theorem flat (w : FVec Ideal S4096 .f32) (k : Fin 4096) : shapeCast S1x4096 w shapeCasts_S4096_S1x4096 (ix2 0 k) = w (ix1 k) := by
  pointwise []

/-- The residual the kernel is given, at an entry. -/
theorem V_x (c : Dev nD) (i : Fin 8192) (k : Fin 4096) : V m c main_v0 (ix2 i k) = (m ((c : Thread nD τ).loc main_arg2) : FVec Ideal S4x2048x4096 .f32) (ix3 ⟨i.val / 2048, by omega⟩ ⟨i.val % 2048, by omega⟩ k) :=
  (congrFun (by unfold V; after_results <;> rfl) _).trans (rows _ i k)

/-- The scale of the norm, at an entry. -/
theorem V_w (c : Dev nD) (k : Fin 4096) : V m c main_v1 (ix2 0 k) = (m ((c : Thread nD τ).loc main_arg3) : FVec Ideal S4096 .f32) (ix1 k) :=
  (congrFun (by unfold V; after_results <;> rfl) _).trans (flat _ k)

/-- The shift of the norm, at an entry. -/
theorem V_b (c : Dev nD) (k : Fin 4096) : V m c main_v2 (ix2 0 k) = (m ((c : Thread nD τ).loc main_arg4) : FVec Ideal S4096 .f32) (ix1 k) :=
  (congrFun (by unfold V; after_results <;> rfl) _).trans (flat _ k)

/-- The scale's block, at an entry. -/
theorem w_at (c : Dev nD) (t : Fin cfg0.N) (k : Fin 4096) : iblk m c 3 t (ix2 0 k) = (m ((c : Thread nD τ).loc main_arg3) : FVec Ideal S4096 .f32) (ix1 k) := by
  refine Eq.trans (b := V m c main_v1 (ix2 0 k)) ?_ (V_w m c k)
  blk_point [iblk, idx t]

/-- The shift's block, at an entry. -/
theorem b_at (c : Dev nD) (t : Fin cfg0.N) (k : Fin 4096) : iblk m c 4 t (ix2 0 k) = (m ((c : Thread nD τ).loc main_arg4) : FVec Ideal S4096 .f32) (ix1 k) := by
  refine Eq.trans (b := V m c main_v2 (ix2 0 k)) ?_ (V_b m c k)
  blk_point [iblk, idx t]

/-- What a point stores into its columns is the row block of the reference's array. -/
theorem pay_at (c : Dev nD) (t : Fin cfg0.N) (r : Fin 512) (q : Fin 1024) :
    k0_pay1 (F := Ideal) (iblk m c 2 t) (iblk m c 0 t) (iblk m c 1 t) (ix2 r q) = zrow m c t r ⟨1024 * (t.val % 4) + q.val, by omega⟩ := by
  have ht : t.val < 64 := Nat.lt_of_lt_of_eq t.isLt N_0
  refine (pay1_at _ _ _ r q).trans (Eq.trans ?_ (Cert.Reference2Ideal.sums_at _ _ _ ⟨512 * (t.val / 4) + r.val, by omega⟩ ⟨1024 * (t.val % 4) + q.val, by omega⟩).symm)
  have ex : (iblk m c 2 t : FVec Ideal S512x1024 .f32) (ix2 r q) = V m c main_v0 (ix2 ⟨512 * (t.val / 4) + r.val, by omega⟩ ⟨1024 * (t.val % 4) + q.val, by omega⟩) := by
    blk_point [iblk, idx t]
  rw [ex, V_x]
  refine congrArg₂ (resid _) (funext fun k => ?_) (funext fun k => ?_)
  · blk_point [iblk, V, idx t]
  · blk_point [iblk, V, idx t]

/-- A block whose columns before a point's are the reference's has its columns up to the point's so after the point's store. -/
theorem cols_at (c : Dev nD) (t : Fin cfg0.N) (v : View sig .tc .vmem S512x4096 .f32) (f : v.ty.Contents (Elt Ideal))
    (x2 : FVec Ideal S512x1024 .f32) (x0 : FVec Ideal S512x4096 .bf16) (x1 : FVec Ideal S4096x1024 .bf16)
    (e2 : x2 = iblk m c 2 t) (e0 : x0 = iblk m c 0 t) (e1 : x1 = iblk m c 1 t)
    (hf : ∀ (r : Fin 512) (k : Fin 4096), k.val < 1024 * (t.val % 4) → v.read (Elt Ideal) f (ix2 r k) = zrow m c t r k)
    (r : Fin 512) (k : Fin 4096) (hk : k.val < 1024 * (t.val % 4 + 1)) :
    v.read (Elt Ideal) (v.writes (Elt Ideal) f [⟨Rect.unit (s := S512x4096) (k0_off1 (grid0.coords t)) S512x1024.size (k0_off1_inb (grid0.coords t)), k0_pay1 (F := Ideal) x2 x0 x1⟩]) (ix2 r k)
      = zrow m c t r k := by
  subst e2 e0 e1
  by_cases h : k.val < 1024 * (t.val % 4)
  · refine (View.read_writes_cons_unit_of_not_mem v f _ _ [] _ (off1 t) 1 (.inl ?_)).trans (hf r k h)
    exact h
  · refine (View.read_writes_cons_unit_of_mem v f _ _ [] _ (ix2 r (⟨k.val - 1024 * (t.val % 4), by omega⟩ : Fin 1024)) (off1 t) ?_).trans ((pay_at m c t r _).trans ?_)
    · refine Fin.forall_fin_two.mpr ⟨?_, ?_⟩
      · show r.val = 0 + r.val
        omega
      · show k.val = 1024 * (t.val % 4) + (k.val - 1024 * (t.val % 4))
        omega
    · exact congrArg (zrow m c t r) (Fin.ext (by show 1024 * (t.val % 4) + (k.val - 1024 * (t.val % 4)) = k.val; omega))

/-- An entry of the row block's layer norm. -/
def goal (c : Dev nD) (t : Fin cfg0.N) (r : Fin 512) (k : Fin 4096) : EReal :=
  lnorm (zrow m c t r) k ((m ((c : Thread nD τ).loc main_arg3) : FVec Ideal S4096 .f32) (ix1 k)) ((m ((c : Thread nD τ).loc main_arg4) : FVec Ideal S4096 .f32) (ix1 k))

/-- A row block of which the rows before `o` are normalised and the rest are as before the norm. -/
def Upto (c : Dev nD) (t : Fin cfg0.N) (o : ℕ) (X : FVec Ideal S512x4096 .f32) : Prop :=
  ∀ (r : Fin 512) (k : Fin 4096), X (ix2 r k) = if r.val < o then goal m c t r k else zrow m c t r k

/-- Storing the norm of the 128 rows from `o`, read from the block, over them takes `Upto o` to `Upto (o + 128)`. -/
theorem upto_cons (c : Dev nD) (t : Fin cfg0.N) (v : View sig .tc .vmem S512x4096 .f32) (f : v.ty.Contents (Elt Ideal)) (L : List (View.Piece (Elt Ideal) S512x4096 .f32))
    (o : ℕ) (inb : ∀ a, (![o, 0] : Fin 2 → ℕ) a + S128x4096.size a ≤ S512x4096.size a) (P : FVec Ideal S128x4096 .f32) (w b : FVec Ideal S1x4096 .f32)
    (ew : w = iblk m c 3 t) (eb : b = iblk m c 4 t)
    (hP : ∀ (r : Fin 128) (d : Fin 4096), P (ix2 r d)
      = lnorm (fun k => (v.readAt (Elt Ideal) (Rect.unit (s := S512x4096) ![o, 0] S128x4096.size inb).toLoadRect (v.writes (Elt Ideal) f L) : FVec Ideal S128x4096 .f32) (ix2 r k)) d (w (ix2 0 d)) (b (ix2 0 d)))
    (h : Upto m c t o (v.read (Elt Ideal) (v.writes (Elt Ideal) f L))) :
    Upto m c t (o + 128) (v.read (Elt Ideal) (v.writes (Elt Ideal) f (⟨Rect.unit (s := S512x4096) ![o, 0] S128x4096.size inb, P⟩ :: L))) := by
  subst ew eb
  have ho : o + 128 ≤ 512 := inb 0
  intro r k
  by_cases hr : o ≤ r.val ∧ r.val < o + 128
  · refine (View.read_writes_cons_unit_of_mem v f inb P L _ (ix2 (⟨r.val - o, by omega⟩ : Fin 128) k) rfl ?_).trans ((hP _ k).trans ?_)
    · refine Fin.forall_fin_two.mpr ⟨?_, ?_⟩
      · show r.val = o + (r.val - o)
        omega
      · show k.val = 0 + k.val
        omega
    · rw [if_pos hr.2, w_at, b_at]
      refine congrArg (fun z => lnorm z k _ _) (funext fun q => ?_)
      refine Eq.trans (b := v.read (Elt Ideal) (v.writes (Elt Ideal) f L) (ix2 r q)) ?_ ((h r q).trans (if_neg (by omega)))
      refine congrArg (v.read (Elt Ideal) (v.writes (Elt Ideal) f L)) (funext (Fin.forall_fin_two.mpr ⟨Fin.ext ?_, Fin.ext ?_⟩))
      · show o + 1 * (r.val - o) = r.val
        omega
      · show 0 + 1 * q.val = q.val
        omega
  · refine (View.read_writes_cons_unit_of_not_mem v f inb P L _ rfl 0 ?_).trans ((h r k).trans ?_)
    · show r.val < o ∨ o + 128 ≤ r.val
      omega
    · by_cases hr' : r.val < o
      · rw [if_pos hr', if_pos (by omega)]
      · rw [if_neg hr', if_neg (by omega)]

/-- A point that is not the last of its row block adds its columns. -/
theorem step_plain (c : Dev nD) (t : Fin cfg0.N) (y : FVec Ideal S512x4096 .f32) (h : ¬ last (grid0.coords t))
    (hy : ∀ (r : Fin 512) (k : Fin 4096), k.val < 1024 * (t.val % 4) → y (ix2 r k) = zrow m c t r k)
    (r : Fin 512) (k : Fin 4096) (hk : k.val < 1024 * (t.val % 4 + 1)) : step m c t y (ix2 r k) = zrow m c t r k := by
  unfold step stores; rw [dif_neg h]; unfold plain; dsimp only
  refine cols_at m c t _ _ _ _ _ ?_ ?_ ?_ ?_ r k hk
  · exact (View.readAt_full _ _ _).trans (Memref.IsWhole.read_unread _ _)
  · exact (View.readAt_full _ _ _).trans (Memref.IsWhole.read_unread _ _)
  · exact (View.readAt_full _ _ _).trans (Memref.IsWhole.read_unread _ _)
  · intro r k hk
    rw [Memref.IsWhole.read_unread]
    exact hy r k hk

/-- The last point of a row block leaves its layer norm. -/
theorem step_norm (c : Dev nD) (t : Fin cfg0.N) (y : FVec Ideal S512x4096 .f32) (h : last (grid0.coords t))
    (hy : ∀ (r : Fin 512) (k : Fin 4096), k.val < 1024 * (t.val % 4) → y (ix2 r k) = zrow m c t r k)
    (r : Fin 512) (k : Fin 4096) : step m c t y (ix2 r k) = goal m c t r k := by
  unfold step stores; rw [dif_pos h]; unfold norm; dsimp only
  refine (upto_cons m c t _ _ _ 384 _ _ _ _ ?_ ?_ (fun r d => pay2_at _ _ _ r d)
    (upto_cons m c t _ _ _ 256 _ _ _ _ ?_ ?_ (fun r d => pay7_at _ _ _ r d)
      (upto_cons m c t _ _ _ 128 _ _ _ _ ?_ ?_ (fun r d => pay6_at _ _ _ r d)
        (upto_cons m c t _ _ _ 0 _ _ _ _ ?_ ?_ (fun r d => pay3_at _ _ _ r d)
          (fun r k => (cols_at m c t _ _ _ _ _ ?_ ?_ ?_ ?_ r k ?_).trans (if_neg (Nat.not_lt_zero _)).symm)))) r k).trans (if_pos r.isLt)
  all_goals try exact (View.readAt_full _ _ _).trans (Memref.IsWhole.read_unread _ _)
  · intro r k hk
    rw [Memref.IsWhole.read_unread]
    exact hy r k hk
  · have := (last_iff t).mp h
    omega

end Cert.Kernel2.Run
end
-- ==== Proof.Out.lean ====
/- The fused output projection: its runs, and its result against the reference's. -/
module

public import proofs.«01_k».proof.Proof.OutVal
public import proofs.«01_k».proof.Proof.Gen.Kernel2Ideal.Frame

@[expose] public section

set_option maxRecDepth 16384

noncomputable section

namespace Cert.Kernel2.Run
open Idealize.ShloMosaic Idealize.ShloMosaic.TcCoe Idealize.SL.Sem Idealize.ShloMosaic.Tactic Cert.Kernel2.Gen

variable (m : (ℓ : Loc nD τ sig) → Buf (Elt Ideal) ℓ)

/-- Points of one row block have the same rows. -/
theorem zrow_congr (c : Dev nD) (s t : Fin cfg0.N) (h : s.val / 4 = t.val / 4) (r : Fin 512) (k : Fin 4096) : zrow m c s r k = zrow m c t r k := by
  simp only [zrow, h]

/-- What a point finds in the output block is, in the columns of the points before it, the row block before the norm. -/
theorem left_cols (c : Dev nD) : ∀ (n : ℕ) (h : n < cfg0.N) (X : FVec Ideal S512x4096 .f32), n % 4 ≠ 3 → left m c n h X →
    ∀ (r : Fin 512) (k : Fin 4096), k.val < 1024 * (n % 4 + 1) → X (ix2 r k) = zrow m c ⟨n, h⟩ r k
  | 0, h, X, hn, hX => by
    obtain ⟨y, rfl⟩ := hX
    exact step_plain m c ⟨0, h⟩ y (fun hl => hn ((last_iff _).mp hl)) (fun r k hk => absurd hk (Nat.not_lt_zero _))
  | n + 1, h, X, hn, hX => by
    obtain ⟨y, hy, rfl⟩ := hX
    refine step_plain m c ⟨n + 1, h⟩ y (fun hl => hn ((last_iff _).mp hl)) fun r k hk => ?_
    have hk' : k.val < 1024 * ((n + 1) % 4) := hk
    refine (left_cols c n (Nat.lt_of_succ_lt h) y (by omega) (hy (by omega)) r k (by omega)).trans (zrow_congr m c _ _ ?_ r k)
    show n / 4 = (n + 1) / 4
    omega

/-- The last point of a row block leaves the layer norm of the row block. -/
theorem left_norm (c : Dev nD) (t : Fin cfg0.N) (ht : t.val % 4 = 3) (X : FVec Ideal S512x4096 .f32) (hX : left m c t.val t.isLt X)
    (r : Fin 512) (k : Fin 4096) : X (ix2 r k) = goal m c t r k := by
  rcases t with ⟨_ | n, h⟩
  · exact absurd (show 0 % 4 = 3 from ht) (by decide)
  · have ht' : (n + 1) % 4 = 3 := ht
    obtain ⟨y, hy, rfl⟩ := hX
    refine step_norm m c ⟨n + 1, h⟩ y ((last_iff _).mpr ht) (fun r k hk => ?_) r k
    have hk' : k.val < 1024 * ((n + 1) % 4) := hk
    refine (left_cols m c n (Nat.lt_of_succ_lt h) y (by omega) (hy (by omega)) r k (by omega)).trans (zrow_congr m c _ _ ?_ r k)
    show n / 4 = (n + 1) / 4
    omega

/-- The reference's result, of the arguments held in memory. -/
abbrev REF (c : Dev nD) : FVec Ideal S8192x4096 .f32 :=
  Cert.Reference2Ideal.normed (sums m c) (m ((c : Thread nD τ).loc main_arg3)) (m ((c : Thread nD τ).loc main_arg4))

/-- What the last point of a row block leaves is the reference's result at the row block. -/
theorem left_ref (c : Dev nD) (t : Fin cfg0.N) (ht : t.val % 4 = 3) (X : FVec Ideal S512x4096 .f32) (hX : left m c t.val t.isLt X)
    (y : S512x4096.Idx) : X y = REF m c (((cfg0.win 5).blk t).view.emb y) := by
  obtain ⟨r, k, rfl⟩ : ∃ (r : Fin 512) (k : Fin 4096), y = ix2 r k := ⟨y 0, y 1, funext (Fin.forall_fin_two.mpr ⟨rfl, rfl⟩)⟩
  have h64 : t.val < 64 := Nat.lt_of_lt_of_eq t.isLt N_0
  refine (left_norm m c t ht X hX r k).trans ((Cert.Reference2Ideal.normed_at (sums m c) _ _ ⟨512 * (t.val / 4) + r.val, by omega⟩ k).symm.trans (congrArg (REF m c) ?_))
  blk_ext [idx t]

/-- The two programs' bodies are the same text. -/
theorem defs₀_eq {F : FTy → Type} [FloatOps F] : Cert.Kernel2Ideal.defs₀ (F := F) = Cert.Kernel2.defs₀ (F := F) := by
  unfold Cert.Kernel2Ideal.defs₀ Cert.Kernel2.defs₀
  refine congrArg (Defs.onTc (Λ := Cert.Kernel2.Λ₀)) ?_
  funext f x
  match f, x with
  | 0, (t, s) => rfl

/-- So they run the same. -/
theorem defs_eq {F : FTy → Type} [FloatOps F] : Cert.Kernel2Ideal.defs (F := F) = Cert.Kernel2.defs (F := F) :=
  congrArg (Pipeline.defs Cert.Kernel2.pcfgs) defs₀_eq

end Cert.Kernel2.Run

namespace Cert.Proof
open Idealize.ShloMosaic Idealize.SL.Sem

/-- The fused output projection runs, ends with its arguments unchanged and every counter at zero. -/
theorem quiet_out : quiescent_Kernel2 := fun m ρ _ => Cert.Kernel2.Run.frame m ρ

/-- The same of the exact program. -/
theorem quiet_out_ideal : quiescent_Kernel2Ideal := fun m ρ _ => by
  rw [Cert.Kernel2.Run.defs_eq]
  exact Cert.Kernel2.Run.frame m ρ

/-- The kernel's and the reference's output projections, normalised, are the same array. -/
theorem algebraic_out : algebraic_Kernel2Ideal_Reference2Ideal := by
  intro m ρ m' ρ' _ hagree
  refine ⟨_, by rw [Cert.Kernel2.Run.defs_eq]; exact Cert.Kernel2.Run.result m ρ (Cert.Kernel2.Run.REF m) (fun c t ht X hX y => Cert.Kernel2.Run.left_ref m c t ht X hX y), ?_⟩
  refine (θ_run Cert.Reference2Ideal.defs _ _).mono (fun _ h c => ⟨?_, (h c).2⟩) (Cert.Reference2Ideal.Value.run (F := Ideal) m' ρ')
  rw [(h c).1]
  obtain ⟨e0, e1, e2, e3, e4⟩ := hagree c
  refine (Cert.Reference2Ideal.res_eq m' c).trans ?_
  rw [e0, e1, e2, e3, e4]

end Cert.Proof
end
-- ==== Proof.Merge.lean ====
/- The merge of the three branches: each block of the result is the gated sum of the blocks of the three products. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Tactic.ValueTie
public import Idealize.ShloMosaic.Lib.Claim

@[expose] public section

set_option maxRecDepth 16384

noncomputable section

namespace Cert.Kernel3Ideal.Value
open Idealize.ShloMosaic Idealize.ShloMosaic.TcCoe Idealize.SL.Sem Cert.Kernel3Ideal.Gen
open Idealize.ShloMosaic.Pipeline (Dat Cfg Window)

variable (m : (ℓ : Loc nD τ sig) → Buf (Elt Ideal) ℓ)

/-- The reference's result as a function of its seven arguments. -/
abbrev REF (X0 : FVec Ideal S8192x4096 .bf16) (X1 X2 : FVec Ideal S8192x2048 .bf16) (X3 : FVec Ideal S4096x4096 .bf16)
    (X4 X5 : FVec Ideal S2048x4096 .bf16) (X6 : FVec Ideal S8192x12288 .bf16) : FVec Ideal S8192x4096 .bf16 :=
  truncf .bf16 (addf (addf (mulf (extractStridedSlice Cert.Reference3Ideal.S8192x4096 ![0, 0] (extf .f32 X6 Cert.Reference3Ideal.Gen.bitsLt_bf16_f32) Cert.Reference3Ideal.Gen.slices_S8192x12288_S8192x4096_0_0) (Host.dotGeneral Cert.Reference3Ideal.dot_S8192x4096_S4096x4096_S8192x4096_1_0_0_1_n_n none (extf .f32 X0 Cert.Reference3Ideal.Gen.bitsLt_bf16_f32) (extf .f32 X3 Cert.Reference3Ideal.Gen.bitsLt_bf16_f32))) (mulf (extractStridedSlice Cert.Reference3Ideal.S8192x4096 ![0, 4096] (extf .f32 X6 Cert.Reference3Ideal.Gen.bitsLt_bf16_f32) Cert.Reference3Ideal.Gen.slices_S8192x12288_S8192x4096_0_4096) (Host.dotGeneral Cert.Reference3Ideal.dot_S8192x2048_S2048x4096_S8192x4096_1_0_0_1_n_n none (extf .f32 X1 Cert.Reference3Ideal.Gen.bitsLt_bf16_f32) (extf .f32 X4 Cert.Reference3Ideal.Gen.bitsLt_bf16_f32)))) (mulf (extractStridedSlice Cert.Reference3Ideal.S8192x4096 ![0, 8192] (extf .f32 X6 Cert.Reference3Ideal.Gen.bitsLt_bf16_f32) Cert.Reference3Ideal.Gen.slices_S8192x12288_S8192x4096_0_8192) (Host.dotGeneral Cert.Reference3Ideal.dot_S8192x2048_S2048x4096_S8192x4096_1_0_0_1_n_n none (extf .f32 X2 Cert.Reference3Ideal.Gen.bitsLt_bf16_f32) (extf .f32 X5 Cert.Reference3Ideal.Gen.bitsLt_bf16_f32)))) Cert.Reference3Ideal.Gen.bitsLt_bf16_f32

/-- The blocks each window holds at each grid point, by row block `t / 16` and column block `t % 16`. -/
theorem idx : ∀ t : Fin cfg0.N, win0_0.index t = ![t.val / 16, 0] ∧ win0_1.index t = ![t.val / 16, 0] ∧ win0_2.index t = ![t.val / 16, 0]
    ∧ win0_3.index t = ![0, t.val % 16] ∧ win0_4.index t = ![0, t.val % 16] ∧ win0_5.index t = ![0, t.val % 16]
    ∧ win0_6.index t = ![t.val / 16, t.val % 16] ∧ win0_7.index t = ![t.val / 16, 16 + t.val % 16] ∧ win0_8.index t = ![t.val / 16, 32 + t.val % 16]
    ∧ win0_9.index t = ![t.val / 16, t.val % 16] :=
  (by decide +kernel : ∀ t : Fin grid0.N, _)

/-- What grid point `t` stores at a place of its block is the reference's result at that place of the array. -/
theorem point (c : Dev nD) (t : Fin cfg0.N) (y) : k0_pay1 (F := Ideal) (iblk m c 6 t) (iblk m c 0 t) (iblk m c 3 t) (iblk m c 7 t) (iblk m c 1 t) (iblk m c 4 t) (iblk m c 8 t) (iblk m c 2 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, REF]
  blk_point [iblk, V, idx t]

/-- The result array after the run is the reference's result. -/
theorem final (c : Dev nD) : (dats m 0 c).arrAt 9 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact point m c t y

end Cert.Kernel3Ideal.Value

namespace Cert.Proof
open Idealize.ShloMosaic Idealize.SL.Sem

/-- The merge as the kernel computes it and as the reference does give the same array. -/
theorem algebraic_merge : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨e0, e1, e2, e3, e4, e5, e6⟩ := hagree c
  rw [e0, e1, e2, e3, e4, e5, e6]
  exact (Cert.Kernel3Ideal.Value.final m c).symm

end Cert.Proof
end
-- ==== Proof.GatesRun.lean ====
/- The body of the gates' projection, run on any staging buffers. -/
module

public import proofs.«01_k».proof.Proof.Gen.Kernel4.Frame
public import proofs.«01_k».proof.Proof.Gen.Kernel4.Skeleton
public import Idealize.ShloMosaic.Lib.WritesUnit
public import Idealize.ShloMosaic.Lib.VecWindow

@[expose] public section

set_option maxRecDepth 16384

noncomputable section

namespace Cert.Kernel4.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4.Gen

variable {F : FTy → Type} [FloatOps F]

local notation "𝕄" => MT nD τ sig Unit (Elt F) ℕ (UR sig nD τ) ℕ

/-- The block of gates a point stores. -/
def gate (i : grid0.Coords) (x0 : Vec F S1024x4096 .bf16) (x1 : Vec F S512x4096 .f32) (x2 : Vec F S1x12288 .f32) : Vec F S1024x512 .bf16 :=
  k0_pay1 (k0_pay6 x0 x1 (View.ld x2 (Rect.unit (s := S1x12288) (k0_off1 i) S1x512.size (k0_off1_inb i))))

/-- A store over a whole buffer leaves what was stored. -/
theorem read_whole {sig : RefSig} {κ : Kind} {sp : Space} {n k : ℕ} {e : EltTy} {Val : EltTy → Type} (v : View sig κ sp ⟨2, ![n, k]⟩ e) (f : v.ty.Contents Val)
    (inb : ∀ a, (![0, 0] : Fin 2 → ℕ) a + (⟨2, ![n, k]⟩ : Shape).size a ≤ (⟨2, ![n, k]⟩ : Shape).size a) (P : (⟨2, ![n, k]⟩ : Shape).Idx → Val e) :
    v.read Val (v.writes Val f [⟨Rect.unit (s := ⟨2, ![n, k]⟩) ![0, 0] (⟨2, ![n, k]⟩ : Shape).size inb, P⟩]) = P :=
  funext fun y => View.read_writes_cons_unit_of_mem v f inb P [] y y rfl (Fin.forall_fin_two.mpr ⟨(Nat.zero_add _).symm, (Nat.zero_add _).symm⟩)

/-- The gates' block from the loads of the whole input blocks and of the bias' slice. -/
theorem made (i : grid0.Coords) (a2 : Memref sig .tc .vmem S1024x4096 .bf16) (h2 : a2.IsWhole) (a3 : Memref sig .tc .vmem S512x4096 .f32) (h3 : a3.IsWhole)
    (a4 : Memref sig .tc .vmem S1x12288 .f32) (h4 : a4.IsWhole) (x0 : Vec F S1024x4096 .bf16) (x1 : Vec F S512x4096 .f32) (x2 : Vec F S1x12288 .f32) :
    k0_pay1 (k0_pay6 (a2.view.readAt (Elt F) (Rect.unit (s := S1024x4096) ![0, 0] S1024x4096.size inb_S1024x4096_S1024x4096_0_0).toLoadRect (h2.unread x0))
      (a3.view.readAt (Elt F) (Rect.unit (s := S512x4096) ![0, 0] S512x4096.size inb_S512x4096_S512x4096_0_0).toLoadRect (h3.unread x1))
      (a4.view.readAt (Elt F) (Rect.unit (s := S1x12288) (k0_off1 i) S1x512.size (k0_off1_inb i)).toLoadRect (h4.unread x2))) = gate i x0 x1 x2 := by
  have e0 := (View.readAt_full a2.view (h2.unread x0) inb_S1024x4096_S1024x4096_0_0).trans (h2.read_unread x0)
  have e1 := (View.readAt_full a3.view (h3.unread x1) inb_S512x4096_S512x4096_0_0).trans (h3.read_unread x1)
  have e2 : a4.view.readAt (Elt F) (Rect.unit (s := S1x12288) (k0_off1 i) S1x512.size (k0_off1_inb i)).toLoadRect (h4.unread x2)
      = View.ld x2 (Rect.unit (s := S1x12288) (k0_off1 i) S1x512.size (k0_off1_inb i)) :=
    congrArg (fun X => View.ld X (Rect.unit (s := S1x12288) (k0_off1 i) S1x512.size (k0_off1_inb i))) (h4.read_unread x2)
  exact congrArg k0_pay1 (congr (congr (congrArg k0_pay6 e0) e1) e2)

set_option maxHeartbeats 4000000 in
/-- The body on any buffers: the inputs keep their contents, the gates' block is stored, and of the four blocks of weights each is
    stored where its condition holds and kept otherwise. -/
theorem run (c : Dev nD) (i : grid0.Coords)
    (a2 : Memref sig .tc .vmem S1024x4096 .bf16) (h2 : a2.IsWhole) (a3 : Memref sig .tc .vmem S512x4096 .f32) (h3 : a3.IsWhole)
    (a4 : Memref sig .tc .vmem S1x12288 .f32) (h4 : a4.IsWhole) (a5 : Memref sig .tc .vmem S1x64x4096 .f32) (h5 : a5.IsWhole)
    (a6 : Memref sig .tc .vmem S1x64x4096 .f32) (h6 : a6.IsWhole) (a7 : Memref sig .tc .vmem S1x64x4096 .f32) (h7 : a7.IsWhole)
    (a8 : Memref sig .tc .vmem S1x64x4096 .f32) (h8 : a8.IsWhole) (a9 : Memref sig .tc .vmem S1024x512 .bf16) (h9 : a9.IsWhole)
    (a10 : Memref sig .tc .vmem S64x4096 .bf16) (h10 : a10.IsWhole) (a11 : Memref sig .tc .vmem S64x4096 .bf16) (h11 : a11.IsWhole)
    (a12 : Memref sig .tc .vmem S64x4096 .bf16) (h12 : a12.IsWhole) (a13 : Memref sig .tc .vmem S64x4096 .bf16) (h13 : a13.IsWhole)
    (x0 : Vec F S1024x4096 .bf16) (x1 : Vec F S512x4096 .f32) (x2 : Vec F S1x12288 .f32) (x3 : Vec F S1x64x4096 .f32) (x4 : Vec F S1x64x4096 .f32) (x5 : Vec F S1x64x4096 .f32) (x6 : Vec F S1x64x4096 .f32)
    (y7 : Vec F S1024x512 .bf16) (y8 : Vec F S64x4096 .bf16) (y9 : Vec F S64x4096 .bf16) (y10 : Vec F S64x4096 .bf16) (y11 : Vec F S64x4096 .bf16)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare y7 ∗ owns (c : Thread nD τ) a10 fullShare y8
        ∗ owns (c : Thread nD τ) a11 fullShare y9 ∗ owns (c : Thread nD τ) a12 fullShare y10 ∗ owns (c : Thread nD τ) a13 fullShare y11
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare (gate i x0 x1 x2) ∗ owns (c : Thread nD τ) a10 fullShare (if k0_cond1 i = 1#1 then k0_pay2 x3 else y8)
            ∗ owns (c : Thread nD τ) a11 fullShare (if k0_cond2 i = 1#1 then k0_pay3 x4 else y9) ∗ owns (c : Thread nD τ) a12 fullShare (if k0_cond3 i = 1#1 then k0_pay4 x5 else y10) ∗ owns (c : Thread nD τ) a13 fullShare (if k0_cond4 i = 1#1 then k0_pay5 x6 else y11)) -∗ K ⟨⟩))
      ⊢ wp frame (wpE (defs₀ (F := F)) Variants.none c none) E (cc0_proj_gates i a2 h2 a3 h3 a4 h4 a5 h5 a6 h6 a7 h7 a8 h8 a9 h9 a10 h10 a11 h11 a12 h12 a13 h13) K := by
  simp only [cc0_proj_gates_eq_skeleton]; unfold cc0_proj_gates_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10; obtain rfl := h13.eq_unread hf11
  by_cases g1 : k0_cond1 i = 1#1 <;> by_cases g2 : k0_cond2 i = 1#1 <;> by_cases g3 : k0_cond3 i = 1#1 <;> by_cases g4 : k0_cond4 i = 1#1
  all_goals
    sl_exec (disch := first | sl_exact g1 | sl_exact g2 | sl_exact g3 | sl_exact g4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr
      swap; · iexact H7
      ipureintro; exact (read_whole _ _ _ _).trans (made i a2 h2 a3 h3 a4 h4 x0 x1 x2)
    isplitl [H8]
    · iexists _; isplitr
      swap; · iexact H8
      ipureintro
      first
      | rw [if_pos g1]; exact (read_whole _ _ _ _).trans (congrArg k0_pay2 ((View.readAt_full _ _ _).trans (h5.read_unread _)))
      | rw [if_neg g1]; exact h10.read_unread _
    isplitl [H9]
    · iexists _; isplitr
      swap; · iexact H9
      ipureintro
      first
      | rw [if_pos g2]; exact (read_whole _ _ _ _).trans (congrArg k0_pay3 ((View.readAt_full _ _ _).trans (h6.read_unread _)))
      | rw [if_neg g2]; exact h11.read_unread _
    isplitl [H10]
    · iexists _; isplitr
      swap; · iexact H10
      ipureintro
      first
      | rw [if_pos g3]; exact (read_whole _ _ _ _).trans (congrArg k0_pay4 ((View.readAt_full _ _ _).trans (h7.read_unread _)))
      | rw [if_neg g3]; exact h12.read_unread _
    · iexists _; isplitr
      swap; · iexact H11
      ipureintro
      first
      | rw [if_pos g4]; exact (read_whole _ _ _ _).trans (congrArg k0_pay5 ((View.readAt_full _ _ _).trans (h8.read_unread _)))
      | rw [if_neg g4]; exact h13.read_unread _

end Cert.Kernel4.Run

end
-- ==== Proof.GatesFrame.lean ====
/- The gates' projection runs: its arguments end unchanged, the gates' array ends as what each point stores, and each array of
   weights as what the points of its run store. -/
module

public import proofs.«01_k».proof.Proof.GatesRun
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel4.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4.Gen
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points at which each of the four weights is stored: one run of points each. -/
theorem conds : ∀ t : Fin cfg0.N, (k0_cond1 (grid0.coords t) = 1#1 ↔ 0 ≤ t.val ∧ t.val ≤ 63) ∧ (k0_cond2 (grid0.coords t) = 1#1 ↔ 64 ≤ t.val ∧ t.val ≤ 95)
    ∧ (k0_cond3 (grid0.coords t) = 1#1 ↔ 96 ≤ t.val ∧ t.val ≤ 127) ∧ (k0_cond4 (grid0.coords t) = 1#1 ↔ 128 ≤ t.val ∧ t.val ≤ 191) :=
  (by decide +kernel : ∀ t : Fin grid0.N, _)

/-- A weight's block is not written back before its run, -/
theorem flushed : ∀ t : Fin cfg0.N, (win0_9.flush t = true → 64 ≤ t.val) ∧ (win0_10.flush t = true → 96 ≤ t.val) ∧ (win0_11.flush t = true → 128 ≤ t.val) :=
  (by decide +kernel : ∀ t : Fin grid0.N, _)

/-- nor from the run's last point on, but at the last of all. -/
theorem unflushed : ∀ t : Fin cfg0.N, t.val < 191 → (63 ≤ t.val → win0_8.flush t = false) ∧ (95 ≤ t.val → win0_9.flush t = false) ∧ (127 ≤ t.val → win0_10.flush t = false) :=
  (by decide +kernel : ∀ t : Fin grid0.N, _)

/-- The point `t`, or the point `l` if that is earlier. -/
def upto (l : ℕ) (t : Fin cfg0.N) : Fin cfg0.N := ⟨min t.val l, Nat.lt_of_le_of_lt (Nat.min_le_left _ _) t.isLt⟩

/-- From the point `f` on, the block `X` after point `t` is the one stored there, or at `l` if that is earlier. -/
def held (f l : ℕ) (P : Fin cfg0.N → Vec F S64x4096 .bf16) (t : Fin cfg0.N) (X : Vec F S64x4096 .bf16) : Prop := f ≤ t.val → X = P (upto l t)

/-- A block stored at the points from `f` to `l`, and kept at the others, is so held if it was held before. -/
theorem held_step {f l : ℕ} {P : Fin cfg0.N → Vec F S64x4096 .bf16} {t : Fin cfg0.N} {C : Prop} [Decidable C] (hC : C ↔ f ≤ t.val ∧ t.val ≤ l) (hfl : f ≤ l) (y : Vec F S64x4096 .bf16)
    (hy : ∀ h0 : t.val ≠ 0, l < t.val → held f l P ⟨t.val - 1, Nat.lt_of_le_of_lt (Nat.sub_le _ _) t.isLt⟩ y) : held f l P t (if C then P t else y) := fun hf => by
  by_cases hl : t.val ≤ l
  · rw [if_pos (hC.mpr ⟨hf, hl⟩)]
    exact congrArg P (Fin.ext (Nat.min_eq_left hl).symm)
  · rw [if_neg (fun h => hl (hC.mp h).2)]
    refine (hy (by omega) (by omega) (show f ≤ t.val - 1 by omega)).trans (congrArg P (Fin.ext ?_))
    show min (t.val - 1) l = min t.val l
    omega

/-- The blocks of the arrays at each point: an input's buffer holds its block before and after the body. Nothing is read
    from what this says of the outputs, for which `rel` below stands. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st0_7 t).view.read (Elt F) (st0_7 t).view.junk
    | ⟨8, _⟩ => (st0_8 t).view.read (Elt F) (st0_8 t).view.junk
    | ⟨9, _⟩ => (st0_9 t).view.read (Elt F) (st0_9 t).view.junk
    | ⟨10, _⟩ => (st0_10 t).view.read (Elt F) (st0_10 t).view.junk
    | ⟨11, _⟩ => (st0_11 t).view.read (Elt F) (st0_11 t).view.junk
  Φ _ := Pipeline.ΦA spec0 c
  q _ := fullShare
  owed _ := 0

/-- The arrays are as the host operations before the kernel leave them. -/
theorem dat_A (c : Dev nD) (w : Fin cfg0.W) : (dat m c).A w = V m c (Pipeline.arrRef spec0 w) := by dsimp only [dat]

/-- The windows of the outputs. -/
def outs : Fin cfg0.W → Bool := fun w => decide (7 ≤ w.val)

/-- What the body may leave in a window: in the gates' the block it stores, in a weight's the block held, in the others nothing is
    said here. -/
def rel (c : Dev nD) (w : Fin cfg0.W) (t : Fin cfg0.N) : ((cfg0.win w).block.Idx → Elt F (cfg0.win w).elt) → Prop :=
  match w with
  | ⟨7, _⟩ => fun X => X = gate (grid0.coords t) (iblk m c 0 t) (iblk m c 1 t) (iblk m c 2 t)
  | ⟨8, _⟩ => fun X => held 0 63 (fun s => k0_pay2 (iblk m c 3 s)) t X
  | ⟨9, _⟩ => fun X => held 64 95 (fun s => k0_pay3 (iblk m c 4 s)) t X
  | ⟨10, _⟩ => fun X => held 96 127 (fun s => k0_pay4 (iblk m c 5 s)) t X
  | ⟨11, _⟩ => fun X => held 128 191 (fun s => k0_pay5 (iblk m c 6 s)) t X
  | ⟨_, _⟩ => fun _ => True

/-- A block that was not written back is found as it was left. -/
theorem found (c : Dev nD) (w : Fin cfg0.W) (ho : outs w = true) (t : Fin cfg0.N) (hi : (cfg0.win w).fetch t = false) (h0 : t.val ≠ 0)
    (hf : (cfg0.win w).flush ⟨t.val - 1, Nat.lt_of_le_of_lt (Nat.sub_le _ _) t.isLt⟩ = false) (y : (cfg0.win w).block.Idx → Elt F (cfg0.win w).elt)
    (hy : ((dat m c).toRRel outs (rel m c)).Finds w t y) : rel m c w ⟨t.val - 1, Nat.lt_of_le_of_lt (Nat.sub_le _ _) t.isLt⟩ y := by
  rcases (RDat.finds_of_pos _ hi h0 y).mp hy with h | hl
  · exact absurd (h.symm.trans hf) (by decide)
  · exact Dat.toRRel_leaves _ ho hl

/-- Input 0's buffer holds its block when the body is called. -/
theorem before_0 (c : Dev nD) (t : Fin cfg0.N) (d) : (dat m c).before 0 t d = iblk m c 0 t :=
  before0_0_of m (dat m c) (dat_A m c 0) (fun t => by dsimp only [dat]) t d
/-- Input 1's buffer holds its block when the body is called. -/
theorem before_1 (c : Dev nD) (t : Fin cfg0.N) (d) : (dat m c).before 1 t d = iblk m c 1 t :=
  before0_1_of m (dat m c) (dat_A m c 1) (fun t => by dsimp only [dat]) t d
/-- Input 2's buffer holds its block when the body is called. -/
theorem before_2 (c : Dev nD) (t : Fin cfg0.N) (d) : (dat m c).before 2 t d = iblk m c 2 t :=
  before0_2_of m (dat m c) (dat_A m c 2) (fun t => by dsimp only [dat]) t d
/-- Input 3's buffer holds its block when the body is called. -/
theorem before_3 (c : Dev nD) (t : Fin cfg0.N) (d) : (dat m c).before 3 t d = iblk m c 3 t :=
  before0_3_of m (dat m c) (dat_A m c 3) (fun t => by dsimp only [dat]) t d
/-- Input 4's buffer holds its block when the body is called. -/
theorem before_4 (c : Dev nD) (t : Fin cfg0.N) (d) : (dat m c).before 4 t d = iblk m c 4 t :=
  before0_4_of m (dat m c) (dat_A m c 4) (fun t => by dsimp only [dat]) t d
/-- Input 5's buffer holds its block when the body is called. -/
theorem before_5 (c : Dev nD) (t : Fin cfg0.N) (d) : (dat m c).before 5 t d = iblk m c 5 t :=
  before0_5_of m (dat m c) (dat_A m c 5) (fun t => by dsimp only [dat]) t d
/-- Input 6's buffer holds its block when the body is called. -/
theorem before_6 (c : Dev nD) (t : Fin cfg0.N) (d) : (dat m c).before 6 t d = iblk m c 6 t :=
  before0_6_of m (dat m c) (dat_A m c 6) (fun t => by dsimp only [dat]) t d

/-- The body at point `t`, on the point's buffers. -/
theorem body (c : Dev nD) (t : Fin cfg0.N) (y7 : Vec F S1024x512 .bf16) (y8 y9 y10 y11 : Vec F S64x4096 .bf16) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare y7
        ∗ owns (c : Thread nD τ) (st0_8 t) fullShare y8 ∗ owns (c : Thread nD τ) (st0_9 t) fullShare y9
        ∗ owns (c : Thread nD τ) (st0_10 t) fullShare y10 ∗ owns (c : Thread nD τ) (st0_11 t) fullShare y11
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (iblk m c 5 t)
            ∗ owns (c : Thread nD τ) (st0_6 t) fullShare (iblk m c 6 t) ∗ owns (c : Thread nD τ) (st0_7 t) fullShare (gate (grid0.coords t) (iblk m c 0 t) (iblk m c 1 t) (iblk m c 2 t))
            ∗ owns (c : Thread nD τ) (st0_8 t) fullShare (if k0_cond1 (grid0.coords t) = 1#1 then k0_pay2 (iblk m c 3 t) else y8) ∗ owns (c : Thread nD τ) (st0_9 t) fullShare (if k0_cond2 (grid0.coords t) = 1#1 then k0_pay3 (iblk m c 4 t) else y9)
            ∗ owns (c : Thread nD τ) (st0_10 t) fullShare (if k0_cond3 (grid0.coords t) = 1#1 then k0_pay4 (iblk m c 5 t) else y10) ∗ owns (c : Thread nD τ) (st0_11 t) fullShare (if k0_cond4 (grid0.coords t) = 1#1 then k0_pay5 (iblk m c 6 t) else y11)) -∗ K ⟨⟩))
      ⊢ wp frame (wpE (defs₀ (F := F)) Variants.none c none) Set.univ (bodyAt0 t) K :=
  run c (grid0.coords t) _ _ _ _ _ _ _ _ _ _ _ _ _ _ _ _ _ _ _ _ _ _ _ _ (iblk m c 0 t) (iblk m c 1 t) (iblk m c 2 t) (iblk m c 3 t) (iblk m c 4 t)
    (iblk m c 5 t) (iblk m c 6 t) y7 y8 y9 y10 y11 Set.univ K

/-- The body table's entry at point `t` is the body on that point's buffers. -/
theorem row (t : Fin cfg0.N) : defs₀ (F := F) .tc cfg0.body (cfg0.bodyArgs t (cfg0.slots t)) = bodyAt0 t := by
  unfold defs₀; rw [Defs.onTc_tc]

/-- What the launch asks of the body at every point. -/
theorem obligation (c : Dev nD) :
    Pipeline.BodyObligationRel (dat (F := F) m c) (defs₀ (F := F)) Variants.none () Set.univ outs (rel m c) := fun t => by
  rw [bigSep_W0, bigSep_W0, row]
  show iprop((dat m c).Φ t.castSucc ∗ (dat m c).owesAt () t.castSucc
      ∗ (∃ d, owns (c : Thread nD τ) (st0_0 t) fullShare ((dat m c).before 0 t d))
      ∗ (∃ d, owns (c : Thread nD τ) (st0_1 t) fullShare ((dat m c).before 1 t d))
      ∗ (∃ d, owns (c : Thread nD τ) (st0_2 t) fullShare ((dat m c).before 2 t d))
      ∗ (∃ d, owns (c : Thread nD τ) (st0_3 t) fullShare ((dat m c).before 3 t d))
      ∗ (∃ d, owns (c : Thread nD τ) (st0_4 t) fullShare ((dat m c).before 4 t d))
      ∗ (∃ d, owns (c : Thread nD τ) (st0_5 t) fullShare ((dat m c).before 5 t d))
      ∗ (∃ d, owns (c : Thread nD τ) (st0_6 t) fullShare ((dat m c).before 6 t d))
      ∗ (∃ Y, ⌜((dat m c).toRRel outs (rel m c)).Finds 7 t Y⌝ ∗ owns (c : Thread nD τ) (st0_7 t) fullShare Y)
      ∗ (∃ Y, ⌜((dat m c).toRRel outs (rel m c)).Finds 8 t Y⌝ ∗ owns (c : Thread nD τ) (st0_8 t) fullShare Y)
      ∗ (∃ Y, ⌜((dat m c).toRRel outs (rel m c)).Finds 9 t Y⌝ ∗ owns (c : Thread nD τ) (st0_9 t) fullShare Y)
      ∗ (∃ Y, ⌜((dat m c).toRRel outs (rel m c)).Finds 10 t Y⌝ ∗ owns (c : Thread nD τ) (st0_10 t) fullShare Y)
      ∗ (∃ Y, ⌜((dat m c).toRRel outs (rel m c)).Finds 11 t Y⌝ ∗ owns (c : Thread nD τ) (st0_11 t) fullShare Y))
    ⊢ wp frame (wpE (defs₀ (F := F)) Variants.none c none) Set.univ (bodyAt0 t) (fun _ =>
      iprop((dat m c).Φ t.castSucc ∗ (dat m c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ X, ⌜rel m c 7 t X⌝ ∗ owns (c : Thread nD τ) (st0_7 t) fullShare X)
        ∗ (∃ X, ⌜rel m c 8 t X⌝ ∗ owns (c : Thread nD τ) (st0_8 t) fullShare X)
        ∗ (∃ X, ⌜rel m c 9 t X⌝ ∗ owns (c : Thread nD τ) (st0_9 t) fullShare X)
        ∗ (∃ X, ⌜rel m c 10 t X⌝ ∗ owns (c : Thread nD τ) (st0_10 t) fullShare X)
        ∗ (∃ X, ⌜rel m c 11 t X⌝ ∗ owns (c : Thread nD τ) (st0_11 t) fullShare X)))
  simp only [before_0, before_1, before_2, before_3, before_4, before_5, before_6]
  iintro ⟨HΦ, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩⟩
  iapply (body m c t y7 y8 y9 y10 y11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro; exact rfl
  isplitl [H8]
  · iexists _; isplitr
    swap; · iexact H8
    ipureintro
    exact held_step (P := fun s => k0_pay2 (iblk m c 3 s)) (conds t).1 (by decide) y8 fun h0 hl =>
      found m c 8 rfl t rfl h0 ((unflushed ⟨t.val - 1, Nat.lt_of_le_of_lt (Nat.sub_le _ _) t.isLt⟩ (by have := Nat.lt_of_lt_of_eq t.isLt N_0; show t.val - 1 < 191; omega)).1 (show 63 ≤ t.val - 1 by omega)) y8 hy8
  isplitl [H9]
  · iexists _; isplitr
    swap; · iexact H9
    ipureintro
    exact held_step (P := fun s => k0_pay3 (iblk m c 4 s)) (conds t).2.1 (by decide) y9 fun h0 hl =>
      found m c 9 rfl t rfl h0 ((unflushed ⟨t.val - 1, Nat.lt_of_le_of_lt (Nat.sub_le _ _) t.isLt⟩ (by have := Nat.lt_of_lt_of_eq t.isLt N_0; show t.val - 1 < 191; omega)).2.1 (show 95 ≤ t.val - 1 by omega)) y9 hy9
  isplitl [H10]
  · iexists _; isplitr
    swap; · iexact H10
    ipureintro
    exact held_step (P := fun s => k0_pay4 (iblk m c 5 s)) (conds t).2.2.1 (by decide) y10 fun h0 hl =>
      found m c 10 rfl t rfl h0 ((unflushed ⟨t.val - 1, Nat.lt_of_le_of_lt (Nat.sub_le _ _) t.isLt⟩ (by have := Nat.lt_of_lt_of_eq t.isLt N_0; show t.val - 1 < 191; omega)).2.2 (show 127 ≤ t.val - 1 by omega)) y10 hy10
  · iexists _; isplitr
    swap; · iexact H11
    ipureintro
    exact held_step (P := fun s => k0_pay5 (iblk m c 6 s)) (conds t).2.2.2 (by decide) y11 fun h0 hl =>
      found m c 11 rfl t rfl h0 (Nat.lt_irrefl _ (Nat.lt_of_lt_of_le hl (Nat.le_of_lt_succ (Nat.lt_of_lt_of_eq t.isLt N_0))) |>.elim) y11 hy11

set_option backward.isDefEq.respectTransparency.types false in
/-- The whole program runs; at the end the arrays are what the points may have left, the other buffers are as the kernel
    found them, and every counter is back at zero. -/
theorem launched : θ_run defs (onTc (τ := τ) (main (F := F))) (s₀ m ρ) (fun r =>
    RDat.FramePost cfg0 (fun c => (dat m c).toRRel outs (rel m c)) (V m) r ∧ r.2.sem = fun _ => 0) :=
  RDat.θ_run_frame (Q' := _) cfgs (0 : Fin 1) launch0 defs₀ Variants.none (fun c => (dat m c).toRRel outs (rel m c)) m ρ main
    (hbody := fun c => (obligation m c).toRRel) (hshare := fun c => (dat m c).share_full fun _ => rfl)
    (howed := fun _ _ => rfl) (V := V m) (hmain := hmain m Variants.none) (hA := dat_A m) (hΦ := fun _ _ => rfl)

/-- The argument arrays end as they were. -/
theorem kept (r : PUnit × MemSt nD τ sig (Elt F)) (h : RDat.FramePost cfg0 (fun c => (dat m c).toRRel outs (rel m c)) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h.arr_in c 0 rfl).trans ((dat_A m c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c 3 rfl).trans ((dat_A m c 3).trans (V_main_arg3 m c)),
   (h.arr_in c 4 rfl).trans ((dat_A m c 4).trans (V_main_arg4 m c)),
   (h.arr_in c 5 rfl).trans ((dat_A m c 5).trans (V_main_arg5 m c)),
   (h.arr_in c 6 rfl).trans ((dat_A m c 6).trans (V_main_arg6 m c))⟩

/-- The program runs, its arguments end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m r h.1, h.2⟩) (launched m ρ)

/-- The output arrays end as `G0` to `G4` if each block a point stores is that point's block of them. -/
theorem result (G0 : (c : Dev nD) → Buf (Elt F) ((c.tc : Thread nD τ).loc main_v5_0))
    (G1 : (c : Dev nD) → Buf (Elt F) ((c.tc : Thread nD τ).loc main_v5_1))
    (G2 : (c : Dev nD) → Buf (Elt F) ((c.tc : Thread nD τ).loc main_v5_2))
    (G3 : (c : Dev nD) → Buf (Elt F) ((c.tc : Thread nD τ).loc main_v5_3))
    (G4 : (c : Dev nD) → Buf (Elt F) ((c.tc : Thread nD τ).loc main_v5_4))
    (h0 : ∀ c (t : Fin cfg0.N) (y : S1024x512.Idx), gate (grid0.coords t) (iblk m c 0 t) (iblk m c 1 t) (iblk m c 2 t) y = G0 c (((cfg0.win 7).blk t).view.emb y))
    (h1 : ∀ c (t : Fin cfg0.N), 0 ≤ t.val → ∀ y : S64x4096.Idx, k0_pay2 (iblk m c 3 (upto 63 t)) y = G1 c (((cfg0.win 8).blk t).view.emb y))
    (h2 : ∀ c (t : Fin cfg0.N), 64 ≤ t.val → ∀ y : S64x4096.Idx, k0_pay3 (iblk m c 4 (upto 95 t)) y = G2 c (((cfg0.win 9).blk t).view.emb y))
    (h3 : ∀ c (t : Fin cfg0.N), 96 ≤ t.val → ∀ y : S64x4096.Idx, k0_pay4 (iblk m c 5 (upto 127 t)) y = G3 c (((cfg0.win 10).blk t).view.emb y))
    (h4 : ∀ c (t : Fin cfg0.N), 128 ≤ t.val → ∀ y : S64x4096.Idx, k0_pay5 (iblk m c 6 (upto 191 t)) y = G4 c (((cfg0.win 11).blk t).view.emb y)) :
    θ_run defs (onTc (τ := τ) (main (F := F))) ⟨m, fun _ => 0, ρ⟩ (fun r => ∀ c : Dev nD,
      r.2.mem ((c.tc : Thread nD τ).loc main_v5_0) = G0 c
      ∧ r.2.mem ((c.tc : Thread nD τ).loc main_v5_1) = G1 c
      ∧ r.2.mem ((c.tc : Thread nD τ).loc main_v5_2) = G2 c
      ∧ r.2.mem ((c.tc : Thread nD τ).loc main_v5_3) = G3 c
      ∧ r.2.mem ((c.tc : Thread nD τ).loc main_v5_4) = G4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (launched m ρ)
  obtain ⟨after, hl, ha⟩ := RDat.FramePost.exists_exact h.1 c
  refine ⟨(ha 7).trans (Dat.arrAt_eq_of_covers (((dat m c).toRRel outs (rel m c)).withAfter after) 7 (G0 c) (by decide +kernel) fun t hf y => ?_),
    (ha 8).trans (Dat.arrAt_eq_of_covers (((dat m c).toRRel outs (rel m c)).withAfter after) 8 (G1 c) (by decide +kernel) fun t hf y => ?_),
    (ha 9).trans (Dat.arrAt_eq_of_covers (((dat m c).toRRel outs (rel m c)).withAfter after) 9 (G2 c) (by decide +kernel) fun t hf y => ?_),
    (ha 10).trans (Dat.arrAt_eq_of_covers (((dat m c).toRRel outs (rel m c)).withAfter after) 10 (G3 c) (by decide +kernel) fun t hf y => ?_),
    (ha 11).trans (Dat.arrAt_eq_of_covers (((dat m c).toRRel outs (rel m c)).withAfter after) 11 (G4 c) (by decide +kernel) fun t hf y => ?_), kept m r h.1 c⟩
  · have e : after 7 t = gate (grid0.coords t) (iblk m c 0 t) (iblk m c 1 t) (iblk m c 2 t) := Dat.toRRel_leaves (w := (7 : Fin cfg0.W)) _ rfl (hl 7 t hf)
    exact (congrFun e y).trans (h0 c t y)
  · have e : held 0 63 (fun s => k0_pay2 (iblk m c 3 s)) t (after 8 t) := Dat.toRRel_leaves (w := (8 : Fin cfg0.W)) _ rfl (hl 8 t hf)
    exact (congrFun (e (Nat.zero_le _)) y).trans (h1 c t (Nat.zero_le _) y)
  · have e : held 64 95 (fun s => k0_pay3 (iblk m c 4 s)) t (after 9 t) := Dat.toRRel_leaves (w := (9 : Fin cfg0.W)) _ rfl (hl 9 t hf)
    exact (congrFun (e ((flushed t).1 hf)) y).trans (h2 c t ((flushed t).1 hf) y)
  · have e : held 96 127 (fun s => k0_pay4 (iblk m c 5 s)) t (after 10 t) := Dat.toRRel_leaves (w := (10 : Fin cfg0.W)) _ rfl (hl 10 t hf)
    exact (congrFun (e ((flushed t).2.1 hf)) y).trans (h3 c t ((flushed t).2.1 hf) y)
  · have e : held 128 191 (fun s => k0_pay5 (iblk m c 6 s)) t (after 11 t) := Dat.toRRel_leaves (w := (11 : Fin cfg0.W)) _ rfl (hl 11 t hf)
    exact (congrFun (e ((flushed t).2.2 hf)) y).trans (h4 c t ((flushed t).2.2 hf) y)

end Cert.Kernel4.Run

end
-- ==== Proof.Linear.lean ====
/- The input projection at an entry: the reference's `x @ w_in + b_in`, and the sigmoid in its two forms. -/
module

public import proofs.«01_k».proof.Proof.Gen.Reference5Ideal.Run
public import Idealize.ShloMosaic.Lib.Tactic.ValueTie

@[expose] public section

set_option maxRecDepth 16384

noncomputable section

namespace Linear
open Idealize.ShloMosaic Cert.Reference5Ideal Cert.Reference5Ideal.Gen

/-- Entry `(i, j)` of the projection: the row's product with the column, and the bias. -/
def lin (X : FVec Ideal S8192x4096 .bf16) (W : FVec Ideal S1x4096x40976 .f32) (B : FVec Ideal S1x40976 .f32) (i : Fin 8192) (j : Fin 40976) : EReal :=
  ∑ k : Fin 4096, X (ix2 i k) * W (ix3 0 k j) + B (ix2 0 j)

/-- The reference's projection, all columns. -/
def u (X : FVec Ideal S8192x4096 .bf16) (W : FVec Ideal S1x4096x40976 .f32) (B : FVec Ideal S1x40976 .f32) : FVec Ideal S8192x40976 .f32 :=
  addf (Host.dotGeneral dot_S8192x4096_S4096x40976_S8192x40976_1_0_0_1_n_n none (extf .f32 X bitsLt_bf16_f32) (shapeCast _ W shapeCasts_S1x4096x40976_S4096x40976))
    (broadcastInDim S8192x40976 ![0, 1] bcast_S1x40976_S8192x40976_0_1 (broadcastInDim S1x40976 ![1] bcast_S40976_S1x40976_1 (shapeCast _ B shapeCasts_S1x40976_S40976)))

/-- An entry of the whole projection. -/
theorem u_at (X : FVec Ideal S8192x4096 .bf16) (W : FVec Ideal S1x4096x40976 .f32) (B : FVec Ideal S1x40976 .f32) (i : Fin 8192) (j : Fin 40976) :
    u X W B (ix2 i j) = lin X W B i j := by
  pointwise [u, lin]

/-- A block's product of a row with a weight row, and the bias, is the projection's entry they are blocks of. -/
theorem lin_of {X : FVec Ideal S8192x4096 .bf16} {W : FVec Ideal S1x4096x40976 .f32} {B : FVec Ideal S1x40976 .f32} {i : Fin 8192} {j : Fin 40976}
    {x w : Fin 4096 → EReal} {b : EReal} (hx : ∀ k, x k = X (ix2 i k)) (hw : ∀ k, w k = W (ix3 0 k j)) (hb : b = B (ix2 0 j)) :
    ∑ k, x k * w k + b = lin X W B i j := by
  subst hb
  exact congrArg (· + _) (Finset.sum_congr rfl fun k _ => by rw [hx, hw])

/-- The sigmoid as the reference writes it. -/
abbrev sigm (z : EReal) : EReal := Ideal.div 1 (1 + Ideal.exp (-z))

/-- Half of `tanh (z / 2)` plus a half is `1 / (1 + exp (-z))`, at the infinities too. -/
theorem sig (z : EReal) : Ideal.ofBits FTy.bf16 16128#16 * Ideal.tanh (Ideal.ofBits FTy.bf16 16128#16 * z) + Ideal.ofBits FTy.bf16 16128#16
    = sigm z := by
  have h1 : Ideal.ofBits FTy.bf16 16128#16 = ((1 / 2 : ℝ) : EReal) := by
    simp [Ideal.ofBits, Ideal.ieee, -EReal.coe_mul]; norm_num
  rw [h1]
  show _ = Ideal.logistic z
  induction z with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    have h : Real.exp r ≠ 0 := (Real.exp_pos r).ne'
    have h' : Real.exp (r / 2) ≠ 0 := (Real.exp_pos _).ne'
    have e : Real.exp r = Real.exp (r / 2) * Real.exp (r / 2) := by rw [← Real.exp_add]; ring_nf
    rw [← EReal.coe_mul, Ideal.tanh_coe, Ideal.logistic_coe, ← EReal.coe_mul, ← EReal.coe_add]
    congr 1
    rw [Real.tanh_eq_sinh_div_cosh, Real.sinh_eq, Real.cosh_eq, show 1 / 2 * r = r / 2 by ring, Real.exp_neg, Real.exp_neg, e]
    have p : 0 < Real.exp (r / 2) := Real.exp_pos _
    field_simp
    ring

/-- An entry of the transposed weight. -/
theorem transposed (W : FVec Ideal S1x4096x40976 .f32) (h : S1x4096x40976.Transposes [0, 2, 1] ⟨3, ![1, 40976, 4096]⟩)
    (h' : Shape.ShapeCasts ⟨3, ![1, 40976, 4096]⟩ ⟨2, ![40976, 4096]⟩) (r : Fin 40976) (k : Fin 4096) :
    shapeCast ⟨2, ![40976, 4096]⟩ (transpose ⟨3, ![1, 40976, 4096]⟩ [0, 2, 1] W h) h' (ix2 r k) = W (ix3 0 k r) := by
  pointwise []

/-- A grid point's block of the product is the projection's: `Vw` is the transposed weight, `Vb` the bias columns from `off` on, the block's
    weight rows start at `off + n` and its bias columns at `n`. -/
theorem block {X : FVec Ideal S8192x4096 .bf16} {W : FVec Ideal S1x4096x40976 .f32} {B : FVec Ideal S1x40976 .f32} {N bn off : ℕ}
    {Vw : Shape.Idx ⟨2, ![40976, 4096]⟩ → EReal} {Vb : Shape.Idx ⟨2, ![1, N]⟩ → EReal} {h : ∀ r : Fin N, off + r.val < 40976}
    (hw : ∀ r k, Vw (ix2 r k) = W (ix3 0 k r)) (hb : ∀ r, Vb (ix2 0 r) = B (ix2 0 ⟨off + r.val, h r⟩))
    {i : Fin 8192} {x : Fin 4096 → EReal} (hx : ∀ k, x k = X (ix2 i k))
    {ew : Fin 4096 → Shape.Idx ⟨2, ![40976, 4096]⟩} {eb : Shape.Idx ⟨2, ![1, N]⟩} {ow i0 ob : Fin 2 → ℕ} {n : ℕ} {q : Fin bn} {r : Fin N}
    (how : ow = ![off + n, 0]) (hew : ∀ k a, (ew k a : ℕ) = ow a + (ix2 q k a : ℕ))
    (hi : i0 = ![0, 0]) (hob : ob = ![0, n]) (heb : ∀ a, (eb a : ℕ) = i0 a * ![1, N] a + 1 * (ob a + 1 * (ix2 (0 : Fin 1) q a : ℕ))) (hr : r.val = n + q.val) :
    ∑ k, x k * Vw (ew k) + Vb eb = lin X W B i ⟨off + r.val, h r⟩ := by
  subst how hi hob
  have eb' : eb = ix2 0 r := by
    refine funext fun a => Fin.ext ((heb a).trans ?_)
    fin_cases a
    · rfl
    · show 0 * N + 1 * (n + 1 * q.val) = r.val
      omega
  refine lin_of hx (fun k => ?_) (by rw [eb', hb])
  rw [← hw]
  refine congrArg Vw (funext fun a => Fin.ext ((hew k a).trans ?_))
  fin_cases a
  · show off + n + q.val = off + r.val
    omega
  · exact Nat.zero_add _

end Linear
end
-- ==== Proof.Gates.lean ====
/- The gates' projection: its runs, and its results against the reference's. -/
module

public import proofs.«01_k».proof.Defs
public import proofs.«01_k».proof.Proof.GatesFrame
public import proofs.«01_k».proof.Proof.Linear
public import proofs.«01_k».proof.Proof.Gen.Kernel4Ideal.Frame
public import proofs.«01_k».proof.Proof.Gen.Reference4Ideal.Run
public import Idealize.ShloMosaic.Lib.Pipeline.ValueKit
public import Idealize.ShloMosaic.Lib.Tactic.ValueTie

@[expose] public section

set_option maxRecDepth 16384

noncomputable section

namespace Cert.Kernel4.Run
open Idealize.ShloMosaic Idealize.ShloMosaic.TcCoe Idealize.SL.Sem Idealize.ShloMosaic.Tactic Cert.Kernel4.Gen

variable (m : (ℓ : Loc nD τ sig) → Buf (Elt Ideal) ℓ)

/-- The reference's gates as a function of its arguments. -/
abbrev REF (X : FVec Ideal S8192x4096 .bf16) (W : FVec Ideal S1x4096x40976 .f32) (B : FVec Ideal S1x40976 .f32) : FVec Ideal S8192x12288 .bf16 :=
  truncf .bf16 (Host.divf (broadcastInDim Cert.Reference4Ideal.S8192x12288 ![] Cert.Reference4Ideal.Gen.bcast_S_S8192x12288 (constant Cert.Reference4Ideal.S_ .f32 0x3F800000#32))
    (addf (broadcastInDim Cert.Reference4Ideal.S8192x12288 ![] Cert.Reference4Ideal.Gen.bcast_S_S8192x12288 (constant Cert.Reference4Ideal.S_ .f32 0x3F800000#32))
      (Host.exp (Host.negf (extractStridedSlice Cert.Reference4Ideal.S8192x12288 ![0, 28688] (Linear.u X W B) Cert.Reference4Ideal.Gen.slices_S8192x40976_S8192x12288_0_28688)))))
    Cert.Reference4Ideal.Gen.bitsLt_bf16_f32

/-- The blocks each window holds at each grid point. -/
theorem idx : ∀ t : Fin cfg0.N, win0_0.index t = ![t.val / 24, 0] ∧ win0_2.index t = ![0, 0] ∧ win0_7.index t = ![t.val / 24, t.val % 24]
    ∧ win0_3.index t = ![0, min t.val 63, 0] ∧ win0_4.index t = ![0, min (t.val - 64) 31, 0] ∧ win0_5.index t = ![0, min (t.val - 96) 31, 0] ∧ win0_6.index t = ![0, t.val - 128, 0]
    ∧ win0_8.index t = ![min t.val 63, 0] ∧ win0_9.index t = ![min (t.val - 64) 31, 0] ∧ win0_10.index t = ![min (t.val - 96) 31, 0] ∧ win0_11.index t = ![t.val - 128, 0] :=
  (by decide +kernel : ∀ t : Fin grid0.N, _)

/-- The rows of the transposed weight and the columns of the bias a grid point reads start at its column block. -/
theorem offs : ∀ t : Fin cfg0.N, cc0_transform_1 (grid0.coords t) = ![28688 + t.val % 24 * 512, 0] ∧ k0_off1 (grid0.coords t) = ![0, t.val % 24 * 512] :=
  (by decide +kernel : ∀ t : Fin grid0.N, _)

/-- The second operand is the transposed weight. -/
theorem V_w (c : Dev nD) (r : Fin 40976) (k : Fin 4096) : V m c main_v4 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- The gates' columns of the bias as one row. -/
theorem seg (B : FVec Ideal S1x40976 .f32) (r : Fin 12288) :
    shapeCast S1x12288 (shapeCast S12288 (extractStridedSlice S1x12288 ![0, 28688] B slices_S1x40976_S1x12288_0_28688) shapeCasts_S1x12288_S12288) shapeCasts_S12288_S1x12288 (ix2 0 r) = B (ix2 0 ⟨28688 + r.val, by omega⟩) := by
  pointwise []

/-- The third operand is the gates' bias. -/
theorem V_b (c : Dev nD) (r : Fin 12288) : V m c main_v3 (ix2 0 r) = (m ((c : Thread nD τ).loc main_arg2) : FVec Ideal S1x40976 .f32) (ix2 0 ⟨28688 + r.val, by omega⟩) :=
  (congrFun (by unfold V; after_results <;> rfl) _).trans (seg _ r)

/-- What a grid point stores, from the entry `u` of the projection. -/
theorem pay_at (x : FVec Ideal S1024x4096 .bf16) (w : FVec Ideal S512x4096 .f32) (b : FVec Ideal S1x512 .f32) (p : Fin 1024) (q : Fin 512) {u : EReal}
    (hu : ∑ k : Fin 4096, x (ix2 p k) * w (ix2 q k) + b (ix2 0 q) = u) :
    k0_pay1 (F := Ideal) (k0_pay6 x w b) (ix2 p q) = Linear.sigm u := by
  subst hu
  rw [← Linear.sig]
  pointwise [k0_pay1, k0_pay6]

/-- An entry of the reference's gates from the projection's entry. -/
theorem ref_at (X : FVec Ideal S8192x4096 .bf16) (W : FVec Ideal S1x4096x40976 .f32) (B : FVec Ideal S1x40976 .f32) (i : Fin 8192) (j : Fin 12288) :
    REF X W B (ix2 i j) = Linear.sigm (Linear.lin X W B i ⟨28688 + j.val, by omega⟩) := by
  rw [← Linear.u_at]
  pointwise [REF, Linear.sigm]

/-- An entry of the block of rows a grid point reads. -/
theorem x_at (c : Dev nD) (t : Fin cfg0.N) (p : Fin 1024) (k : Fin 4096) (i : Fin 8192) (hi : i.val = t.val / 24 * 1024 + p.val) :
    (iblk m c 0 t : FVec Ideal S1024x4096 .bf16) (ix2 p k) = (m ((c : Thread nD τ).loc main_arg0) : FVec Ideal S8192x4096 .bf16) (ix2 i k) := by
  blk_point [iblk, V, idx t]

/-- What grid point `t` stores at a place of its block of gates is the reference's at that place of the array. -/
theorem point (c : Dev nD) (t : Fin cfg0.N) (y : S1024x512.Idx) :
    gate (F := Ideal) (grid0.coords t) (iblk m c 0 t) (iblk m c 1 t) (iblk m c 2 t) y
    = REF (m ((c : Thread nD τ).loc main_arg0)) (m ((c : Thread nD τ).loc main_arg1)) (m ((c : Thread nD τ).loc main_arg2)) (((cfg0.win 7).blk t).view.emb y) := by
  obtain ⟨p, q, rfl⟩ : ∃ (p : Fin 1024) (q : Fin 512), y = ix2 p q := ⟨y 0, y 1, funext fun a => by fin_cases a <;> rfl⟩
  have ht : t.val < 192 := Nat.lt_of_lt_of_eq t.isLt N_0
  have hp := p.isLt
  have hq := q.isLt
  have e : ((cfg0.win 7).blk t).view.emb (ix2 p q) = (ix2 ⟨t.val / 24 * 1024 + p.val, by omega⟩ ⟨t.val % 24 * 512 + q.val, by omega⟩ : S8192x12288.Idx) := by
    blk_ext [idx t]
  rw [e]
  unfold gate
  refine (pay_at _ _ _ p q ?_).trans (ref_at _ _ _ _ _).symm
  exact Linear.block (V_w m c) (V_b m c) (fun k => x_at m c t p k _ rfl) (offs t).1 (fun k a => congrArg (_ + ·) (Nat.one_mul _)) (idx t).2.1 (offs t).2 (fun a => rfl) rfl

/-- A block of a weight as the kernel stores it, at an entry. -/
theorem cast_at (x : FVec Ideal S1x64x4096 .f32) (r : Fin 64) (k : Fin 4096) : k0_pay2 (F := Ideal) x (ix2 r k) = x (ix3 0 r k) := by
  pointwise [k0_pay2]

/-- A weight of 4096 rows as the reference casts it. -/
abbrev wide (W : FVec Ideal S1x4096x4096 .f32) : FVec Ideal S4096x4096 .bf16 :=
  truncf .bf16 (shapeCast _ W Cert.Reference4Ideal.Gen.shapeCasts_S1x4096x4096_S4096x4096) Cert.Reference4Ideal.Gen.bitsLt_bf16_f32

/-- An entry of it. -/
theorem wide_at (W : FVec Ideal S1x4096x4096 .f32) (i : Fin 4096) (k : Fin 4096) : wide W (ix2 i k) = W (ix3 0 i k) := by
  pointwise [wide]

/-- A weight of 2048 rows as the reference casts it. -/
abbrev slim (W : FVec Ideal S1x2048x4096 .f32) : FVec Ideal S2048x4096 .bf16 :=
  truncf .bf16 (shapeCast _ W Cert.Reference4Ideal.Gen.shapeCasts_S1x2048x4096_S2048x4096) Cert.Reference4Ideal.Gen.bitsLt_bf16_f32

/-- An entry of it. -/
theorem slim_at (W : FVec Ideal S1x2048x4096 .f32) (i : Fin 2048) (k : Fin 4096) : slim W (ix2 i k) = W (ix3 0 i k) := by
  pointwise [slim]

/-- The places of a block of a weight. -/
theorem place (y : S64x4096.Idx) : ∃ (r : Fin 64) (k : Fin 4096), y = ix2 r k := ⟨y 0, y 1, funext fun a => by fin_cases a <;> rfl⟩

/-- A block of the first weight, once its run has begun, is the reference's. -/
theorem first (c : Dev nD) (t : Fin cfg0.N) (h : 0 ≤ t.val) (y : S64x4096.Idx) :
    k0_pay2 (F := Ideal) (iblk m c 3 (upto 63 t)) y = wide (m ((c : Thread nD τ).loc main_arg3)) (((cfg0.win 8).blk t).view.emb y) := by
  obtain ⟨r, k, rfl⟩ := place y
  have ht : t.val < 192 := Nat.lt_of_lt_of_eq t.isLt N_0
  have hs : (upto 63 t).val = min t.val 63 := rfl
  have e : ((cfg0.win 8).blk t).view.emb (ix2 r k) = (ix2 ⟨64 * (min t.val 63) + r.val, by omega⟩ k : S4096x4096.Idx) := by
    blk_ext [idx t]
  have e' : (iblk m c 3 (upto 63 t) : FVec Ideal S1x64x4096 .f32) (ix3 0 r k) = (m ((c : Thread nD τ).loc main_arg3) : FVec Ideal S1x4096x4096 .f32) (ix3 0 ⟨64 * (min t.val 63) + r.val, by omega⟩ k) := by
    blk_point [iblk, V, idx (upto 63 t)]
  rw [e]
  exact (cast_at _ r k).trans (e'.trans (wide_at _ _ k).symm)

/-- A block of the second weight, once its run has begun, is the reference's. -/
theorem second (c : Dev nD) (t : Fin cfg0.N) (h : 64 ≤ t.val) (y : S64x4096.Idx) :
    k0_pay3 (F := Ideal) (iblk m c 4 (upto 95 t)) y = slim (m ((c : Thread nD τ).loc main_arg4)) (((cfg0.win 9).blk t).view.emb y) := by
  obtain ⟨r, k, rfl⟩ := place y
  have ht : t.val < 192 := Nat.lt_of_lt_of_eq t.isLt N_0
  have hs : (upto 95 t).val = min t.val 95 := rfl
  have e : ((cfg0.win 9).blk t).view.emb (ix2 r k) = (ix2 ⟨64 * (min (t.val - 64) 31) + r.val, by omega⟩ k : S2048x4096.Idx) := by
    blk_ext [idx t]
  have e' : (iblk m c 4 (upto 95 t) : FVec Ideal S1x64x4096 .f32) (ix3 0 r k) = (m ((c : Thread nD τ).loc main_arg4) : FVec Ideal S1x2048x4096 .f32) (ix3 0 ⟨64 * (min (t.val - 64) 31) + r.val, by omega⟩ k) := by
    blk_point [iblk, V, idx (upto 95 t)]
  rw [e]
  exact (cast_at _ r k).trans (e'.trans (slim_at _ _ k).symm)

/-- A block of the third weight, once its run has begun, is the reference's. -/
theorem third (c : Dev nD) (t : Fin cfg0.N) (h : 96 ≤ t.val) (y : S64x4096.Idx) :
    k0_pay4 (F := Ideal) (iblk m c 5 (upto 127 t)) y = slim (m ((c : Thread nD τ).loc main_arg5)) (((cfg0.win 10).blk t).view.emb y) := by
  obtain ⟨r, k, rfl⟩ := place y
  have ht : t.val < 192 := Nat.lt_of_lt_of_eq t.isLt N_0
  have hs : (upto 127 t).val = min t.val 127 := rfl
  have e : ((cfg0.win 10).blk t).view.emb (ix2 r k) = (ix2 ⟨64 * (min (t.val - 96) 31) + r.val, by omega⟩ k : S2048x4096.Idx) := by
    blk_ext [idx t]
  have e' : (iblk m c 5 (upto 127 t) : FVec Ideal S1x64x4096 .f32) (ix3 0 r k) = (m ((c : Thread nD τ).loc main_arg5) : FVec Ideal S1x2048x4096 .f32) (ix3 0 ⟨64 * (min (t.val - 96) 31) + r.val, by omega⟩ k) := by
    blk_point [iblk, V, idx (upto 127 t)]
  rw [e]
  exact (cast_at _ r k).trans (e'.trans (slim_at _ _ k).symm)

/-- A block of the fourth weight, once its run has begun, is the reference's. -/
theorem fourth (c : Dev nD) (t : Fin cfg0.N) (h : 128 ≤ t.val) (y : S64x4096.Idx) :
    k0_pay5 (F := Ideal) (iblk m c 6 (upto 191 t)) y = wide (m ((c : Thread nD τ).loc main_arg6)) (((cfg0.win 11).blk t).view.emb y) := by
  obtain ⟨r, k, rfl⟩ := place y
  have ht : t.val < 192 := Nat.lt_of_lt_of_eq t.isLt N_0
  have hs : (upto 191 t).val = min t.val 191 := rfl
  have e : ((cfg0.win 11).blk t).view.emb (ix2 r k) = (ix2 ⟨64 * (t.val - 128) + r.val, by omega⟩ k : S4096x4096.Idx) := by
    blk_ext [idx t]
  have e' : (iblk m c 6 (upto 191 t) : FVec Ideal S1x64x4096 .f32) (ix3 0 r k) = (m ((c : Thread nD τ).loc main_arg6) : FVec Ideal S1x4096x4096 .f32) (ix3 0 ⟨64 * (t.val - 128) + r.val, by omega⟩ k) := by
    blk_point [iblk, V, idx (upto 191 t)]
  rw [e]
  exact (cast_at _ r k).trans (e'.trans (wide_at _ _ k).symm)

/-- The two programs' bodies are the same text. -/
theorem defs₀_eq {F : FTy → Type} [FloatOps F] : Cert.Kernel4Ideal.defs₀ (F := F) = Cert.Kernel4.defs₀ (F := F) := by
  unfold Cert.Kernel4Ideal.defs₀ Cert.Kernel4.defs₀
  refine congrArg (Defs.onTc (Λ := Cert.Kernel4.Λ₀)) ?_
  funext f x
  match f, x with
  | 0, (t, s) => rfl

/-- So they run the same. -/
theorem defs_eq {F : FTy → Type} [FloatOps F] : Cert.Kernel4Ideal.defs (F := F) = Cert.Kernel4.defs (F := F) :=
  congrArg (Pipeline.defs Cert.Kernel4.pcfgs) defs₀_eq

end Cert.Kernel4.Run

namespace Cert.Proof
open Idealize.ShloMosaic Idealize.SL.Sem

/-- The gates' projection runs, ends with its arguments unchanged and every counter at zero. -/
theorem quiet_gates : quiescent_Kernel4 := fun m ρ _ => Cert.Kernel4.Run.frame m ρ

/-- The same of the exact program. -/
theorem quiet_gates_ideal : quiescent_Kernel4Ideal := fun m ρ _ => by
  rw [Cert.Kernel4.Run.defs_eq]
  exact Cert.Kernel4.Run.frame m ρ

/-- The kernel's and the reference's gates and cast weights are the same arrays. -/
theorem algebraic_gates : algebraic_Kernel4Ideal_Reference4Ideal := by
  intro m ρ m' ρ' _ hagree
  refine ⟨_, _, _, _, _, by
    rw [Cert.Kernel4.Run.defs_eq]
    exact Cert.Kernel4.Run.result m ρ _ _ _ _ _ (Cert.Kernel4.Run.point m) (Cert.Kernel4.Run.first m) (Cert.Kernel4.Run.second m) (Cert.Kernel4.Run.third m) (Cert.Kernel4.Run.fourth m), ?_⟩
  refine (θ_run Cert.Reference4Ideal.defs _ _).mono (fun _ h c => ?_) (Cert.Reference4Ideal.Value.run (F := Ideal) m' ρ')
  obtain ⟨g0, g1, g2, g3, g4, h⟩ := h c
  obtain ⟨e0, e1, e2, e3, e4, e5, e6⟩ := hagree c
  rw [g0, g1, g2, g3, g4]
  refine ⟨?_, ?_, ?_, ?_, ?_, h⟩
  · rw [e0, e1, e2]; rfl
  · rw [e3]
  · rw [e4]
  · rw [e5]
  · rw [e6]

end Cert.Proof
end
-- ==== Proof.Qkv.lean ====
/- The query, key and value columns of the input projection. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Tactic.ValueTie
public import Idealize.ShloMosaic.Lib.Claim
public import proofs.«01_k».proof.Proof.Linear

@[expose] public section

set_option maxRecDepth 16384

noncomputable section

namespace Cert.Kernel5Ideal.Value
open Idealize.ShloMosaic Idealize.ShloMosaic.TcCoe Idealize.SL.Sem Cert.Kernel5Ideal.Gen
open Idealize.ShloMosaic.Pipeline (Dat Cfg Window)

variable (m : (ℓ : Loc nD τ sig) → Buf (Elt Ideal) ℓ)

/-- The blocks each window holds at each grid point. -/
theorem idx : ∀ t : Fin cfg0.N, win0_0.index t = ![t.val / 16, 0] ∧ win0_2.index t = ![0, 0] ∧ win0_3.index t = ![t.val / 16, t.val % 16] :=
  (by decide +kernel : ∀ t : Fin grid0.N, _)

/-- Where a point's columns begin in the bias. -/
theorem off1 : ∀ t : Fin cfg0.N, k0_off1 (grid0.coords t) = ![0, t.val % 16 * 512] :=
  (by decide +kernel : ∀ t : Fin grid0.N, _)

/-- A place of the weight's block, in the weight. -/
theorem emb1 (t : Fin cfg0.N) (y) (a) : (((win0_1.blk t).view.emb y) a : ℕ) = cc0_transform_1 (grid0.coords t) a + (y a : ℕ) :=
  congrArg (_ + ·) (Nat.one_mul _)

/-- Where a point's rows of the transposed weight begin. -/
theorem tr1 : ∀ t : Fin cfg0.N, cc0_transform_1 (grid0.coords t) = ![t.val % 16 * 512, 0] :=
  (by decide +kernel : ∀ t : Fin grid0.N, _)

/-- The transposed weight, at an entry. -/
theorem V_w (c : Dev nD) (r : Fin 40976) (k : Fin 4096) : V m c main_v4 (ix2 r k) = (m ((c : Thread nD τ).loc main_arg1) : FVec Ideal S1x4096x40976 .f32) (ix3 0 k r) := by
  have : (V m c main_v4 : FVec Ideal S40976x4096 .f32) = shapeCast S40976x4096 (transpose S1x40976x4096 [0, 2, 1] (m ((c : Thread nD τ).loc main_arg1) : FVec Ideal S1x4096x40976 .f32) transposes_S1x4096x40976_S1x40976x4096_0_2_1) shapeCasts_S1x40976x4096_S40976x4096 := by
    unfold V; after_results <;> rfl
  refine (congrFun this _).trans ?_
  pointwise []

/-- The cut bias, at an entry. -/
theorem V_b (c : Dev nD) (r : Fin 8192) : V m c main_v3 (ix2 0 r) = (m ((c : Thread nD τ).loc main_arg2) : FVec Ideal S1x40976 .f32) (ix2 0 ⟨r.val, by omega⟩) := by
  have : (V m c main_v3 : FVec Ideal S1x8192 .f32) = shapeCast S1x8192 (shapeCast S8192 (extractStridedSlice S1x8192 ![0, 0] (m ((c : Thread nD τ).loc main_arg2) : FVec Ideal S1x40976 .f32) slices_S1x40976_S1x8192_0_0) shapeCasts_S1x8192_S8192) shapeCasts_S8192_S1x8192 := by
    unfold V; after_results <;> rfl
  refine (congrFun this _).trans ?_
  pointwise []

/-- The reference's result as a function of its three arguments. -/
abbrev REF (X : FVec Ideal S8192x4096 .bf16) (W : FVec Ideal S1x4096x40976 .f32) (B : FVec Ideal S1x40976 .f32) : FVec Ideal Cert.Reference5Ideal.S8192x8192 .bf16 :=
  truncf .bf16 (extractStridedSlice Cert.Reference5Ideal.S8192x8192 ![0, 0] (Linear.u X W B) Cert.Reference5Ideal.Gen.slices_S8192x40976_S8192x8192_0_0) Cert.Reference5Ideal.Gen.bitsLt_bf16_f32

/-- The input's block, at an entry. -/
theorem x_at (c : Dev nD) (t : Fin cfg0.N) (p : Fin 2048) (k : Fin 4096) (i : Fin 8192) (hi : i.val = t.val / 16 * 2048 + p.val) :
    (iblk m c 0 t : FVec Ideal S2048x4096 .bf16) (ix2 p k) = (m ((c : Thread nD τ).loc main_arg0) : FVec Ideal S8192x4096 .bf16) (ix2 i k) := by
  blk_point [iblk, V, idx t]

/-- The transposed weight's block, at an entry. -/
theorem w_at (c : Dev nD) (t : Fin cfg0.N) (q : Fin 512) (k : Fin 4096) (j : Fin 40976) (hj : j.val = t.val % 16 * 512 + q.val) :
    (iblk m c 1 t : FVec Ideal S512x4096 .f32) (ix2 q k) = (m ((c : Thread nD τ).loc main_arg1) : FVec Ideal S1x4096x40976 .f32) (ix3 0 k j) := by
  refine Eq.trans ?_ (V_w m c j k)
  refine congrArg (V m c main_v4) (funext fun a => Fin.ext ?_)
  refine (emb1 t _ a).trans ?_
  rw [tr1]
  fin_cases a
  · exact hj.symm
  · exact Nat.zero_add _

/-- The bias a point reads, at an entry. -/
theorem b_at (c : Dev nD) (t : Fin cfg0.N) (q : Fin 512) (j : Fin 40976) (h) (hj : j.val = t.val % 16 * 512 + q.val) :
    (View.ld (iblk m c 2 t) (Rect.unit (k0_off1 (grid0.coords t)) ![1, 512] h) : FVec Ideal S1x512 .f32) (ix2 0 q) = (m ((c : Thread nD τ).loc main_arg2) : FVec Ideal S1x40976 .f32) (ix2 0 j) := by
  refine Eq.trans ?_ (V_b m c ⟨j.val, by omega⟩)
  refine congrArg (V m c main_v3) (funext fun a => Fin.ext ?_)
  fin_cases a
  · have e : win0_2.index t 0 = 0 := congrFun (idx t).2.1 0
    have e' : k0_off1 (grid0.coords t) 0 = 0 := congrFun (off1 t) 0
    show win0_2.index t 0 * 1 + 1 * (k0_off1 (grid0.coords t) 0 + 1 * 0) = 0
    omega
  · have e : win0_2.index t 1 = 0 := congrFun (idx t).2.1 1
    have e' : k0_off1 (grid0.coords t) 1 = t.val % 16 * 512 := congrFun (off1 t) 1
    show win0_2.index t 1 * 8192 + 1 * (k0_off1 (grid0.coords t) 1 + 1 * q.val) = j.val
    omega

/-- What a point stores, at an entry: a row times a row of the transposed weight, plus the bias. -/
theorem pay_at (x : FVec Ideal S2048x4096 .bf16) (w : FVec Ideal S512x4096 .f32) (b : FVec Ideal S1x512 .f32) (p : Fin 2048) (q : Fin 512) :
    k0_pay1 (F := Ideal) x w b (ix2 p q) = ∑ k : Fin 4096, x (ix2 p k) * w (ix2 q k) + b (ix2 0 q) := by
  pointwise [k0_pay1]

/-- The reference's result, at an entry. -/
theorem ref_at (X : FVec Ideal S8192x4096 .bf16) (W : FVec Ideal S1x4096x40976 .f32) (B : FVec Ideal S1x40976 .f32) (i : Fin 8192) (j : Fin 8192) :
    REF X W B (ix2 i j) = Linear.lin X W B i ⟨j.val, by omega⟩ := by
  pointwise [REF]
  exact Linear.u_at X W B i _

/-- What grid point `t` stores at a place of its block is the reference's result at that place of the array. -/
theorem point (c : Dev nD) (t : Fin cfg0.N) (y : S2048x512.Idx) (h) :
    k0_pay1 (F := Ideal) (iblk m c 0 t) (iblk m c 1 t) (View.ld (iblk m c 2 t) (Rect.unit (k0_off1 (grid0.coords t)) ![1, 512] h)) y
    = REF (m ((c : Thread nD τ).loc main_arg0)) (m ((c : Thread nD τ).loc main_arg1)) (m ((c : Thread nD τ).loc main_arg2)) (((cfg0.win 3).blk t).view.emb y) := by
  obtain ⟨p, q, rfl⟩ : ∃ (p : Fin 2048) (q : Fin 512), y = ix2 p q := ⟨y 0, y 1, funext fun a => by fin_cases a <;> rfl⟩
  have ht : t.val < 64 := t.isLt
  have hp := p.isLt
  have hq := q.isLt
  have e : ((cfg0.win 3).blk t).view.emb (ix2 p q) = (ix2 ⟨t.val / 16 * 2048 + p.val, by omega⟩ ⟨t.val % 16 * 512 + q.val, by omega⟩ : S8192x8192.Idx) := by
    blk_ext [idx t]
  rw [e]
  refine (pay_at _ _ _ p q).trans (Eq.trans ?_ (ref_at _ _ _ _ _).symm)
  exact Linear.lin_of (fun k => x_at m c t p k _ rfl) (fun k => w_at m c t q k _ rfl) (b_at m c t q _ h rfl)

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y _

end Cert.Kernel5Ideal.Value

namespace Cert.Proof
open Idealize.ShloMosaic Idealize.SL.Sem

/-- The kernel's and the reference's query, key and value columns are the same array. -/
theorem algebraic_qkv : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨e0, e1, e2⟩ := hagree c
  rw [e0, e1, e2]
  exact (Cert.Kernel5Ideal.Value.final m c).symm

end Cert.Proof
end
-- ==== Proof.Mgate.lean ====
/- The mLSTM's output gate: the sigmoid of one group of projected columns times the silu of the next. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Tactic.ValueTie
public import Idealize.ShloMosaic.Lib.Claim
public import proofs.«01_k».proof.Proof.Linear
@[expose] public section

set_option maxRecDepth 16384

noncomputable section

namespace Cert.Kernel6Ideal.Value
open Idealize.ShloMosaic Idealize.ShloMosaic.TcCoe Idealize.SL.Sem Cert.Kernel6Ideal.Gen
open Idealize.ShloMosaic.Pipeline (Dat Cfg Window)

variable (m : (ℓ : Loc nD τ sig) → Buf (Elt Ideal) ℓ)

/-- The reference's result as a function of its three arguments. -/
abbrev REF (X : FVec Ideal S8192x4096 .bf16) (W : FVec Ideal S1x4096x40976 .f32) (B : FVec Ideal S1x40976 .f32) : FVec Ideal Cert.Reference6Ideal.S8192x4096 .bf16 :=
  truncf .bf16 (mulf (Host.divf (broadcastInDim Cert.Reference6Ideal.S8192x4096 ![] Cert.Reference6Ideal.Gen.bcast_S_S8192x4096 (constant Cert.Reference6Ideal.S_ .f32 0x3F800000#32)) (addf (broadcastInDim Cert.Reference6Ideal.S8192x4096 ![] Cert.Reference6Ideal.Gen.bcast_S_S8192x4096 (constant Cert.Reference6Ideal.S_ .f32 0x3F800000#32)) (Host.exp (Host.negf (extractStridedSlice Cert.Reference6Ideal.S8192x4096 ![0, 8192] (Linear.u X W B) Cert.Reference6Ideal.Gen.slices_S8192x40976_S8192x4096_0_8192))))) (mulf (extractStridedSlice Cert.Reference6Ideal.S8192x4096 ![0, 12288] (Linear.u X W B) Cert.Reference6Ideal.Gen.slices_S8192x40976_S8192x4096_0_12288) (Host.divf (broadcastInDim Cert.Reference6Ideal.S8192x4096 ![] Cert.Reference6Ideal.Gen.bcast_S_S8192x4096 (constant Cert.Reference6Ideal.S_ .f32 0x3F800000#32)) (addf (broadcastInDim Cert.Reference6Ideal.S8192x4096 ![] Cert.Reference6Ideal.Gen.bcast_S_S8192x4096 (constant Cert.Reference6Ideal.S_ .f32 0x3F800000#32)) (Host.exp (Host.negf (extractStridedSlice Cert.Reference6Ideal.S8192x4096 ![0, 12288] (Linear.u X W B) Cert.Reference6Ideal.Gen.slices_S8192x40976_S8192x4096_0_12288)))))))  Cert.Reference6Ideal.Gen.bitsLt_bf16_f32

/-- The blocks each window holds at each grid point. -/
theorem idx : ∀ t : Fin cfg0.N, win0_0.index t = ![t.val / 16, 0] ∧ win0_3.index t = ![0, 0] ∧ win0_4.index t = ![0, 0] ∧ win0_5.index t = ![t.val / 16, t.val % 16] :=
  (by decide +kernel : ∀ t : Fin grid0.N, _)

/-- The rows of the transposed weight and the columns of the bias a grid point reads start at its column block. -/
theorem offs : ∀ t : Fin cfg0.N, cc0_transform_1 (grid0.coords t) = ![8192 + t.val % 16 * 256, 0] ∧ cc0_transform_2 (grid0.coords t) = ![12288 + t.val % 16 * 256, 0]
    ∧ k0_off1 (grid0.coords t) = ![0, t.val % 16 * 256] :=
  (by decide +kernel : ∀ t : Fin grid0.N, _)

/-- The second and third operands are the transposed weight. -/
theorem V_w (c : Dev nD) (r : Fin 40976) (k : Fin 4096) : V m c main_v7 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- A segment of the bias as one row. -/
theorem seg (B : FVec Ideal S1x40976 .f32) (r : Fin 4096) :
    shapeCast S1x4096 (shapeCast S4096 (extractStridedSlice S1x4096 ![0, 8192] B slices_S1x40976_S1x4096_0_8192) shapeCasts_S1x4096_S4096) shapeCasts_S4096_S1x4096 (ix2 0 r) = B (ix2 0 ⟨8192 + r.val, by omega⟩)
    ∧ shapeCast S1x4096 (shapeCast S4096 (extractStridedSlice S1x4096 ![0, 12288] B slices_S1x40976_S1x4096_0_12288) shapeCasts_S1x4096_S4096) shapeCasts_S4096_S1x4096 (ix2 0 r) = B (ix2 0 ⟨12288 + r.val, by omega⟩) := by
  constructor <;> pointwise []

/-- The fourth operand is the first group's bias, -/
theorem V_b (c : Dev nD) (r : Fin 4096) : V m c main_v3 (ix2 0 r) = (m ((c : Thread nD τ).loc main_arg2) : FVec Ideal S1x40976 .f32) (ix2 0 ⟨8192 + r.val, by omega⟩) :=
  (congrFun (by unfold V; after_results <;> rfl) _).trans (seg _ r).1

/-- and the fifth the second's. -/
theorem V_b' (c : Dev nD) (r : Fin 4096) : V m c main_v6 (ix2 0 r) = (m ((c : Thread nD τ).loc main_arg2) : FVec Ideal S1x40976 .f32) (ix2 0 ⟨12288 + r.val, by omega⟩) :=
  (congrFun (by unfold V; after_results <;> rfl) _).trans (seg _ r).2

/-- What a grid point stores, from the two entries `u` and `v` of the projection. -/
theorem pay_at (x : FVec Ideal S1024x4096 .bf16) (w : FVec Ideal S256x4096 .f32) (b : FVec Ideal S1x256 .f32) (w' : FVec Ideal S256x4096 .f32) (b' : FVec Ideal S1x256 .f32) (p : Fin 1024) (q : Fin 256) {u v : EReal}
    (hu : ∑ k : Fin 4096, x (ix2 p k) * w (ix2 q k) + b (ix2 0 q) = u) (hv : ∑ k : Fin 4096, x (ix2 p k) * w' (ix2 q k) + b' (ix2 0 q) = v) :
    k0_pay1 (F := Ideal) (k0_pay2 x w b) (k0_pay3 x w' b') (ix2 p q) = Linear.sigm u * (v * Linear.sigm v) := by
  subst hu hv
  rw [← Linear.sig, ← Linear.sig]
  pointwise [k0_pay1, k0_pay2, k0_pay3]

/-- An entry of the reference's result from the projection's entries. -/
theorem ref_at (X : FVec Ideal S8192x4096 .bf16) (W : FVec Ideal S1x4096x40976 .f32) (B : FVec Ideal S1x40976 .f32) (i : Fin 8192) (j : Fin 4096) :
    REF X W B (ix2 i j) = Linear.sigm (Linear.lin X W B i ⟨8192 + j.val, by omega⟩)
      * (Linear.lin X W B i ⟨12288 + j.val, by omega⟩ * Linear.sigm (Linear.lin X W B i ⟨12288 + j.val, by omega⟩)) := by
  rw [← Linear.u_at, ← Linear.u_at]
  pointwise [REF, Linear.sigm]

/-- An entry of the block of rows a grid point reads. -/
theorem x_at (c : Dev nD) (t : Fin cfg0.N) (p : Fin 1024) (k : Fin 4096) (i : Fin 8192) (hi : i.val = t.val / 16 * 1024 + p.val) :
    (iblk m c 0 t : FVec Ideal S1024x4096 .bf16) (ix2 p k) = (m ((c : Thread nD τ).loc main_arg0) : FVec Ideal S8192x4096 .bf16) (ix2 i k) := by
  blk_point [iblk, V, idx t]

/-- What grid point `t` stores at a place of its block is the reference's result at that place of the array. -/
theorem point (c : Dev nD) (t : Fin cfg0.N) (y : S1024x256.Idx) (h h') :
    k0_pay1 (F := Ideal) (k0_pay2 (iblk m c 0 t) (iblk m c 1 t) (View.ld (iblk m c 3 t) (Rect.unit (k0_off1 (grid0.coords t)) ![1, 256] h)))
      (k0_pay3 (iblk m c 0 t) (iblk m c 2 t) (View.ld (iblk m c 4 t) (Rect.unit (k0_off1 (grid0.coords t)) ![1, 256] h'))) y
    = REF (m ((c : Thread nD τ).loc main_arg0)) (m ((c : Thread nD τ).loc main_arg1)) (m ((c : Thread nD τ).loc main_arg2)) (((cfg0.win 5).blk t).view.emb y) := by
  obtain ⟨p, q, rfl⟩ : ∃ (p : Fin 1024) (q : Fin 256), y = ix2 p q := ⟨y 0, y 1, funext fun a => by fin_cases a <;> rfl⟩
  have ht : t.val < 128 := t.isLt
  have hp := p.isLt
  have hq := q.isLt
  have e : ((cfg0.win 5).blk t).view.emb (ix2 p q) = (ix2 ⟨t.val / 16 * 1024 + p.val, by omega⟩ ⟨t.val % 16 * 256 + q.val, by omega⟩ : S8192x4096.Idx) := by
    blk_ext [idx t]
  rw [e]
  refine (pay_at _ _ _ _ _ p q ?_ ?_).trans (ref_at _ _ _ _ _).symm
  · exact Linear.block (V_w m c) (V_b m c) (fun k => x_at m c t p k _ rfl) (offs t).1 (fun k a => congrArg (_ + ·) (Nat.one_mul _)) (idx t).2.1 (offs t).2.2 (fun a => rfl) rfl
  · exact Linear.block (V_w m c) (V_b' m c) (fun k => x_at m c t p k _ rfl) (offs t).2.1 (fun k a => congrArg (_ + ·) (Nat.one_mul _)) (idx t).2.2.1 (offs t).2.2 (fun a => rfl) rfl

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  exact point m c t y _ _

end Cert.Kernel6Ideal.Value

namespace Cert.Proof
open Idealize.ShloMosaic Idealize.SL.Sem

/-- The kernel's and the reference's output gate are the same array. -/
theorem algebraic_mgate : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨e0, e1, e2⟩ := hagree c
  rw [e0, e1, e2]
  exact (Cert.Kernel6Ideal.Value.final m c).symm

end Cert.Proof
end
-- ==== Proof.Convp.lean ====
/- The convolution's input: the product of two groups of projected columns. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Tactic.ValueTie
public import Idealize.ShloMosaic.Lib.Claim
public import proofs.«01_k».proof.Proof.Linear
@[expose] public section

set_option maxRecDepth 16384

noncomputable section

namespace Cert.Kernel7Ideal.Value
open Idealize.ShloMosaic Idealize.ShloMosaic.TcCoe Idealize.SL.Sem Cert.Kernel7Ideal.Gen
open Idealize.ShloMosaic.Pipeline (Dat Cfg Window)

variable (m : (ℓ : Loc nD τ sig) → Buf (Elt Ideal) ℓ)

/-- The reference's result as a function of its three arguments. -/
abbrev REF (X : FVec Ideal S8192x4096 .bf16) (W : FVec Ideal S1x4096x40976 .f32) (B : FVec Ideal S1x40976 .f32) : FVec Ideal Cert.Reference7Ideal.S8192x2048 .bf16 :=
  truncf .bf16 (mulf (extractStridedSlice Cert.Reference7Ideal.S8192x2048 ![0, 18448] (Linear.u X W B) Cert.Reference7Ideal.Gen.slices_S8192x40976_S8192x2048_0_18448) (extractStridedSlice Cert.Reference7Ideal.S8192x2048 ![0, 20496] (Linear.u X W B) Cert.Reference7Ideal.Gen.slices_S8192x40976_S8192x2048_0_20496)) Cert.Reference7Ideal.Gen.bitsLt_bf16_f32

/-- The blocks each window holds at each grid point. -/
theorem idx : ∀ t : Fin cfg0.N, win0_0.index t = ![t.val % 8, 0] ∧ win0_3.index t = ![0, 0] ∧ win0_4.index t = ![0, 0] ∧ win0_5.index t = ![t.val % 8, t.val / 8] :=
  (by decide +kernel : ∀ t : Fin grid0.N, _)

/-- The rows of the transposed weight and the columns of the bias a grid point reads start at its column block. -/
theorem offs : ∀ t : Fin cfg0.N, cc0_transform_1 (grid0.coords t) = ![18448 + t.val / 8 * 256, 0] ∧ cc0_transform_2 (grid0.coords t) = ![20496 + t.val / 8 * 256, 0]
    ∧ k0_off1 (grid0.coords t) = ![0, t.val / 8 * 256] :=
  (by decide +kernel : ∀ t : Fin grid0.N, _)

/-- The second and third operands are the transposed weight. -/
theorem V_w (c : Dev nD) (r : Fin 40976) (k : Fin 4096) : V m c main_v7 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- A segment of the bias as one row. -/
theorem seg (B : FVec Ideal S1x40976 .f32) (r : Fin 2048) :
    shapeCast S1x2048 (shapeCast S2048 (extractStridedSlice S1x2048 ![0, 18448] B slices_S1x40976_S1x2048_0_18448) shapeCasts_S1x2048_S2048) shapeCasts_S2048_S1x2048 (ix2 0 r) = B (ix2 0 ⟨18448 + r.val, by omega⟩)
    ∧ shapeCast S1x2048 (shapeCast S2048 (extractStridedSlice S1x2048 ![0, 20496] B slices_S1x40976_S1x2048_0_20496) shapeCasts_S1x2048_S2048) shapeCasts_S2048_S1x2048 (ix2 0 r) = B (ix2 0 ⟨20496 + r.val, by omega⟩) := by
  constructor <;> pointwise []

/-- The fourth operand is the first group's bias, -/
theorem V_b (c : Dev nD) (r : Fin 2048) : V m c main_v3 (ix2 0 r) = (m ((c : Thread nD τ).loc main_arg2) : FVec Ideal S1x40976 .f32) (ix2 0 ⟨18448 + r.val, by omega⟩) :=
  (congrFun (by unfold V; after_results <;> rfl) _).trans (seg _ r).1

/-- and the fifth the second's. -/
theorem V_b' (c : Dev nD) (r : Fin 2048) : V m c main_v6 (ix2 0 r) = (m ((c : Thread nD τ).loc main_arg2) : FVec Ideal S1x40976 .f32) (ix2 0 ⟨20496 + r.val, by omega⟩) :=
  (congrFun (by unfold V; after_results <;> rfl) _).trans (seg _ r).2

/-- What a grid point stores, from the two entries `u` and `v` of the projection. -/
theorem pay_at (x : FVec Ideal S1024x4096 .bf16) (w : FVec Ideal S256x4096 .f32) (b : FVec Ideal S1x256 .f32) (w' : FVec Ideal S256x4096 .f32) (b' : FVec Ideal S1x256 .f32) (p : Fin 1024) (q : Fin 256) {u v : EReal}
    (hu : ∑ k : Fin 4096, x (ix2 p k) * w (ix2 q k) + b (ix2 0 q) = u) (hv : ∑ k : Fin 4096, x (ix2 p k) * w' (ix2 q k) + b' (ix2 0 q) = v) :
    k0_pay1 (F := Ideal) x w b w' b' (ix2 p q) = u * v := by
  subst hu hv
  pointwise [k0_pay1]

/-- An entry of the reference's result from the projection's entries. -/
theorem ref_at (X : FVec Ideal S8192x4096 .bf16) (W : FVec Ideal S1x4096x40976 .f32) (B : FVec Ideal S1x40976 .f32) (i : Fin 8192) (j : Fin 2048) :
    REF X W B (ix2 i j) = (Linear.lin X W B i ⟨18448 + j.val, by omega⟩) * (Linear.lin X W B i ⟨20496 + j.val, by omega⟩) := by
  rw [← Linear.u_at, ← Linear.u_at]
  pointwise [REF]

/-- An entry of the block of rows a grid point reads. -/
theorem x_at (c : Dev nD) (t : Fin cfg0.N) (p : Fin 1024) (k : Fin 4096) (i : Fin 8192) (hi : i.val = t.val % 8 * 1024 + p.val) :
    (iblk m c 0 t : FVec Ideal S1024x4096 .bf16) (ix2 p k) = (m ((c : Thread nD τ).loc main_arg0) : FVec Ideal S8192x4096 .bf16) (ix2 i k) := by
  blk_point [iblk, V, idx t]

/-- What grid point `t` stores at a place of its block is the reference's result at that place of the array. -/
theorem point (c : Dev nD) (t : Fin cfg0.N) (y : S1024x256.Idx) (h h') :
    k0_pay1 (F := Ideal) (iblk m c 0 t) (iblk m c 1 t) (View.ld (iblk m c 3 t) (Rect.unit (k0_off1 (grid0.coords t)) ![1, 256] h)) (iblk m c 2 t) (View.ld (iblk m c 4 t) (Rect.unit (k0_off1 (grid0.coords t)) ![1, 256] h')) y
    = REF (m ((c : Thread nD τ).loc main_arg0)) (m ((c : Thread nD τ).loc main_arg1)) (m ((c : Thread nD τ).loc main_arg2)) (((cfg0.win 5).blk t).view.emb y) := by
  obtain ⟨p, q, rfl⟩ : ∃ (p : Fin 1024) (q : Fin 256), y = ix2 p q := ⟨y 0, y 1, funext fun a => by fin_cases a <;> rfl⟩
  have ht : t.val < 64 := t.isLt
  have hp := p.isLt
  have hq := q.isLt
  have e : ((cfg0.win 5).blk t).view.emb (ix2 p q) = (ix2 ⟨t.val % 8 * 1024 + p.val, by omega⟩ ⟨t.val / 8 * 256 + q.val, by omega⟩ : S8192x2048.Idx) := by
    blk_ext [idx t]
  rw [e]
  refine (pay_at _ _ _ _ _ p q ?_ ?_).trans (ref_at _ _ _ _ _).symm
  · exact Linear.block (V_w m c) (V_b m c) (fun k => x_at m c t p k _ rfl) (offs t).1 (fun k a => congrArg (_ + ·) (Nat.one_mul _)) (idx t).2.1 (offs t).2.2 (fun a => rfl) rfl
  · exact Linear.block (V_w m c) (V_b' m c) (fun k => x_at m c t p k _ rfl) (offs t).2.1 (fun k a => congrArg (_ + ·) (Nat.one_mul _)) (idx t).2.2.1 (offs t).2.2 (fun a => rfl) rfl

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  exact point m c t y _ _

end Cert.Kernel7Ideal.Value

namespace Cert.Proof
open Idealize.ShloMosaic Idealize.SL.Sem

/-- The kernel's and the reference's convolution input are the same array. -/
theorem algebraic_convp : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨e0, e1, e2⟩ := hagree c
  rw [e0, e1, e2]
  exact (Cert.Kernel7Ideal.Value.final m c).symm

end Cert.Proof
end
-- ==== Proof.Convg.lean ====
/- The convolution's gate: one group of projected columns times the silu of another. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Tactic.ValueTie
public import Idealize.ShloMosaic.Lib.Claim
public import proofs.«01_k».proof.Proof.Linear
@[expose] public section

set_option maxRecDepth 16384

noncomputable section

namespace Cert.Kernel8Ideal.Value
open Idealize.ShloMosaic Idealize.ShloMosaic.TcCoe Idealize.SL.Sem Cert.Kernel8Ideal.Gen
open Idealize.ShloMosaic.Pipeline (Dat Cfg Window)

variable (m : (ℓ : Loc nD τ sig) → Buf (Elt Ideal) ℓ)

/-- The reference's result as a function of its three arguments. -/
abbrev REF (X : FVec Ideal S8192x4096 .bf16) (W : FVec Ideal S1x4096x40976 .f32) (B : FVec Ideal S1x40976 .f32) : FVec Ideal Cert.Reference8Ideal.S8192x2048 .bf16 :=
  truncf .bf16 (mulf (extractStridedSlice Cert.Reference8Ideal.S8192x2048 ![0, 16400] (Linear.u X W B) Cert.Reference8Ideal.Gen.slices_S8192x40976_S8192x2048_0_16400) (mulf (extractStridedSlice Cert.Reference8Ideal.S8192x2048 ![0, 22544] (Linear.u X W B) Cert.Reference8Ideal.Gen.slices_S8192x40976_S8192x2048_0_22544) (Host.divf (broadcastInDim Cert.Reference8Ideal.S8192x2048 ![] Cert.Reference8Ideal.Gen.bcast_S_S8192x2048 (constant Cert.Reference8Ideal.S_ .f32 0x3F800000#32)) (addf (broadcastInDim Cert.Reference8Ideal.S8192x2048 ![] Cert.Reference8Ideal.Gen.bcast_S_S8192x2048 (constant Cert.Reference8Ideal.S_ .f32 0x3F800000#32)) (Host.exp (Host.negf (extractStridedSlice Cert.Reference8Ideal.S8192x2048 ![0, 22544] (Linear.u X W B) Cert.Reference8Ideal.Gen.slices_S8192x40976_S8192x2048_0_22544))))))) Cert.Reference8Ideal.Gen.bitsLt_bf16_f32

/-- The blocks each window holds at each grid point. -/
theorem idx : ∀ t : Fin cfg0.N, win0_0.index t = ![t.val / 8, 0] ∧ win0_3.index t = ![0, 0] ∧ win0_4.index t = ![0, 0] ∧ win0_5.index t = ![t.val / 8, t.val % 8] :=
  (by decide +kernel : ∀ t : Fin grid0.N, _)

/-- The rows of the transposed weight and the columns of the bias a grid point reads start at its column block. -/
theorem offs : ∀ t : Fin cfg0.N, cc0_transform_1 (grid0.coords t) = ![16400 + t.val % 8 * 256, 0] ∧ cc0_transform_2 (grid0.coords t) = ![22544 + t.val % 8 * 256, 0]
    ∧ k0_off1 (grid0.coords t) = ![0, t.val % 8 * 256] :=
  (by decide +kernel : ∀ t : Fin grid0.N, _)

/-- The second and third operands are the transposed weight. -/
theorem V_w (c : Dev nD) (r : Fin 40976) (k : Fin 4096) : V m c main_v7 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- A segment of the bias as one row. -/
theorem seg (B : FVec Ideal S1x40976 .f32) (r : Fin 2048) :
    shapeCast S1x2048 (shapeCast S2048 (extractStridedSlice S1x2048 ![0, 16400] B slices_S1x40976_S1x2048_0_16400) shapeCasts_S1x2048_S2048) shapeCasts_S2048_S1x2048 (ix2 0 r) = B (ix2 0 ⟨16400 + r.val, by omega⟩)
    ∧ shapeCast S1x2048 (shapeCast S2048 (extractStridedSlice S1x2048 ![0, 22544] B slices_S1x40976_S1x2048_0_22544) shapeCasts_S1x2048_S2048) shapeCasts_S2048_S1x2048 (ix2 0 r) = B (ix2 0 ⟨22544 + r.val, by omega⟩) := by
  constructor <;> pointwise []

/-- The fourth operand is the first group's bias, -/
theorem V_b (c : Dev nD) (r : Fin 2048) : V m c main_v3 (ix2 0 r) = (m ((c : Thread nD τ).loc main_arg2) : FVec Ideal S1x40976 .f32) (ix2 0 ⟨16400 + r.val, by omega⟩) :=
  (congrFun (by unfold V; after_results <;> rfl) _).trans (seg _ r).1

/-- and the fifth the second's. -/
theorem V_b' (c : Dev nD) (r : Fin 2048) : V m c main_v6 (ix2 0 r) = (m ((c : Thread nD τ).loc main_arg2) : FVec Ideal S1x40976 .f32) (ix2 0 ⟨22544 + r.val, by omega⟩) :=
  (congrFun (by unfold V; after_results <;> rfl) _).trans (seg _ r).2

/-- What a grid point stores, from the two entries `u` and `v` of the projection. -/
theorem pay_at (x : FVec Ideal S1024x4096 .bf16) (w : FVec Ideal S256x4096 .f32) (b : FVec Ideal S1x256 .f32) (w' : FVec Ideal S256x4096 .f32) (b' : FVec Ideal S1x256 .f32) (p : Fin 1024) (q : Fin 256) {u v : EReal}
    (hu : ∑ k : Fin 4096, x (ix2 p k) * w (ix2 q k) + b (ix2 0 q) = u) (hv : ∑ k : Fin 4096, x (ix2 p k) * w' (ix2 q k) + b' (ix2 0 q) = v) :
    k0_pay1 (F := Ideal) x w b w' b' (ix2 p q) = u * (v * Linear.sigm v) := by
  subst hu hv
  rw [← Linear.sig]
  pointwise [k0_pay1]

/-- An entry of the reference's result from the projection's entries. -/
theorem ref_at (X : FVec Ideal S8192x4096 .bf16) (W : FVec Ideal S1x4096x40976 .f32) (B : FVec Ideal S1x40976 .f32) (i : Fin 8192) (j : Fin 2048) :
    REF X W B (ix2 i j) = (Linear.lin X W B i ⟨16400 + j.val, by omega⟩) * ((Linear.lin X W B i ⟨22544 + j.val, by omega⟩) * Linear.sigm (Linear.lin X W B i ⟨22544 + j.val, by omega⟩)) := by
  rw [← Linear.u_at, ← Linear.u_at]
  pointwise [REF, Linear.sigm]

/-- An entry of the block of rows a grid point reads. -/
theorem x_at (c : Dev nD) (t : Fin cfg0.N) (p : Fin 1024) (k : Fin 4096) (i : Fin 8192) (hi : i.val = t.val / 8 * 1024 + p.val) :
    (iblk m c 0 t : FVec Ideal S1024x4096 .bf16) (ix2 p k) = (m ((c : Thread nD τ).loc main_arg0) : FVec Ideal S8192x4096 .bf16) (ix2 i k) := by
  blk_point [iblk, V, idx t]

/-- What grid point `t` stores at a place of its block is the reference's result at that place of the array. -/
theorem point (c : Dev nD) (t : Fin cfg0.N) (y : S1024x256.Idx) (h h') :
    k0_pay1 (F := Ideal) (iblk m c 0 t) (iblk m c 1 t) (View.ld (iblk m c 3 t) (Rect.unit (k0_off1 (grid0.coords t)) ![1, 256] h)) (iblk m c 2 t) (View.ld (iblk m c 4 t) (Rect.unit (k0_off1 (grid0.coords t)) ![1, 256] h')) y
    = REF (m ((c : Thread nD τ).loc main_arg0)) (m ((c : Thread nD τ).loc main_arg1)) (m ((c : Thread nD τ).loc main_arg2)) (((cfg0.win 5).blk t).view.emb y) := by
  obtain ⟨p, q, rfl⟩ : ∃ (p : Fin 1024) (q : Fin 256), y = ix2 p q := ⟨y 0, y 1, funext fun a => by fin_cases a <;> rfl⟩
  have ht : t.val < 64 := t.isLt
  have hp := p.isLt
  have hq := q.isLt
  have e : ((cfg0.win 5).blk t).view.emb (ix2 p q) = (ix2 ⟨t.val / 8 * 1024 + p.val, by omega⟩ ⟨t.val % 8 * 256 + q.val, by omega⟩ : S8192x2048.Idx) := by
    blk_ext [idx t]
  rw [e]
  refine (pay_at _ _ _ _ _ p q ?_ ?_).trans (ref_at _ _ _ _ _).symm
  · exact Linear.block (V_w m c) (V_b m c) (fun k => x_at m c t p k _ rfl) (offs t).1 (fun k a => congrArg (_ + ·) (Nat.one_mul _)) (idx t).2.1 (offs t).2.2 (fun a => rfl) rfl
  · exact Linear.block (V_w m c) (V_b' m c) (fun k => x_at m c t p k _ rfl) (offs t).2.1 (fun k a => congrArg (_ + ·) (Nat.one_mul _)) (idx t).2.2.1 (offs t).2.2 (fun a => rfl) rfl

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  exact point m c t y _ _

end Cert.Kernel8Ideal.Value

namespace Cert.Proof
open Idealize.ShloMosaic Idealize.SL.Sem

/-- The kernel's and the reference's convolution gate are the same array. -/
theorem algebraic_convg : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨e0, e1, e2⟩ := hagree c
  rw [e0, e1, e2]
  exact (Cert.Kernel8Ideal.Value.final m c).symm

end Cert.Proof
end
-- ==== Proof.Xqz.lean ====
/- The cross-attention's queries, and the silu that gates it. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Tactic.ValueTie
public import Idealize.ShloMosaic.Lib.Claim
public import proofs.«01_k».proof.Proof.Linear
@[expose] public section

set_option maxRecDepth 16384

noncomputable section

namespace Cert.Kernel9Ideal.Value
open Idealize.ShloMosaic Idealize.ShloMosaic.TcCoe Idealize.SL.Sem Cert.Kernel9Ideal.Gen
open Idealize.ShloMosaic.Pipeline (Dat Cfg Window)

variable (m : (ℓ : Loc nD τ sig) → Buf (Elt Ideal) ℓ)

/-- The reference's first result as a function of its three arguments, -/
abbrev REF (X : FVec Ideal S8192x4096 .bf16) (W : FVec Ideal S1x4096x40976 .f32) (B : FVec Ideal S1x40976 .f32) : FVec Ideal Cert.Reference9Ideal.S8192x2048 .bf16 :=
  truncf .bf16 (extractStridedSlice Cert.Reference9Ideal.S8192x2048 ![0, 24592] (Linear.u X W B) Cert.Reference9Ideal.Gen.slices_S8192x40976_S8192x2048_0_24592) Cert.Reference9Ideal.Gen.bitsLt_bf16_f32

/-- and the second. -/
abbrev REF' (X : FVec Ideal S8192x4096 .bf16) (W : FVec Ideal S1x4096x40976 .f32) (B : FVec Ideal S1x40976 .f32) : FVec Ideal Cert.Reference9Ideal.S8192x2048 .bf16 :=
  truncf .bf16 (mulf (extractStridedSlice Cert.Reference9Ideal.S8192x2048 ![0, 26640] (Linear.u X W B) Cert.Reference9Ideal.Gen.slices_S8192x40976_S8192x2048_0_26640) (Host.divf (broadcastInDim Cert.Reference9Ideal.S8192x2048 ![] Cert.Reference9Ideal.Gen.bcast_S_S8192x2048 (constant Cert.Reference9Ideal.S_ .f32 0x3F800000#32)) (addf (broadcastInDim Cert.Reference9Ideal.S8192x2048 ![] Cert.Reference9Ideal.Gen.bcast_S_S8192x2048 (constant Cert.Reference9Ideal.S_ .f32 0x3F800000#32)) (Host.exp (Host.negf (extractStridedSlice Cert.Reference9Ideal.S8192x2048 ![0, 26640] (Linear.u X W B) Cert.Reference9Ideal.Gen.slices_S8192x40976_S8192x2048_0_26640)))))) Cert.Reference9Ideal.Gen.bitsLt_bf16_f32

/-- The blocks each window holds at each grid point. -/
theorem idx : ∀ t : Fin cfg0.N, win0_0.index t = ![t.val / 8, 0] ∧ win0_3.index t = ![0, 0] ∧ win0_4.index t = ![0, 0] ∧ win0_5.index t = ![t.val / 8, t.val % 8]
    ∧ win0_6.index t = ![t.val / 8, t.val % 8] :=
  (by decide +kernel : ∀ t : Fin grid0.N, _)

/-- The rows of the transposed weight and the columns of the bias a grid point reads start at its column block. -/
theorem offs : ∀ t : Fin cfg0.N, cc0_transform_1 (grid0.coords t) = ![24592 + t.val % 8 * 256, 0] ∧ cc0_transform_2 (grid0.coords t) = ![26640 + t.val % 8 * 256, 0]
    ∧ k0_off1 (grid0.coords t) = ![0, t.val % 8 * 256] :=
  (by decide +kernel : ∀ t : Fin grid0.N, _)

/-- The second and third operands are the transposed weight. -/
theorem V_w (c : Dev nD) (r : Fin 40976) (k : Fin 4096) : V m c main_v7 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- A segment of the bias as one row. -/
theorem seg (B : FVec Ideal S1x40976 .f32) (r : Fin 2048) :
    shapeCast S1x2048 (shapeCast S2048 (extractStridedSlice S1x2048 ![0, 24592] B slices_S1x40976_S1x2048_0_24592) shapeCasts_S1x2048_S2048) shapeCasts_S2048_S1x2048 (ix2 0 r) = B (ix2 0 ⟨24592 + r.val, by omega⟩)
    ∧ shapeCast S1x2048 (shapeCast S2048 (extractStridedSlice S1x2048 ![0, 26640] B slices_S1x40976_S1x2048_0_26640) shapeCasts_S1x2048_S2048) shapeCasts_S2048_S1x2048 (ix2 0 r) = B (ix2 0 ⟨26640 + r.val, by omega⟩) := by
  constructor <;> pointwise []

/-- The fourth operand is the first group's bias, -/
theorem V_b (c : Dev nD) (r : Fin 2048) : V m c main_v3 (ix2 0 r) = (m ((c : Thread nD τ).loc main_arg2) : FVec Ideal S1x40976 .f32) (ix2 0 ⟨24592 + r.val, by omega⟩) :=
  (congrFun (by unfold V; after_results <;> rfl) _).trans (seg _ r).1

/-- and the fifth the second's. -/
theorem V_b' (c : Dev nD) (r : Fin 2048) : V m c main_v6 (ix2 0 r) = (m ((c : Thread nD τ).loc main_arg2) : FVec Ideal S1x40976 .f32) (ix2 0 ⟨26640 + r.val, by omega⟩) :=
  (congrFun (by unfold V; after_results <;> rfl) _).trans (seg _ r).2

/-- What a grid point stores to each result, from the entries `u` and `v` of the projection. -/
theorem pay_at (x : FVec Ideal S1024x4096 .bf16) (w : FVec Ideal S256x4096 .f32) (b : FVec Ideal S1x256 .f32) (w' : FVec Ideal S256x4096 .f32) (b' : FVec Ideal S1x256 .f32) (p : Fin 1024) (q : Fin 256) {u v : EReal}
    (hu : ∑ k : Fin 4096, x (ix2 p k) * w (ix2 q k) + b (ix2 0 q) = u) (hv : ∑ k : Fin 4096, x (ix2 p k) * w' (ix2 q k) + b' (ix2 0 q) = v) :
    k0_pay2 (F := Ideal) x w b (ix2 p q) = u ∧ k0_pay1 (F := Ideal) x w' b' (ix2 p q) = v * Linear.sigm v := by
  subst hu hv
  rw [← Linear.sig]
  constructor <;> pointwise [k0_pay1, k0_pay2]

/-- An entry of each of the reference's results from the projection's entries. -/
theorem ref_at (X : FVec Ideal S8192x4096 .bf16) (W : FVec Ideal S1x4096x40976 .f32) (B : FVec Ideal S1x40976 .f32) (i : Fin 8192) (j : Fin 2048) :
    REF X W B (ix2 i j) = (Linear.lin X W B i ⟨24592 + j.val, by omega⟩) ∧ REF' X W B (ix2 i j) = (Linear.lin X W B i ⟨26640 + j.val, by omega⟩) * Linear.sigm (Linear.lin X W B i ⟨26640 + j.val, by omega⟩) := by
  rw [← Linear.u_at, ← Linear.u_at]
  constructor <;> pointwise [REF, REF', Linear.sigm]

/-- An entry of the block of rows a grid point reads. -/
theorem x_at (c : Dev nD) (t : Fin cfg0.N) (p : Fin 1024) (k : Fin 4096) (i : Fin 8192) (hi : i.val = t.val / 8 * 1024 + p.val) :
    (iblk m c 0 t : FVec Ideal S1024x4096 .bf16) (ix2 p k) = (m ((c : Thread nD τ).loc main_arg0) : FVec Ideal S8192x4096 .bf16) (ix2 i k) := by
  blk_point [iblk, V, idx t]

/-- What grid point `t` stores at a place of its two blocks are the reference's results at that place of the arrays. -/
theorem point (c : Dev nD) (t : Fin cfg0.N) (y : S1024x256.Idx) (h h') :
    k0_pay2 (F := Ideal) (iblk m c 0 t) (iblk m c 1 t) (View.ld (iblk m c 3 t) (Rect.unit (k0_off1 (grid0.coords t)) ![1, 256] h)) y
      = REF (m ((c : Thread nD τ).loc main_arg0)) (m ((c : Thread nD τ).loc main_arg1)) (m ((c : Thread nD τ).loc main_arg2)) (((cfg0.win 5).blk t).view.emb y)
    ∧ k0_pay1 (F := Ideal) (iblk m c 0 t) (iblk m c 2 t) (View.ld (iblk m c 4 t) (Rect.unit (k0_off1 (grid0.coords t)) ![1, 256] h')) y
      = REF' (m ((c : Thread nD τ).loc main_arg0)) (m ((c : Thread nD τ).loc main_arg1)) (m ((c : Thread nD τ).loc main_arg2)) (((cfg0.win 6).blk t).view.emb y) := by
  obtain ⟨p, q, rfl⟩ : ∃ (p : Fin 1024) (q : Fin 256), y = ix2 p q := ⟨y 0, y 1, funext fun a => by fin_cases a <;> rfl⟩
  have ht : t.val < 64 := t.isLt
  have hp := p.isLt
  have hq := q.isLt
  have e : ((cfg0.win 5).blk t).view.emb (ix2 p q) = (ix2 ⟨t.val / 8 * 1024 + p.val, by omega⟩ ⟨t.val % 8 * 256 + q.val, by omega⟩ : S8192x2048.Idx) := by
    blk_ext [idx t]
  have e' : ((cfg0.win 6).blk t).view.emb (ix2 p q) = (ix2 ⟨t.val / 8 * 1024 + p.val, by omega⟩ ⟨t.val % 8 * 256 + q.val, by omega⟩ : S8192x2048.Idx) := by
    blk_ext [idx t]
  rw [e, e']
  have hR := ref_at (m ((c : Thread nD τ).loc main_arg0)) (m ((c : Thread nD τ).loc main_arg1)) (m ((c : Thread nD τ).loc main_arg2)) ⟨t.val / 8 * 1024 + p.val, by omega⟩ ⟨t.val % 8 * 256 + q.val, by omega⟩
  let r : Fin 2048 := ⟨t.val % 8 * 256 + q.val, by omega⟩
  have hP := pay_at (iblk m c 0 t) (iblk m c 1 t) (View.ld (iblk m c 3 t) (Rect.unit (k0_off1 (grid0.coords t)) ![1, 256] h)) (iblk m c 2 t) (View.ld (iblk m c 4 t) (Rect.unit (k0_off1 (grid0.coords t)) ![1, 256] h')) p q
    (Linear.block (r := r) (V_w m c) (V_b m c) (fun k => x_at m c t p k ⟨t.val / 8 * 1024 + p.val, by omega⟩ rfl) (offs t).1 (fun k a => congrArg (_ + ·) (Nat.one_mul _)) (idx t).2.1 (offs t).2.2 (fun a => rfl) rfl)
    (Linear.block (r := r) (V_w m c) (V_b' m c) (fun k => x_at m c t p k ⟨t.val / 8 * 1024 + p.val, by omega⟩ rfl) (offs t).2.1 (fun k a => congrArg (_ + ·) (Nat.one_mul _)) (idx t).2.2.1 (offs t).2.2 (fun a => rfl) rfl)
  exact ⟨hP.1.trans hR.1.symm, hP.2.trans hR.2.symm⟩

/-- The first result array after the run is the reference's first result, -/
theorem final (c : Dev nD) : (dats m 0 c).arrAt 5 (cfgs 0).N = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  exact (point m c t y _ (k0_off1_inb _)).1

/-- and the second the second. -/
theorem final' (c : Dev nD) : (dats m 0 c).arrAt 6 (cfgs 0).N = REF' (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; unfold outsAt0; frame_out
  exact (point m c t y (k0_off1_inb _) _).2

end Cert.Kernel9Ideal.Value

namespace Cert.Proof
open Idealize.ShloMosaic Idealize.SL.Sem

/-- The kernel's and the reference's queries and gate of the cross-attention are the same arrays. -/
theorem algebraic_xqz : algebraic_Kernel9Ideal_Reference9Ideal := by
  intro m ρ m' ρ' _ hagree
  refine ⟨_, _, Cert.Kernel9Ideal.Value.run_blocks (F := Ideal) m ρ, ?_⟩
  refine (θ_run Cert.Reference9Ideal.defs _ _).mono (fun _ h c => ⟨?_, ?_, (h c).2.2⟩) (Cert.Reference9Ideal.Value.run (F := Ideal) m' ρ')
  all_goals obtain ⟨e0, e1, e2⟩ := hagree c
  · rw [(h c).1, e0, e1, e2]
    exact (Cert.Kernel9Ideal.Value.final m c).symm
  · rw [(h c).2.1, e0, e1, e2]
    exact (Cert.Kernel9Ideal.Value.final' m c).symm

end Cert.Proof
end
-- ==== Proof.Memkv.lean ====
/- The keys and values of the memory: one product. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Tactic.ValueTie
public import Idealize.ShloMosaic.Lib.Claim

@[expose] public section

set_option maxRecDepth 16384

noncomputable section

namespace Cert.Kernel10Ideal.Value
open Idealize.ShloMosaic Idealize.ShloMosaic.TcCoe Idealize.SL.Sem Cert.Kernel10Ideal.Gen
open Idealize.ShloMosaic.Pipeline (Dat Cfg Window)

variable (m : (ℓ : Loc nD τ sig) → Buf (Elt Ideal) ℓ)

/-- The reference's result as a function of its two arguments. -/
abbrev REF (X : FVec Ideal S4x256x4096 .f32) (W : FVec Ideal S1x4096x4096 .f32) : FVec Ideal S1024x4096 .bf16 :=
  truncf .bf16 (shapeCast S1024x4096 (Host.dotGeneral Cert.Reference10Ideal.dot_S4x256x4096_S4096x4096_S4x256x4096_2_0_01_1_n_n none X (shapeCast Cert.Reference10Ideal.S4096x4096 W Cert.Reference10Ideal.Gen.shapeCasts_S1x4096x4096_S4096x4096)) Cert.Reference10Ideal.Gen.shapeCasts_S4x256x4096_S1024x4096) Cert.Reference10Ideal.Gen.bitsLt_bf16_f32

/-- The blocks each window holds at each grid point. -/
theorem idx : ∀ t : Fin cfg0.N, win0_0.index t = ![0, 0] ∧ win0_1.index t = ![0, 0, t.val] ∧ win0_2.index t = ![0, t.val] :=
  (by decide +kernel : ∀ t : Fin grid0.N, _)

/-- An entry of the memory's rows, one batch after another. -/
theorem rows (X : FVec Ideal S4x256x4096 .f32) (i : Fin 1024) (k : Fin 4096) :
    shapeCast S1024x4096 X shapeCasts_S4x256x4096_S1024x4096 (ix2 i k) = X (ix3 ⟨i.val / 256, by omega⟩ ⟨i.val % 256, by omega⟩ k) := by
  pointwise []

/-- The first operand is the memory's rows. -/
theorem V_x (c : Dev nD) (i : Fin 1024) (k : Fin 4096) : V m c main_v0 (ix2 i k) = (m ((c : Thread nD τ).loc main_arg0) : FVec Ideal S4x256x4096 .f32) (ix3 ⟨i.val / 256, by omega⟩ ⟨i.val % 256, by omega⟩ k) :=
  (congrFun (by unfold V; after_results <;> rfl) _).trans (rows _ i k)

/-- What grid point `t` stores at a place of its block is the reference's result at that place of the array. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => congrArg₂ (· * ·) ?_ ?_
  · refine Eq.trans (b := V m c main_v0 (ix2 (y 0) k)) ?_ ((V_x m c _ k).trans ?_)
    · blk_point [iblk, idx t]
    · blk_point [idx t]
  · blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Value

namespace Cert.Proof
open Idealize.ShloMosaic Idealize.SL.Sem

/-- The kernel's and the reference's keys and values of the memory are the same array. -/
theorem algebraic_memkv : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1]
  obtain ⟨e0, e1⟩ := hagree c
  rw [e0, e1]
  exact (Cert.Kernel10Ideal.Value.final m c).symm

end Cert.Proof
end
-- ==== Proof.Xattn.lean ====
/- Attention over the memory. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Tactic.ValueTie
public import Idealize.ShloMosaic.Lib.Claim

@[expose] public section

set_option maxRecDepth 16384

noncomputable section

namespace Cert.Kernel11Ideal.Value
open Idealize.ShloMosaic Idealize.ShloMosaic.TcCoe Idealize.SL.Sem Cert.Kernel11Ideal.Gen
open Idealize.ShloMosaic.Pipeline (Dat Cfg Window)

variable (m : (ℓ : Loc nD τ sig) → Buf (Elt Ideal) ℓ)

/-- The reference's scores: queries against keys, by head, scaled. -/
def scores (Q : FVec Ideal S8192x2048 .bf16) (KV : FVec Ideal S1024x4096 .bf16) : FVec Ideal Cert.Reference11Ideal.S4x4x2048x256 .f32 :=
  mulf (Host.dotGeneral Cert.Reference11Ideal.dot_S4x2048x4x512_S4x256x4x512_S4x4x2048x256_3_3_1_1_02_02 none (shapeCast _ (extf .f32 Q Cert.Reference11Ideal.Gen.bitsLt_bf16_f32) Cert.Reference11Ideal.Gen.shapeCasts_S8192x2048_S4x2048x4x512) (shapeCast _ (extractStridedSlice Cert.Reference11Ideal.S1024x2048 ![0, 0] (extf .f32 KV Cert.Reference11Ideal.Gen.bitsLt_bf16_f32) Cert.Reference11Ideal.Gen.slices_S1024x4096_S1024x2048_0_0) Cert.Reference11Ideal.Gen.shapeCasts_S1024x2048_S4x256x4x512)) (broadcastInDim Cert.Reference11Ideal.S4x4x2048x256 ![] Cert.Reference11Ideal.Gen.bcast_S_S4x4x2048x256 (constant Cert.Reference11Ideal.S_ .f32 0x3D3504F3#32))

/-- The reference's largest score of each row. -/
def peak (A : FVec Ideal Cert.Reference11Ideal.S4x4x2048x256 .f32) : FVec Ideal Cert.Reference11Ideal.S4x4x2048 .f32 :=
  Host.reduce FloatOps.maximumf A (constant Cert.Reference11Ideal.S_ .f32 0xFF800000#32) Cert.Reference11Ideal.Gen.reducesTo_S4x4x2048x256_S4x4x2048_d3 Cert.Reference11Ideal.Gen.h_S_

/-- The reference's exponentials of the scores less their largest in the row. -/
def expo (A : FVec Ideal Cert.Reference11Ideal.S4x4x2048x256 .f32) (M : FVec Ideal Cert.Reference11Ideal.S4x4x2048 .f32) : FVec Ideal Cert.Reference11Ideal.S4x4x2048x256 .f32 :=
  Host.exp (subf A (broadcastInDim Cert.Reference11Ideal.S4x4x2048x256 ![0, 1, 2, 3] Cert.Reference11Ideal.Gen.bcast_S4x4x2048x1_S4x4x2048x256_0_1_2_3 (broadcastInDim Cert.Reference11Ideal.S4x4x2048x1 ![0, 1, 2] Cert.Reference11Ideal.Gen.bcast_S4x4x2048_S4x4x2048x1_0_1_2 (maximumf (broadcastInDim Cert.Reference11Ideal.S4x4x2048 ![] Cert.Reference11Ideal.Gen.bcast_S_S4x4x2048 (constant Cert.Reference11Ideal.S_ .f32 0xFF800000#32)) M))))

/-- The reference's weights: each exponential over its row's sum. -/
def weights (E : FVec Ideal Cert.Reference11Ideal.S4x4x2048x256 .f32) : FVec Ideal Cert.Reference11Ideal.S4x4x2048x256 .f32 :=
  Host.divf E (broadcastInDim Cert.Reference11Ideal.S4x4x2048x256 ![0, 1, 2, 3] Cert.Reference11Ideal.Gen.bcast_S4x4x2048x1_S4x4x2048x256_0_1_2_3 (broadcastInDim Cert.Reference11Ideal.S4x4x2048x1 ![0, 1, 2] Cert.Reference11Ideal.Gen.bcast_S4x4x2048_S4x4x2048x1_0_1_2 (Host.reduceAdd E (constant Cert.Reference11Ideal.S_ .f32 0x00000000#32) Cert.Reference11Ideal.Gen.reducesTo_S4x4x2048x256_S4x4x2048_d3 Cert.Reference11Ideal.Gen.h_S_)))

/-- The reference's gated readout: the values summed by the weights, times the gate. -/
def readout (Z : FVec Ideal S8192x2048 .bf16) (KV : FVec Ideal S1024x4096 .bf16) (P : FVec Ideal Cert.Reference11Ideal.S4x4x2048x256 .f32) : FVec Ideal S8192x2048 .bf16 :=
  truncf .bf16 (mulf (shapeCast _ (transpose Cert.Reference11Ideal.S4x2048x4x512 [0, 3, 1, 2] (Host.dotGeneral Cert.Reference11Ideal.dot_S4x256x4x512_S4x4x2048x256_S4x4x512x2048_1_3_3_2_02_01 none (shapeCast _ (extractStridedSlice Cert.Reference11Ideal.S1024x2048 ![0, 2048] (extf .f32 KV Cert.Reference11Ideal.Gen.bitsLt_bf16_f32) Cert.Reference11Ideal.Gen.slices_S1024x4096_S1024x2048_0_2048) Cert.Reference11Ideal.Gen.shapeCasts_S1024x2048_S4x256x4x512) P) Cert.Reference11Ideal.Gen.transposes_S4x4x512x2048_S4x2048x4x512_0_3_1_2) Cert.Reference11Ideal.Gen.shapeCasts_S4x2048x4x512_S8192x2048) (extf .f32 Z Cert.Reference11Ideal.Gen.bitsLt_bf16_f32)) Cert.Reference11Ideal.Gen.bitsLt_bf16_f32

/-- The largest of a row's scores. -/
def most (s : Fin 256 → EReal) : EReal := Finset.fold max (Ideal.ofBits .f32 0xFF800000#32) s Finset.univ

/-- The maximum over minus infinity is the maximum alone. -/
theorem most_eq (s : Fin 256 → EReal) : max (Ideal.ofBits .f32 0xFF800000#32) (most s) = most s :=
  max_eq_right ((Finset.le_fold_max _).2 (.inl le_rfl))

/-- One entry of an attention's result: the row's scores, the values of its column and the gate's entry give it. -/
def att (s v : Fin 256 → EReal) (z : EReal) : EReal :=
  (∑ j, Ideal.div (Ideal.exp (s j - most s)) (∑ i, Ideal.exp (s i - most s)) * v j) * z

/-- A score: a query row against a key row, scaled. -/
def score (q k : Fin 512 → EReal) : EReal := (∑ d, q d * k d) * Ideal.ofBits .f32 0x3D3504F3#32

/-- An entry of the scores. -/
theorem scores_at (Q : FVec Ideal S8192x2048 .bf16) (KV : FVec Ideal S1024x4096 .bf16) (b h : Fin 4) (p : Fin 2048) (a : Fin 256) :
    scores Q KV (ix4 b h p a) = score (fun d => Q (ix2 ⟨b.val * 2048 + p.val, by omega⟩ ⟨h.val * 512 + d.val, by omega⟩)) (fun d => KV (ix2 ⟨b.val * 256 + a.val, by omega⟩ ⟨h.val * 512 + d.val, by omega⟩)) := by
  pointwise [scores, score]

/-- A largest entry over a last axis, read at an index. -/
theorem reduce_last {n0 n1 n2 n3 : Nat} (A : FVec Ideal ⟨4, ![n0, n1, n2, n3]⟩ .f32) (c : FVec Ideal Cert.Reference11Ideal.S_ .f32) (w : (⟨4, ![n0, n1, n2, n3]⟩ : Shape).ReducesTo [3] ⟨3, ![n0, n1, n2]⟩) (hu : 0 < Cert.Reference11Ideal.S_.numel)
    (b : Fin n0) (h : Fin n1) (p : Fin n2) :
    Host.reduce FloatOps.maximumf A c w hu (ix3 b h p) = Finset.fold max (c (Shape.Idx.first hu)) (fun i => A (ix4 b h p i)) Finset.univ := by
  simp only [pointwise]

/-- An entry of the rows' largest scores. -/
theorem peak_at (A : FVec Ideal Cert.Reference11Ideal.S4x4x2048x256 .f32) (b h : Fin 4) (p : Fin 2048) :
    peak A (ix3 b h p) = most (fun i => A (ix4 b h p i)) :=
  reduce_last A _ _ _ b h p

/-- An entry of the exponentials. -/
theorem expo_at (A : FVec Ideal Cert.Reference11Ideal.S4x4x2048x256 .f32) (M : FVec Ideal Cert.Reference11Ideal.S4x4x2048 .f32) (b h : Fin 4) (p : Fin 2048) (a : Fin 256) :
    expo A M (ix4 b h p a) = Ideal.exp (A (ix4 b h p a) - max (Ideal.ofBits .f32 0xFF800000#32) (M (ix3 b h p))) := by
  pointwise [expo]

/-- An entry of the weights. -/
theorem weights_at (E : FVec Ideal Cert.Reference11Ideal.S4x4x2048x256 .f32) (b h : Fin 4) (p : Fin 2048) (a : Fin 256) :
    weights E (ix4 b h p a) = Ideal.div (E (ix4 b h p a)) (∑ i, E (ix4 b h p i)) := by
  pointwise [weights]

/-- An entry of the readout. -/
theorem readout_at (Z : FVec Ideal S8192x2048 .bf16) (KV : FVec Ideal S1024x4096 .bf16) (P : FVec Ideal Cert.Reference11Ideal.S4x4x2048x256 .f32) (b h : Fin 4) (p : Fin 2048) (e : Fin 512) :
    readout Z KV P (ix2 ⟨b.val * 2048 + p.val, by omega⟩ ⟨h.val * 512 + e.val, by omega⟩)
      = (∑ a : Fin 256, P (ix4 b h p a) * KV (ix2 ⟨b.val * 256 + a.val, by omega⟩ ⟨2048 + (h.val * 512 + e.val), by omega⟩)) * Z (ix2 ⟨b.val * 2048 + p.val, by omega⟩ ⟨h.val * 512 + e.val, by omega⟩) := by
  pointwise [readout]
  exact congrArg (· * _) (Finset.sum_congr rfl fun _ _ => mul_comm _ _)

/-- The reference's whole result, from its stages. -/
def REF (Q Z : FVec Ideal S8192x2048 .bf16) (KV : FVec Ideal S1024x4096 .bf16) : FVec Ideal S8192x2048 .bf16 :=
  readout Z KV (weights (expo (scores Q KV) (peak (scores Q KV))))

/-- An entry of the reference's result. -/
theorem ref_at (Q Z : FVec Ideal S8192x2048 .bf16) (KV : FVec Ideal S1024x4096 .bf16) (b h : Fin 4) (p : Fin 2048) (e : Fin 512) :
    REF Q Z KV (ix2 ⟨b.val * 2048 + p.val, by omega⟩ ⟨h.val * 512 + e.val, by omega⟩)
      = att (fun a => score (fun d => Q (ix2 ⟨b.val * 2048 + p.val, by omega⟩ ⟨h.val * 512 + d.val, by omega⟩)) (fun d => KV (ix2 ⟨b.val * 256 + a.val, by omega⟩ ⟨h.val * 512 + d.val, by omega⟩)))
          (fun a => KV (ix2 ⟨b.val * 256 + a.val, by omega⟩ ⟨2048 + (h.val * 512 + e.val), by omega⟩)) (Z (ix2 ⟨b.val * 2048 + p.val, by omega⟩ ⟨h.val * 512 + e.val, by omega⟩)) := by
  unfold REF att
  rw [readout_at]
  simp only [weights_at, expo_at, peak_at, scores_at, most_eq]

/-- What the kernel computes for the last head, at one entry. -/
theorem pay1_at (q : FVec Ideal S1024x512 .bf16) (k v : FVec Ideal S256x512 .bf16) (z : FVec Ideal S1024x512 .bf16) (p : Fin 1024) (e : Fin 512) :
    k0_pay1 (F := Ideal) q k v z (ix2 p e) = att (fun a => score (fun d => q (ix2 p d)) (fun d => k (ix2 a d))) (fun a => v (ix2 a e)) (z (ix2 p e)) := by
  pointwise [k0_pay1, att, score, most]

/-- What the kernel computes for the first head, at one entry. -/
theorem pay2_at (q : FVec Ideal S1024x512 .bf16) (k v : FVec Ideal S256x512 .bf16) (z : FVec Ideal S1024x512 .bf16) (p : Fin 1024) (e : Fin 512) :
    k0_pay2 (F := Ideal) q k v z (ix2 p e) = att (fun a => score (fun d => q (ix2 p d)) (fun d => k (ix2 a d))) (fun a => v (ix2 a e)) (z (ix2 p e)) := by
  pointwise [k0_pay2, att, score, most]

/-- What the kernel computes for the second head, at one entry. -/
theorem pay5_at (q : FVec Ideal S1024x512 .bf16) (k v : FVec Ideal S256x512 .bf16) (z : FVec Ideal S1024x512 .bf16) (p : Fin 1024) (e : Fin 512) :
    k0_pay5 (F := Ideal) (k0_pay3 q k) (k0_pay4 q k) v z (ix2 p e) = att (fun a => score (fun d => q (ix2 p d)) (fun d => k (ix2 a d))) (fun a => v (ix2 a e)) (z (ix2 p e)) := by
  pointwise [k0_pay5, k0_pay3, k0_pay4, att, score, most]

/-- What the kernel computes for the third head, at one entry. -/
theorem pay6_at (q : FVec Ideal S1024x512 .bf16) (k v : FVec Ideal S256x512 .bf16) (z : FVec Ideal S1024x512 .bf16) (p : Fin 1024) (e : Fin 512) :
    k0_pay6 (F := Ideal) q k v z (ix2 p e) = att (fun a => score (fun d => q (ix2 p d)) (fun d => k (ix2 a d))) (fun a => v (ix2 a e)) (z (ix2 p e)) := by
  pointwise [k0_pay6, att, score, most]

/-- What the kernel leaves in its result block, at an entry of the block, from the blocks it reads. -/
def blkAt (x0 : FVec Ideal S1024x2048 .bf16) (x1 x2 : FVec Ideal S256x2048 .bf16) (x3 : FVec Ideal S1024x2048 .bf16) (p : Fin 1024) (j : Fin 2048) : EReal :=
  att (fun a => score (fun d => x0 (ix2 p ⟨j.val / 512 * 512 + d.val, by omega⟩)) (fun d => x1 (ix2 a ⟨j.val / 512 * 512 + d.val, by omega⟩))) (fun a => x2 (ix2 a j)) (x3 (ix2 p j))

/-- A head's result at an entry is the block's, when its four operands are the block's columns of that head. -/
theorem piece (x0 : FVec Ideal S1024x2048 .bf16) (x1 x2 : FVec Ideal S256x2048 .bf16) (x3 : FVec Ideal S1024x2048 .bf16) (q : FVec Ideal S1024x512 .bf16) (k v : FVec Ideal S256x512 .bf16) (z : FVec Ideal S1024x512 .bf16)
    (p : Fin 1024) (j : Fin 2048) (e : Fin 512)
    (hq : ∀ d, q (ix2 p d) = x0 (ix2 p ⟨j.val / 512 * 512 + d.val, by omega⟩)) (hk : ∀ a d, k (ix2 a d) = x1 (ix2 a ⟨j.val / 512 * 512 + d.val, by omega⟩))
    (hv : ∀ a, v (ix2 a e) = x2 (ix2 a j)) (hz : z (ix2 p e) = x3 (ix2 p j)) :
    att (fun a => score (fun d => q (ix2 p d)) (fun d => k (ix2 a d))) (fun a => v (ix2 a e)) (z (ix2 p e)) = blkAt x0 x1 x2 x3 p j := by
  simp only [blkAt, hq, hk, hv, hz]

/-- A window of columns of a block of rows, by the block's own places. -/
theorem cols (o : Nat) (inb) (p : Fin 1024) (d : Fin 512) (k : Fin 2048) (hk : k.val = o + d.val) :
    (Rect.unit (s := S1024x2048) ![0, o] S1024x512.size inb).idx (ix2 p d) = ix2 p k := by
  funext a; refine Fin.ext ?_
  match a with
  | ⟨0, _⟩ => show 0 + 1 * p.val = p.val; omega
  | ⟨1, _⟩ => show o + 1 * d.val = k.val; omega

/-- The same of a block of keys or values. -/
theorem colsM (o : Nat) (inb) (p : Fin 256) (d : Fin 512) (k : Fin 2048) (hk : k.val = o + d.val) :
    (Rect.unit (s := S256x2048) ![0, o] S256x512.size inb).idx (ix2 p d) = ix2 p k := by
  funext a; refine Fin.ext ?_
  match a with
  | ⟨0, _⟩ => show 0 + 1 * p.val = p.val; omega
  | ⟨1, _⟩ => show o + 1 * d.val = k.val; omega

/-- The four heads' stores fill the block. -/
theorem out_at (x0 : FVec Ideal S1024x2048 .bf16) (x1 x2 : FVec Ideal S256x2048 .bf16) (x3 : FVec Ideal S1024x2048 .bf16) (y : S1024x2048.Idx) :
    out0_4 (F := Ideal) x0 x1 x2 x3 y = blkAt x0 x1 x2 x3 (y 0) (y 1) := by
  canon_tiles x h
  all_goals
    obtain ⟨p, e, rfl⟩ : ∃ (p : Fin 1024) (e : Fin 512), x = ix2 p e := ⟨x 0, x 1, funext fun a => by fin_cases a <;> rfl⟩
    rw [show y 0 = p from Fin.ext h0]
    have he : e.val < 512 := e.isLt
    generalize y 1 = j at h1 ⊢
  · change j.val = 1536 + e.val at h1
    exact (pay1_at _ _ _ _ p e).trans (piece x0 x1 x2 x3 _ _ _ _ p j e
      (fun d => congrArg x0 (cols 1536 _ p d _ (by show _ + _ = _; omega))) (fun a d => congrArg x1 (colsM 1536 _ a d _ (by show _ + _ = _; omega)))
      (fun a => congrArg x2 (colsM 1536 _ a e _ h1)) (congrArg x3 (cols 1536 _ p e _ h1)))
  · change j.val = 1024 + e.val at h1
    exact (pay6_at _ _ _ _ p e).trans (piece x0 x1 x2 x3 _ _ _ _ p j e
      (fun d => congrArg x0 (cols 1024 _ p d _ (by show _ + _ = _; omega))) (fun a d => congrArg x1 (colsM 1024 _ a d _ (by show _ + _ = _; omega)))
      (fun a => congrArg x2 (colsM 1024 _ a e _ h1)) (congrArg x3 (cols 1024 _ p e _ h1)))
  · change j.val = 512 + e.val at h1
    exact (pay5_at _ _ _ _ p e).trans (piece x0 x1 x2 x3 _ _ _ _ p j e
      (fun d => congrArg x0 (cols 512 _ p d _ (by show _ + _ = _; omega))) (fun a d => congrArg x1 (colsM 512 _ a d _ (by show _ + _ = _; omega)))
      (fun a => congrArg x2 (colsM 512 _ a e _ h1)) (congrArg x3 (cols 512 _ p e _ h1)))
  · have h1 : j.val = 0 + e.val := h1.trans (Nat.zero_add _).symm
    exact (pay2_at _ _ _ _ p e).trans (piece x0 x1 x2 x3 _ _ _ _ p j e
      (fun d => congrArg x0 (cols 0 _ p d _ (by show _ + _ = _; omega))) (fun a d => congrArg x1 (colsM 0 _ a d _ (by show _ + _ = _; omega)))
      (fun a => congrArg x2 (colsM 0 _ a e _ h1)) (congrArg x3 (cols 0 _ p e _ h1)))

/-- The blocks each window holds at each grid point. -/
theorem idx : ∀ t : Fin cfg0.N, win0_0.index t = ![t.val, 0] ∧ win0_1.index t = ![t.val / 2, 0] ∧ win0_2.index t = ![t.val / 2, 1] ∧ win0_3.index t = ![t.val, 0] ∧ win0_4.index t = ![t.val, 0] := by
  decide +kernel

/-- What grid point `t` stores at a place of its block is the reference's result at that place of the array. -/
theorem point (c : Dev nD) (t : Fin cfg0.N) (y : S1024x2048.Idx) :
    out0_4 (F := Ideal) (iblk m c 0 t) (iblk m c 1 t) (iblk m c 2 t) (iblk m c 3 t) y
    = REF (m ((c : Thread nD τ).loc main_arg0)) (m ((c : Thread nD τ).loc main_arg1)) (m ((c : Thread nD τ).loc main_arg2)) (((cfg0.win 4).blk t).view.emb y) := by
  refine (out_at _ _ _ _ y).trans ?_
  obtain ⟨p, j, rfl⟩ : ∃ (p : Fin 1024) (j : Fin 2048), y = ix2 p j := ⟨y 0, y 1, funext fun a => by fin_cases a <;> rfl⟩
  have ht : t.val < 8 := t.isLt
  have hp := p.isLt
  have hj := j.isLt
  have e : ((cfg0.win 4).blk t).view.emb (ix2 p j) = (ix2 ⟨(⟨t.val / 2, by omega⟩ : Fin 4).val * 2048 + (⟨t.val % 2 * 1024 + p.val, by omega⟩ : Fin 2048).val, by show _ + _ < _; omega⟩ ⟨(⟨j.val / 512, by omega⟩ : Fin 4).val * 512 + (⟨j.val % 512, by omega⟩ : Fin 512).val, by show _ + _ < _; omega⟩ : S8192x2048.Idx) := by
    blk_ext [idx t]
  rw [e]
  refine Eq.trans ?_ (ref_at _ _ _ _ _ _ _).symm
  show blkAt _ _ _ _ p j = _
  unfold blkAt
  have a0 : ∀ k : Fin 2048, iblk m c 0 t (ix2 p k) = (m ((c : Thread nD τ).loc main_arg0) : FVec Ideal S8192x2048 .bf16) (ix2 ⟨t.val / 2 * 2048 + (t.val % 2 * 1024 + p.val), by omega⟩ k) := fun k => by
    blk_point [iblk, V, idx t]
  have a1 : ∀ (a : Fin 256) (k : Fin 2048), iblk m c 1 t (ix2 a k) = (m ((c : Thread nD τ).loc main_arg2) : FVec Ideal S1024x4096 .bf16) (ix2 ⟨t.val / 2 * 256 + a.val, by omega⟩ ⟨k.val, by omega⟩) := fun a k => by
    blk_point [iblk, V, idx t]
  have a2 : ∀ (a : Fin 256) (k : Fin 2048), iblk m c 2 t (ix2 a k) = (m ((c : Thread nD τ).loc main_arg2) : FVec Ideal S1024x4096 .bf16) (ix2 ⟨t.val / 2 * 256 + a.val, by omega⟩ ⟨2048 + k.val, by omega⟩) := fun a k => by
    blk_point [iblk, V, idx t]
  have a3 : ∀ k : Fin 2048, iblk m c 3 t (ix2 p k) = (m ((c : Thread nD τ).loc main_arg1) : FVec Ideal S8192x2048 .bf16) (ix2 ⟨t.val / 2 * 2048 + (t.val % 2 * 1024 + p.val), by omega⟩ k) := fun k => by
    blk_point [iblk, V, idx t]
  simp only [a0, a1, a2, a3, show j.val / 512 * 512 + j.val % 512 = j.val by omega]

/-- The result array after the run is the reference's result. -/
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.Kernel11Ideal.Value

namespace Cert.Proof
open Idealize.ShloMosaic Idealize.SL.Sem

/-- The kernel's and the reference's attention over the memory are the same array. -/
theorem algebraic_xattn : algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ⟨?_, (h c).2⟩) (Cert.Reference11Ideal.Value.run (F := Ideal) m' ρ')
  rw [(h c).1]
  obtain ⟨e0, e1, e2⟩ := hagree c
  rw [e0, e1, e2]
  refine Eq.trans ?_ (Cert.Kernel11Ideal.Value.final m c).symm
  rfl

end Cert.Proof
end
-- ==== Proof.Conv.lean ====
/- The causal convolution of width three, gated. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Tactic.ValueTie
public import Idealize.ShloMosaic.Lib.Claim

@[expose] public section

set_option maxRecDepth 16384

noncomputable section

namespace Cert.Kernel12Ideal.Value
open Idealize.ShloMosaic Idealize.ShloMosaic.TcCoe Idealize.SL.Sem Cert.Kernel12Ideal.Gen
open Idealize.ShloMosaic.Pipeline (Dat Cfg Window)

variable (m : (ℓ : Loc nD τ sig) → Buf (Elt Ideal) ℓ)

/-- The reference's result as a function of its three arguments. -/
abbrev REF (P G : FVec Ideal S8192x2048 .bf16) (W : FVec Ideal S1x3x2048 .f32) : FVec Ideal S8192x2048 .bf16 :=
  truncf .bf16 (shapeCast Cert.Reference12Ideal.S8192x2048 (mulf (addf (addf (addf (broadcastInDim Cert.Reference12Ideal.S4x2048x2048 ![] Cert.Reference12Ideal.Gen.bcast_S_S4x2048x2048 (constant Cert.Reference12Ideal.S_ .f32 0x00000000#32)) (mulf (extractStridedSlice Cert.Reference12Ideal.S4x2048x2048 ![0, 0, 0] (pad Cert.Reference12Ideal.S4x2050x2048 ![0, 2, 0] ![0, 0, 0] ![0, 0, 0] (shapeCast Cert.Reference12Ideal.S4x2048x2048 (extf .f32 P Cert.Reference12Ideal.Gen.bitsLt_bf16_f32) Cert.Reference12Ideal.Gen.shapeCasts_S8192x2048_S4x2048x2048) (sitofp .f32 (constantI Cert.Reference12Ideal.S_ 32 0#32)) Cert.Reference12Ideal.Gen.pads_S4x2048x2048_S4x2050x2048_000_200_000 Cert.Reference12Ideal.Gen.h_S_) Cert.Reference12Ideal.Gen.slices_S4x2050x2048_S4x2048x2048_0_0_0) (broadcastInDim Cert.Reference12Ideal.S4x2048x2048 ![0, 1, 2] Cert.Reference12Ideal.Gen.bcast_S1x1x2048_S4x2048x2048_0_1_2 (broadcastInDim Cert.Reference12Ideal.S1x1x2048 ![2] Cert.Reference12Ideal.Gen.bcast_S2048_S1x1x2048_2 (shapeCast Cert.Reference12Ideal.S2048 (extractStridedSlice Cert.Reference12Ideal.S1x1x2048 ![0, 0, 0] W Cert.Reference12Ideal.Gen.slices_S1x3x2048_S1x1x2048_0_0_0) Cert.Reference12Ideal.Gen.shapeCasts_S1x1x2048_S2048))))) (mulf (extractStridedSlice Cert.Reference12Ideal.S4x2048x2048 ![0, 1, 0] (pad Cert.Reference12Ideal.S4x2050x2048 ![0, 2, 0] ![0, 0, 0] ![0, 0, 0] (shapeCast Cert.Reference12Ideal.S4x2048x2048 (extf .f32 P Cert.Reference12Ideal.Gen.bitsLt_bf16_f32) Cert.Reference12Ideal.Gen.shapeCasts_S8192x2048_S4x2048x2048) (sitofp .f32 (constantI Cert.Reference12Ideal.S_ 32 0#32)) Cert.Reference12Ideal.Gen.pads_S4x2048x2048_S4x2050x2048_000_200_000 Cert.Reference12Ideal.Gen.h_S_) Cert.Reference12Ideal.Gen.slices_S4x2050x2048_S4x2048x2048_0_1_0) (broadcastInDim Cert.Reference12Ideal.S4x2048x2048 ![0, 1, 2] Cert.Reference12Ideal.Gen.bcast_S1x1x2048_S4x2048x2048_0_1_2 (broadcastInDim Cert.Reference12Ideal.S1x1x2048 ![2] Cert.Reference12Ideal.Gen.bcast_S2048_S1x1x2048_2 (shapeCast Cert.Reference12Ideal.S2048 (extractStridedSlice Cert.Reference12Ideal.S1x1x2048 ![0, 1, 0] W Cert.Reference12Ideal.Gen.slices_S1x3x2048_S1x1x2048_0_1_0) Cert.Reference12Ideal.Gen.shapeCasts_S1x1x2048_S2048))))) (mulf (extractStridedSlice Cert.Reference12Ideal.S4x2048x2048 ![0, 2, 0] (pad Cert.Reference12Ideal.S4x2050x2048 ![0, 2, 0] ![0, 0, 0] ![0, 0, 0] (shapeCast Cert.Reference12Ideal.S4x2048x2048 (extf .f32 P Cert.Reference12Ideal.Gen.bitsLt_bf16_f32) Cert.Reference12Ideal.Gen.shapeCasts_S8192x2048_S4x2048x2048) (sitofp .f32 (constantI Cert.Reference12Ideal.S_ 32 0#32)) Cert.Reference12Ideal.Gen.pads_S4x2048x2048_S4x2050x2048_000_200_000 Cert.Reference12Ideal.Gen.h_S_) Cert.Reference12Ideal.Gen.slices_S4x2050x2048_S4x2048x2048_0_2_0) (broadcastInDim Cert.Reference12Ideal.S4x2048x2048 ![0, 1, 2] Cert.Reference12Ideal.Gen.bcast_S1x1x2048_S4x2048x2048_0_1_2 (broadcastInDim Cert.Reference12Ideal.S1x1x2048 ![2] Cert.Reference12Ideal.Gen.bcast_S2048_S1x1x2048_2 (shapeCast Cert.Reference12Ideal.S2048 (extractStridedSlice Cert.Reference12Ideal.S1x1x2048 ![0, 2, 0] W Cert.Reference12Ideal.Gen.slices_S1x3x2048_S1x1x2048_0_2_0) Cert.Reference12Ideal.Gen.shapeCasts_S1x1x2048_S2048))))) (shapeCast Cert.Reference12Ideal.S4x2048x2048 (extf .f32 G Cert.Reference12Ideal.Gen.bitsLt_bf16_f32) Cert.Reference12Ideal.Gen.shapeCasts_S8192x2048_S4x2048x2048)) Cert.Reference12Ideal.Gen.shapeCasts_S4x2048x2048_S8192x2048) Cert.Reference12Ideal.Gen.bitsLt_bf16_f32

/-- The blocks each window holds at each grid point. -/
theorem idx : ∀ t : Fin cfg0.N, win0_0.index t = ![t.val / 4, t.val % 4] ∧ win0_1.index t = ![t.val / 4, t.val % 4] ∧ win0_2.index t = ![0, t.val % 4] ∧ win0_3.index t = ![t.val / 4, t.val % 4] :=
  (by decide +kernel : ∀ t : Fin grid0.N, _)

/-- A row number compared with one and with two. -/
theorem ge : ∀ p : Fin 2048, IntOp.cmpi CmpIPredicate.sge (BitVec.ofNat 32 p.val) 1#32 = (if 1 ≤ p.val then 1#1 else 0#1)
    ∧ IntOp.cmpi CmpIPredicate.sge (BitVec.ofNat 32 p.val) 2#32 = (if 2 ≤ p.val then 1#1 else 0#1) := by
  decide +kernel

/-- The convolution at a row of a batch, from the columns a block holds: the rows before the batch's first count as zero in both. -/
theorem core (x g : FVec Ideal S2048x512 .bf16) (w0 w1 w2 : FVec Ideal S1x512 .f32) (P G : FVec Ideal S8192x2048 .bf16) (W : FVec Ideal S1x3x2048 .f32)
    (b : Fin 4) (p : Fin 2048) (q : Fin 512) (j : Fin 2048) (hx : ∀ r : Fin 2048, x (ix2 r q) = P (ix2 ⟨b.val * 2048 + r.val, by omega⟩ j))
    (h0 : w0 (ix2 0 q) = W (ix3 0 2 j)) (h1 : w1 (ix2 0 q) = W (ix3 0 1 j)) (h2 : w2 (ix2 0 q) = W (ix3 0 0 j))
    (hg : g (ix2 p q) = G (ix2 ⟨b.val * 2048 + p.val, by omega⟩ j)) :
    k0_pay1 (F := Ideal) x w0 w1 w2 g (ix2 p q) = REF P G W (ix2 ⟨b.val * 2048 + p.val, by omega⟩ j) := by
  pointwise [k0_pay1, REF]
  have hb := b.isLt
  have hp := p.isLt
  have d : (b.val * 2048 + p.val) / 2048 = b.val := by omega
  have r : (b.val * 2048 + p.val) % 2048 = p.val := by omega
  have z : (FloatOps.sitofp (F := Ideal) FTy.f32 0#32) = 0 := by
    simp [FloatOps.sitofp]
  simp only [d, r, z, (ge p).1, (ge p).2, hx, h0, h1, h2, hg]
  refine congrArg (· * _) ?_
  have s1 : Scalar.select (if 1 ≤ p.val then 1#1 else 0#1) (P (ix2 ⟨b.val * 2048 + (p.val + 2048 - 1) % 2048, by omega⟩ j) * W (ix3 0 1 j)) 0
      = (if h : 2 ≤ 1 + p.val ∧ 1 + p.val - 2 < 2048 then P (ix2 ⟨b.val * 2048 + (1 + p.val - 2), by omega⟩ j) else 0) * W (ix3 0 1 j) := by
    by_cases h : 1 ≤ p.val
    · rw [if_pos h, dif_pos (by omega)]
      exact congrArg (fun k => P (ix2 k j) * _) (Fin.ext (by show _ + _ = _ + _; omega))
    · rw [if_neg h, dif_neg (by omega), zero_mul]
      rfl
  have s2 : Scalar.select (if 2 ≤ p.val then 1#1 else 0#1) (P (ix2 ⟨b.val * 2048 + (p.val + 2048 - 2) % 2048, by omega⟩ j) * W (ix3 0 0 j)) 0
      = (if h : 2 ≤ p.val ∧ p.val - 2 < 2048 then P (ix2 ⟨b.val * 2048 + (p.val - 2), by omega⟩ j) else 0) * W (ix3 0 0 j) := by
    by_cases h : 2 ≤ p.val
    · rw [if_pos h, dif_pos (by omega)]
      exact congrArg (fun k => P (ix2 k j) * _) (Fin.ext (by show _ + _ = _ + _; omega))
    · rw [if_neg h, dif_neg (by omega), zero_mul]
      rfl
  simp only [s1, s2, true_and, and_true, hp, hb, dite_true]
  rw [add_comm, add_comm (_ * W (ix3 0 2 j)), ← add_assoc]

/-- An entry of the weight as the kernel reads it. -/
theorem rows (W : FVec Ideal S1x3x2048 .f32) (d : Fin 3) (j : Fin 2048) : shapeCast S3x2048 W shapeCasts_S1x3x2048_S3x2048 (ix2 d j) = W (ix3 0 d j) := by
  pointwise []

/-- The third operand is the weight. -/
theorem V_w (c : Dev nD) (d : Fin 3) (j : Fin 2048) : V m c main_v0 (ix2 d j) = (m ((c : Thread nD τ).loc main_arg2) : FVec Ideal S1x3x2048 .f32) (ix3 0 d j) :=
  (congrFun (by unfold V; after_results <;> rfl) _).trans (rows _ d j)

/-- A row of the weight's block, by its own entries: row 2. -/
theorem ld2 (B : FVec Ideal S3x512 .f32) (q : Fin 512) : View.ld (Val := Elt Ideal) (e' := .f32) B r0_1 (ix2 0 q) = B (ix2 2 q) := congrArg B (by
  blk_ext [r0_1]
  all_goals simp [LoadRect.idx, Rect.unit, Rect.toLoadRect, r0_1, ix2])

/-- Row 1. -/
theorem ld1 (B : FVec Ideal S3x512 .f32) (q : Fin 512) : View.ld (Val := Elt Ideal) (e' := .f32) B r0_2 (ix2 0 q) = B (ix2 1 q) := congrArg B (by
  blk_ext [r0_2]
  all_goals simp [LoadRect.idx, Rect.unit, Rect.toLoadRect, r0_2, ix2])

/-- Row 0. -/
theorem ld0 (B : FVec Ideal S3x512 .f32) (q : Fin 512) : View.ld (Val := Elt Ideal) (e' := .f32) B r0_3 (ix2 0 q) = B (ix2 0 q) := congrArg B (by
  blk_ext [r0_3]
  all_goals simp [LoadRect.idx, Rect.unit, Rect.toLoadRect, r0_3, ix2])

/-- The weight's block at grid point `t`, read from the operand. -/
theorem w_at (c : Dev nD) (t : Fin cfg0.N) (d : Fin 3) (q : Fin 512) :
    iblk m c 2 t (ix2 d q) = V m c main_v0 (ix2 d ⟨t.val % 4 * 512 + q.val, by have : t.val < 16 := t.isLt; omega⟩) := by
  show V m c main_v0 (((cfg0.win 2).blk t).view.emb (ix2 d q)) = _
  exact congrArg (V m c main_v0) (by blk_ext [idx t])

/-- What grid point `t` stores at a place of its block is the reference's result at that place of the array. -/
theorem point (c : Dev nD) (t : Fin cfg0.N) (y : S2048x512.Idx) :
    k0_pay1 (F := Ideal) (iblk m c 0 t) (View.ld (iblk m c 2 t) r0_1) (View.ld (iblk m c 2 t) r0_2) (View.ld (iblk m c 2 t) r0_3) (iblk m c 1 t) y
    = REF (m ((c : Thread nD τ).loc main_arg0)) (m ((c : Thread nD τ).loc main_arg1)) (m ((c : Thread nD τ).loc main_arg2)) (((cfg0.win 3).blk t).view.emb y) := by
  obtain ⟨p, q, rfl⟩ : ∃ (p : Fin 2048) (q : Fin 512), y = ix2 p q := ⟨y 0, y 1, funext fun a => by fin_cases a <;> rfl⟩
  have ht : t.val < 16 := t.isLt
  have hp := p.isLt
  have hq := q.isLt
  have e : ((cfg0.win 3).blk t).view.emb (ix2 p q) = (ix2 ⟨t.val / 4 * 2048 + p.val, by omega⟩ ⟨t.val % 4 * 512 + q.val, by omega⟩ : S8192x2048.Idx) := by
    blk_ext [idx t]
  rw [e]
  refine core _ _ _ _ _ _ _ _ ⟨t.val / 4, by omega⟩ p q ⟨t.val % 4 * 512 + q.val, by omega⟩ (fun r => ?_) ?_ ?_ ?_ ?_
  · blk_point [iblk, V, idx t]
  · exact (ld2 _ q).trans ((w_at m c t 2 q).trans (V_w m c 2 _))
  · exact (ld1 _ q).trans ((w_at m c t 1 q).trans (V_w m c 1 _))
  · exact (ld0 _ q).trans ((w_at m c t 0 q).trans (V_w m c 0 _))
  · blk_point [iblk, V, idx t]

/-- The result array after the run is the reference's result. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel12Ideal.Value

namespace Cert.Proof
open Idealize.ShloMosaic Idealize.SL.Sem

/-- The kernel's and the reference's gated convolution are the same array. -/
theorem algebraic_conv : algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ⟨?_, (h c).2⟩) (Cert.Reference12Ideal.Value.run (F := Ideal) m' ρ')
  rw [(h c).1]
  obtain ⟨e0, e1, e2⟩ := hagree c
  rw [e0, e1, e2]
  refine Eq.trans ?_ (Cert.Kernel12Ideal.Value.final m c).symm
  rfl

end Cert.Proof
end
-- ==== Proof.Xcast.lean ====
/- The input as bfloat16, and the columns of the projection that hold the mLSTM's input and forget gates. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Tactic.ValueTie
public import Idealize.ShloMosaic.Lib.Claim
public import proofs.«01_k».proof.Proof.Linear
@[expose] public section

set_option maxRecDepth 16384

noncomputable section

namespace Cert.Kernel13Ideal.Value
open Idealize.ShloMosaic Idealize.ShloMosaic.TcCoe Idealize.SL.Sem Cert.Kernel13Ideal.Gen
open Idealize.ShloMosaic.Pipeline (Dat Cfg Window)

variable (m : (ℓ : Loc nD τ sig) → Buf (Elt Ideal) ℓ)

/-- The reference's first result, the input's rows, -/
abbrev REF (X : FVec Ideal S4x2048x4096 .f32) : FVec Ideal S8192x4096 .bf16 :=
  truncf .bf16 (shapeCast Cert.Reference13Ideal.S8192x4096 X Cert.Reference13Ideal.Gen.shapeCasts_S4x2048x4096_S8192x4096) Cert.Reference13Ideal.Gen.bitsLt_bf16_f32

/-- and the second, from those rows. -/
abbrev REF' (X : FVec Ideal S4x2048x4096 .f32) (W : FVec Ideal S1x4096x40976 .f32) (B : FVec Ideal S1x40976 .f32) : FVec Ideal S8192x128 .f32 :=
  extractStridedSlice Cert.Reference13Ideal.S8192x128 ![0, 16384] (Linear.u (REF X) W B) Cert.Reference13Ideal.Gen.slices_S8192x40976_S8192x128_0_16384

/-- The blocks each window holds at each grid point. -/
theorem idx : ∀ t : Fin cfg0.N, win0_0.index t = ![t.val, 0] ∧ win0_2.index t = ![0, 0] ∧ win0_3.index t = ![t.val, 0] ∧ win0_4.index t = ![t.val, 0] :=
  (by decide +kernel : ∀ t : Fin grid0.N, _)

/-- The rows of the transposed weight a grid point reads. -/
theorem offs : ∀ t : Fin cfg0.N, cc0_transform_1 (grid0.coords t) = ![16384 + 0, 0] :=
  (by decide +kernel : ∀ t : Fin grid0.N, _)

/-- The first operand is the input's rows, -/
theorem V_x (c : Dev nD) : (V m c main_v0 : FVec Ideal S8192x4096 .f32) = REF (m ((c : Thread nD τ).loc main_arg0)) := by
  unfold V; after_results <;> rfl

/-- the second the transposed weight, -/
theorem V_w (c : Dev nD) (r : Fin 40976) (k : Fin 4096) : V m c main_v5 (ix2 r k) = (m ((c : Thread nD τ).loc main_arg1) : FVec Ideal S1x4096x40976 .f32) (ix3 0 k r) :=
  (congrFun (by unfold V; after_results <;> rfl) _).trans (Linear.transposed _ transposes_S1x4096x40976_S1x40976x4096_0_2_1 shapeCasts_S1x40976x4096_S40976x4096 r k)

/-- A segment of the bias as one row. -/
theorem seg (B : FVec Ideal S1x40976 .f32) (r : Fin 128) :
    shapeCast S1x128 (shapeCast S128 (extractStridedSlice S1x128 ![0, 16384] B slices_S1x40976_S1x128_0_16384) shapeCasts_S1x128_S128) shapeCasts_S128_S1x128 (ix2 0 r) = B (ix2 0 ⟨16384 + r.val, by omega⟩) := by
  pointwise []

/-- and the third the gates' bias. -/
theorem V_b (c : Dev nD) (r : Fin 128) : V m c main_v4 (ix2 0 r) = (m ((c : Thread nD τ).loc main_arg2) : FVec Ideal S1x40976 .f32) (ix2 0 ⟨16384 + r.val, by omega⟩) :=
  (congrFun (by unfold V; after_results <;> rfl) _).trans (seg _ r)

/-- What a grid point stores to the second result, from the entry `u` of the projection. -/
theorem pay_at (x : FVec Ideal S512x4096 .f32) (w : FVec Ideal S128x4096 .f32) (b : FVec Ideal S1x128 .f32) (p : Fin 512) (q : Fin 128) {u : EReal}
    (hu : ∑ k : Fin 4096, x (ix2 p k) * w (ix2 q k) + b (ix2 0 q) = u) : k0_pay2 (F := Ideal) x w b (ix2 p q) = u := by
  subst hu
  pointwise [k0_pay2, k0_pay1]

/-- An entry of the reference's second result from the projection's entries. -/
theorem ref_at (X : FVec Ideal S4x2048x4096 .f32) (W : FVec Ideal S1x4096x40976 .f32) (B : FVec Ideal S1x40976 .f32) (i : Fin 8192) (j : Fin 128) :
    REF' X W B (ix2 i j) = Linear.lin (REF X) W B i ⟨16384 + j.val, by omega⟩ := by
  rw [← Linear.u_at]
  generalize hR : REF X = R
  simp only [REF', hR]
  pointwise []

/-- The first store, as read from its block. -/
theorem pay1_at (x : FVec Ideal S512x4096 .f32) (y) : k0_pay1 (F := Ideal) x y = x y := by
  pointwise [k0_pay1]

/-- An entry of the block of rows a grid point reads. -/
theorem x_at (c : Dev nD) (t : Fin cfg0.N) (p : Fin 512) (k : Fin 4096) (i : Fin 8192) (hi : i.val = t.val * 512 + p.val) :
    (iblk m c 0 t : FVec Ideal S512x4096 .f32) (ix2 p k) = REF (m ((c : Thread nD τ).loc main_arg0)) (ix2 i k) := by
  rw [← V_x]
  blk_point [iblk, idx t]

/-- The first result array after the run is the reference's first result, -/
theorem final (c : Dev nD) : (dats m 0 c).arrAt 3 (cfgs 0).N = REF (m ((c : Thread nD τ).loc main_arg0)) := by
  refine (dats m 0 c).arrAt_eq_of_covers 3 _ (by decide +kernel) fun t _ y => ?_
  blk_simp
  rw [after0_3]; frame_out
  obtain ⟨p, q, rfl⟩ : ∃ (p : Fin 512) (q : Fin 4096), y = ix2 p q := ⟨y 0, y 1, funext fun a => by fin_cases a <;> rfl⟩
  have ht : t.val < 16 := t.isLt
  have hp := p.isLt
  have e : ((cfg0.win 3).blk t).view.emb (ix2 p q) = (ix2 ⟨t.val * 512 + p.val, by omega⟩ q : S8192x4096.Idx) := by
    blk_ext [idx t]
  exact (pay1_at _ _).trans ((x_at m c t p q _ rfl).trans (congrArg (REF (m ((c : Thread nD τ).loc main_arg0))) e.symm))

/-- and the second the second. -/
theorem final' (c : Dev nD) : (dats m 0 c).arrAt 4 (cfgs 0).N = REF' (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  obtain ⟨p, q, rfl⟩ : ∃ (p : Fin 512) (q : Fin 128), y = ix2 p q := ⟨y 0, y 1, funext fun a => by fin_cases a <;> rfl⟩
  have ht : t.val < 16 := t.isLt
  have hp := p.isLt
  have e : ((cfg0.win 4).blk t).view.emb (ix2 p q) = (ix2 ⟨t.val * 512 + p.val, by omega⟩ q : S8192x128.Idx) := by
    blk_ext [idx t]
  refine (pay_at _ _ _ p q ?_).trans ((ref_at _ _ _ ⟨t.val * 512 + p.val, by omega⟩ q).symm.trans (congrArg (REF' (m ((c : Thread nD τ).loc main_arg0)) _ _) e.symm))
  exact Linear.block (ob := ![0, 0]) (V_w m c) (V_b m c) (fun k => x_at m c t p k _ rfl) (offs t) (fun k a => congrArg (_ + ·) (Nat.one_mul _)) (idx t).2.1 rfl
    (fun a => congrArg (_ + 1 * ·) (show (ix2 (0 : Fin 1) q a : ℕ) = ![0, 0] a + 1 * (ix2 (0 : Fin 1) q a : ℕ) by fin_cases a <;> exact ((Nat.zero_add _).trans (Nat.one_mul _)).symm)) (Nat.zero_add _).symm

end Cert.Kernel13Ideal.Value

namespace Cert.Proof
open Idealize.ShloMosaic Idealize.SL.Sem

/-- The kernel's and the reference's copy of the input and gates are the same arrays. -/
theorem algebraic_xcast : algebraic_Kernel13Ideal_Reference13Ideal := by
  intro m ρ m' ρ' _ hagree
  refine ⟨_, _, Cert.Kernel13Ideal.Value.run_blocks (F := Ideal) m ρ, ?_⟩
  refine (θ_run Cert.Reference13Ideal.defs _ _).mono (fun _ h c => ⟨?_, ?_, (h c).2.2⟩) (Cert.Reference13Ideal.Value.run (F := Ideal) m' ρ')
  all_goals obtain ⟨e0, e1, e2⟩ := hagree c
  · rw [(h c).1, e0]
    exact (Cert.Kernel13Ideal.Value.final m c).symm
  · rw [(h c).2.1, e0, e1, e2]
    exact (Cert.Kernel13Ideal.Value.final' m c).symm

end Cert.Proof
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Recur
public import proofs.«01_k».proof.Proof.Out
public import proofs.«01_k».proof.Proof.Merge
public import proofs.«01_k».proof.Proof.Gates
public import proofs.«01_k».proof.Proof.Qkv
public import proofs.«01_k».proof.Proof.Mgate
public import proofs.«01_k».proof.Proof.Convp
public import proofs.«01_k».proof.Proof.Convg
public import proofs.«01_k».proof.Proof.Xqz
public import proofs.«01_k».proof.Proof.Memkv
public import proofs.«01_k».proof.Proof.Xattn
public import proofs.«01_k».proof.Proof.Conv
public import proofs.«01_k».proof.Proof.Xcast
public import Idealize.ShloMosaic.Adequacy
public import Idealize.ShloMosaic.Init
public import Idealize.ShloMosaic.Lib.Quiescent

@[expose] public section

noncomputable section

namespace Cert.Proof

open Idealize.ShloMosaic Idealize.SL.Sem

/-- The mLSTM's reference runs, ends with its arguments unchanged and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of `out` runs, ends with its arguments unchanged and every counter at zero. -/
theorem quiescent_out : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of `merge` runs, ends with its arguments unchanged and every counter at zero. -/
theorem quiescent_merge : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of `gates` runs, ends with its arguments unchanged and every counter at zero. -/
theorem quiescent_gates : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The reference of `qkv` runs, ends with its arguments unchanged and every counter at zero. -/
theorem quiescent_qkv : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of `mgate` runs, ends with its arguments unchanged and every counter at zero. -/
theorem quiescent_mgate : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of `convp` runs, ends with its arguments unchanged and every counter at zero. -/
theorem quiescent_convp : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of `convg` runs, ends with its arguments unchanged and every counter at zero. -/
theorem quiescent_convg : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of `xqz` runs, ends with its arguments unchanged and every counter at zero. -/
theorem quiescent_xqz : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The reference of `memkv` runs, ends with its arguments unchanged and every counter at zero. -/
theorem quiescent_memkv : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference of `xattn` runs, ends with its arguments unchanged and every counter at zero. -/
theorem quiescent_xattn : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of `conv` runs, ends with its arguments unchanged and every counter at zero. -/
theorem quiescent_conv : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of `xcast` runs, ends with its arguments unchanged and every counter at zero. -/
theorem quiescent_xcast : quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- All the claims, in the order of `Cert.Claim`. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  quiet_out, quiet_out_ideal, quiescent_out,
  fun m ρ _ => Cert.Kernel3.Gen.frame m ρ, fun m ρ _ => Cert.Kernel3Ideal.Gen.frame m ρ, quiescent_merge,
  quiet_gates, quiet_gates_ideal, quiescent_gates,
  fun m ρ _ => Cert.Kernel5.Gen.frame m ρ, fun m ρ _ => Cert.Kernel5Ideal.Gen.frame m ρ, quiescent_qkv,
  fun m ρ _ => Cert.Kernel6.Gen.frame m ρ, fun m ρ _ => Cert.Kernel6Ideal.Gen.frame m ρ, quiescent_mgate,
  fun m ρ _ => Cert.Kernel7.Gen.frame m ρ, fun m ρ _ => Cert.Kernel7Ideal.Gen.frame m ρ, quiescent_convp,
  fun m ρ _ => Cert.Kernel8.Gen.frame m ρ, fun m ρ _ => Cert.Kernel8Ideal.Gen.frame m ρ, quiescent_convg,
  fun m ρ _ => Cert.Kernel9.Gen.frame m ρ, fun m ρ _ => Cert.Kernel9Ideal.Gen.frame m ρ, quiescent_xqz,
  fun m ρ _ => Cert.Kernel10.Gen.frame m ρ, fun m ρ _ => Cert.Kernel10Ideal.Gen.frame m ρ, quiescent_memkv,
  fun m ρ _ => Cert.Kernel11.Gen.frame m ρ, fun m ρ _ => Cert.Kernel11Ideal.Gen.frame m ρ, quiescent_xattn,
  fun m ρ _ => Cert.Kernel12.Gen.frame m ρ, fun m ρ _ => Cert.Kernel12Ideal.Gen.frame m ρ, quiescent_conv,
  fun m ρ _ => Cert.Kernel13.Gen.frame m ρ, fun m ρ _ => Cert.Kernel13Ideal.Gen.frame m ρ, quiescent_xcast,
  (trivial : preserves_Kernel_KernelIdeal), algebraic,
  (trivial : preserves_Kernel2_Kernel2Ideal), algebraic_out,
  (trivial : preserves_Kernel3_Kernel3Ideal), algebraic_merge,
  (trivial : preserves_Kernel4_Kernel4Ideal), algebraic_gates,
  (trivial : preserves_Kernel5_Kernel5Ideal), algebraic_qkv,
  (trivial : preserves_Kernel6_Kernel6Ideal), algebraic_mgate,
  (trivial : preserves_Kernel7_Kernel7Ideal), algebraic_convp,
  (trivial : preserves_Kernel8_Kernel8Ideal), algebraic_convg,
  (trivial : preserves_Kernel9_Kernel9Ideal), algebraic_xqz,
  (trivial : preserves_Kernel10_Kernel10Ideal), algebraic_memkv,
  (trivial : preserves_Kernel11_Kernel11Ideal), algebraic_xattn,
  (trivial : preserves_Kernel12_Kernel12Ideal), algebraic_conv,
  (trivial : preserves_Kernel13_Kernel13Ideal), algebraic_xcast⟩

end Cert.Proof

end
